-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v36_0)) (v1 : (c : Dev Cert.Kernel5Ideal.nD) → Buf (Elt Ideal) ((c.tc : Thread Cert.Kernel5Ideal.nD Cert.Kernel5Ideal.τ).loc Cert.Kernel5Ideal.main_v36_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v36_0) = v0 c
          ∧ r.2.mem ((c.tc : Thread Cert.Kernel5Ideal.nD Cert.Kernel5Ideal.τ).loc Cert.Kernel5Ideal.main_v36_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v141) = v0 c
          ∧ r.2.mem ((c.tc : Thread Cert.Reference5Ideal.nD Cert.Reference5Ideal.τ).loc Cert.Reference5Ideal.main_v142) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_scores.lean ====
abbrev S16384x6656 : Shape := ⟨2, ![16384, 6656]⟩
abbrev S1024x6656 : Shape := ⟨2, ![1024, 6656]⟩
abbrev S16384x768 : Shape := ⟨2, ![16384, 768]⟩
abbrev S_ : Shape := ⟨0, ![]⟩
abbrev S1024x256 : Shape := ⟨2, ![1024, 256]⟩

class Facts : Prop where
  slices_S16384x6656_S16384x768_0_1536 : S16384x6656.Slices ![0, 1536] S16384x768
  bitsLt_bf16_f32 : FTy.bits .bf16 < FTy.bits .f32
  bcast_S_S16384x768 : S_.BroadcastsInDim S16384x768 (![] : Fin 0 → Fin S16384x768.rank)
  reducesTo_S16384x768_S_d0_1 : S16384x768.ReducesTo [0, 1] S_
  h_S_ : 0 < S_.numel
  slices_S1024x6656_S1024x256_0_2048 : S1024x6656.Slices ![0, 2048] S1024x256
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S16384x6656 .bf16) (main_arg1 : FVec F S1024x6656 .bf16) : IVec S_ 1 :=
  let main_v0 : FVec F S16384x768 .bf16 := (extractStridedSlice S16384x768 ![0, 1536] · slices_S16384x6656_S16384x768_0_1536) main_arg0
  let main_v1 : FVec F S16384x768 .f32 := (extf .f32 · bitsLt_bf16_f32) main_v0
  let main_v2 : FVec F S16384x768 .f32 := Host.absf main_v1
  let main_cst : FVec F S_ .f32 := constant S_ .f32 0x7F800000#32
  let main_v3 : FVec F S16384x768 .f32 := broadcastInDim S16384x768 ![] bcast_S_S16384x768 main_cst
  let main_v4 : IVec S16384x768 1 := cmpf .olt main_v2 main_v3
  let main_c : IVec S_ 1 := constantI S_ 1 1#1
  let main_v5 : IVec S_ 1 := (fun x v => Host.reduce IntOp.andi x v reducesTo_S16384x768_S_d0_1 h_S_) main_v4 main_c
  let main_v6 : FVec F S1024x256 .bf16 := (extractStridedSlice S1024x256 ![0, 2048] · slices_S1024x6656_S1024x256_0_2048) main_arg1
  let main_v7 : FVec F S1024x256 .f32 := (extf .f32 · bitsLt_bf16_f32) main_v6
  let main_v8 : FVec F S1024x256 .f32 := Host.absf main_v7
  let main_cst_0 : FVec F S_ .f32 := constant S_ .f32 0x7F800000#32
  let main_v9 : FVec F S1024x256 .f32 := broadcastInDim S1024x256 ![] bcast_S_S1024x256 main_cst_0
  let main_v10 : IVec S1024x256 1 := cmpf .olt main_v8 main_v9
  let main_c_1 : IVec S_ 1 := constantI S_ 1 1#1
  let main_v11 : IVec S_ 1 := (fun x v => Host.reduce IntOp.andi x v reducesTo_S1024x256_S_d0_1 h_S_) main_v10 main_c_1
  let main_v12 : IVec S_ 1 := andi main_v5 main_v11
  main_v12
-- ==== Kernel.lean ====
abbrev S16384x6656 : Shape := ⟨2, ![16384, 6656]⟩
abbrev S1024x6656 : Shape := ⟨2, ![1024, 6656]⟩
abbrev S16384x512 : Shape := ⟨2, ![16384, 512]⟩
abbrev S512x256 : Shape := ⟨2, ![512, 256]⟩
abbrev S4096x128 : Shape := ⟨2, ![4096, 128]⟩
abbrev S256x128 : Shape := ⟨2, ![256, 128]⟩
abbrev S512x128 : Shape := ⟨2, ![512, 128]⟩
abbrev S1024x128 : Shape := ⟨2, ![1024, 128]⟩
abbrev S1024x256 : Shape := ⟨2, ![1024, 256]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 3
  | .vmem => 12
  | .smem => 0
  | _ => 0

abbrev bufTy : (tb : Table) → Fin (tcTables nBuf tb) → BufTy
  | .hbm, ⟨0, _⟩ => ⟨S16384x6656, .bf16⟩
  | .hbm, ⟨1, _⟩ => ⟨S1024x6656, .bf16⟩
  | .hbm, ⟨2, _⟩ => ⟨S16384x512, .bf16⟩
  | .local _ .vmem, ⟨0, _⟩ => ⟨S512x256, .bf16⟩
  | .local _ .vmem, ⟨1, _⟩ => ⟨S512x256, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S512x256, .bf16⟩
  | .local _ .vmem, ⟨11, _⟩ => ⟨S512x256, .bf16⟩
  | _, _ => ⟨S16384x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16384x6656 : Shape := ⟨2, ![16384, 6656]⟩
abbrev S1024x6656 : Shape := ⟨2, ![1024, 6656]⟩
abbrev S4x4096x6656 : Shape := ⟨3, ![4, 4096, 6656]⟩
abbrev S4x256x6656 : Shape := ⟨3, ![4, 256, 6656]⟩
abbrev S4x4096x512 : Shape := ⟨3, ![4, 4096, 512]⟩
abbrev S4x4096x4x128 : Shape := ⟨4, ![4, 4096, 4, 128]⟩
abbrev S4x4x4096x128 : Shape := ⟨4, ![4, 4, 4096, 128]⟩
abbrev S4x4096x256 : Shape := ⟨3, ![4, 4096, 256]⟩
abbrev S4x4096x2x128 : Shape := ⟨4, ![4, 4096, 2, 128]⟩
abbrev S4x2x4096x128 : Shape := ⟨4, ![4, 2, 4096, 128]⟩
abbrev S4x256x256 : Shape := ⟨3, ![4, 256, 256]⟩
abbrev S4x256x2x128 : Shape := ⟨4, ![4, 256, 2, 128]⟩
abbrev S4x2x256x128 : Shape := ⟨4, ![4, 2, 256, 128]⟩
abbrev S4x2x4352x128 : Shape := ⟨4, ![4, 2, 4352, 128]⟩
abbrev S4x2x2x4096x128 : Shape := ⟨5, ![4, 2, 2, 4096, 128]⟩
abbrev S4x2x2x4096x4352 : Shape := ⟨5, ![4, 2, 2, 4096, 4352]⟩
abbrev S_ : Shape := ⟨0, ![]⟩
abbrev S4x2x2x4096 : Shape := ⟨4, ![4, 2, 2, 4096]⟩
abbrev S4x2x2x4096x1 : Shape := ⟨5, ![4, 2, 2, 4096, 1]⟩
abbrev S16384x512 : Shape := ⟨2, ![16384, 512]⟩

abbrev nBuf : Space → Nat
  | .hbm => 45
  | .vmem => 0
  | .smem => 0
  | _ => 0

abbrev bufTy : (tb : Table) → Fin (tcTables nBuf tb) → BufTy
  | .hbm, ⟨0, _⟩ => ⟨S16384x6656, .bf16⟩
  | .hbm, ⟨1, _⟩ => ⟨S1024x6656, .bf16⟩
  | .hbm, ⟨2, _⟩ => ⟨S16384x6656, .f32⟩
  | .hbm, ⟨3, _⟩ => ⟨S4x4096x6656, .f32⟩
  | .hbm, ⟨4, _⟩ => ⟨S1024x6656, .f32⟩
  | .hbm, ⟨5, _⟩ => ⟨S4x256x6656, .f32⟩
  | .hbm, ⟨6, _⟩ => ⟨S4x4096x512, .f32⟩
  | .hbm, ⟨7, _⟩ => ⟨S4x4096x4x128, .f32⟩
  | .hbm, ⟨8, _⟩ => ⟨S4x4x4096x128, .f32⟩
  | .hbm, ⟨9, _⟩ => ⟨S4x4096x256, .f32⟩
  | .hbm, ⟨10, _⟩ => ⟨S4x4096x2x128, .f32⟩
  | .hbm, ⟨11, _⟩ => ⟨S4x2x4096x128, .f32⟩
  | .hbm, ⟨12, _⟩ => ⟨S4x4096x256, .f32⟩
  | .hbm, ⟨13, _⟩ => ⟨S4x4096x2x128, .f32⟩
  | .hbm, ⟨14, _⟩ => ⟨S4x2x4096x128, .f32⟩
  | .hbm, ⟨15, _⟩ => ⟨S4x256x256, .f32⟩
  | .hbm, ⟨16, _⟩ => ⟨S4x256x2x128, .f32⟩
  | .hbm, ⟨17, _⟩ => ⟨S4x2x256x128, .f32⟩
  | .hbm, ⟨18, _⟩ => ⟨S4x256x256, .f32⟩
  | .hbm, ⟨19, _⟩ => ⟨S4x256x2x128, .f32⟩
  | .hbm, ⟨20, _⟩ => ⟨S4x2x256x128, .f32⟩
  | .hbm, ⟨21, _⟩ => ⟨S4x2x4352x128, .f32⟩
  | .hbm, ⟨22, _⟩ => ⟨S4x2x4352x128, .f32⟩
  | .hbm, ⟨23, _⟩ => ⟨S4x2x2x4096x128, .f32⟩
  | .hbm, ⟨24, _⟩ => ⟨S4x2x2x4096x4352, .f32⟩
  | .hbm, ⟨25, _⟩ => ⟨S_, .f32⟩
  | .hbm, ⟨26, _⟩ => ⟨S4x2x2x4096, .f32⟩
  | .hbm, ⟨27, _⟩ => ⟨S_, .f32⟩
  | .hbm, ⟨28, _⟩ => ⟨S4x2x2x4096, .f32⟩
  | .hbm, ⟨29, _⟩ => ⟨S4x2x2x4096, .f32⟩
  | .hbm, ⟨30, _⟩ => ⟨S4x2x2x4096x1, .f32⟩
  | .hbm, ⟨31, _⟩ => ⟨S4x2x2x4096x4352, .f32⟩
  | .hbm, ⟨32, _⟩ => ⟨S4x2x2x4096x4352, .f32⟩
  | .hbm, ⟨33, _⟩ => ⟨S4x2x2x4096x4352, .f32⟩
  | .hbm, ⟨34, _⟩ => ⟨S_, .f32⟩
  | .hbm, ⟨35, _⟩ => ⟨S4x2x2x4096, .f32⟩
  | .hbm, ⟨36, _⟩ => ⟨S4x2x2x4096x1, .f32⟩
  | .hbm, ⟨37, _⟩ => ⟨S4x2x2x4096x4352, .f32⟩
  | .hbm, ⟨38, _⟩ => ⟨S4x2x2x4096x4352, .f32⟩
  | .hbm, ⟨39, _⟩ => ⟨S4x2x2x4096x128, .f32⟩
  | .hbm, ⟨40, _⟩ => ⟨S4x4x4096x128, .f32⟩
  | .hbm, ⟨41, _⟩ => ⟨S4x4096x4x128, .f32⟩
  | .hbm, ⟨42, _⟩ => ⟨S4x4096x512, .f32⟩
  | .hbm, ⟨43, _⟩ => ⟨S16384x512, .f32⟩
  | .hbm, ⟨44, _⟩ => ⟨S16384x512, .bf16⟩
  | _, _ => ⟨S16384x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_cst : Ref sig .tc := ⟨.hbm, 25, rfl⟩
abbrev main_v23 : Ref sig .tc := ⟨.hbm, 26, rfl⟩
abbrev main_cst_0 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_1 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩

abbrev nD : Nat := 1
abbrev τ : Topo := Topo.v7x

variable {F : FTy → Type} [FloatOps F]
-- ==== Kernel2.lean ====
abbrev S16384x2048 : Shape := ⟨2, ![16384, 2048]⟩
abbrev S72x1x2048 : Shape := ⟨3, ![72, 1, 2048]⟩
abbrev S1x2048 : Shape := ⟨2, ![1, 2048]⟩
abbrev S2048x5632 : Shape := ⟨2, ![2048, 5632]⟩
abbrev S5632x2048 : Shape := ⟨2, ![5632, 2048]⟩
abbrev S1024x2048 : Shape := ⟨2, ![1024, 2048]⟩
abbrev S1x1x2048 : Shape := ⟨3, ![1, 1, 2048]⟩
abbrev S2048x512 : Shape := ⟨2, ![2048, 512]⟩
abbrev S512x2048 : Shape := ⟨2, ![512, 2048]⟩
abbrev S32x2048 : Shape := ⟨2, ![32, 2048]⟩
abbrev S32 : Shape := ⟨1, ![32]⟩
abbrev S32x1 : Shape := ⟨2, ![32, 1]⟩
abbrev S2048x256 : Shape := ⟨2, ![2048, 256]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 8
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S72x1x2048, .f32⟩
  | .hbm, ⟨2, _⟩ => ⟨S1x2048, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S1x2048, .f32⟩
  | .hbm, ⟨7, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S1024x2048, .f32⟩
  | .local _ .vmem, ⟨17, _⟩ => ⟨S1024x2048, .f32⟩
  | .local _ .vmem, ⟨18, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_49 : BitVec 32 := 0#32
  let c32_i32 : BitVec 32 := 32#32
  let v55 : BitVec 32 := Scalar.addi c0_i32_49 c32_i32
  let c1_i32 : BitVec 32 := 1#32
  ⟨c0_i32_49, v55, c1_i32⟩
def k0_mult1 (k0_t1 : Fin k0_t1_loop.trips) : BitVec 32 :=
  let c0_i32_49 : BitVec 32 := 0#32
  let c1_i32 : BitVec 32 := 1#32
  let arg13 : BitVec 32 := Scf.iv c0_i32_49 c1_i32 k0_t1
  let c32_i32_51 : BitVec 32 := 32#32
  let v56 : BitVec 32 := Scalar.muli arg13 c32_i32_51
  v56
def k0_off1 (k0_t1 : Fin k0_t1_loop.trips) : Fin 2 → Nat :=
  let c0_i32_49 : BitVec 32 := 0#32
  let c1_i32 : BitVec 32 := 1#32
  let arg13 : BitVec 32 := Scf.iv c0_i32_49 c1_i32 k0_t1
  let c32_i32_51 : BitVec 32 := 32#32
  let v56 : BitVec 32 := Scalar.muli arg13 c32_i32_51
  let v57 : BitVec 32 := v56
  let v58 : Index := Scalar.indexCast v57
  let c0_52 : Index := 0#32
  ![v58.toNat, 0]
def k0_cond2 (i : grid0.Coords) : BitVec 1 :=
  let arg1 : BitVec 32 := BitVec.ofNat 32 (i 1).val
  let c10_i32 : BitVec 32 := 10#32
  let v44 : BitVec 1 := Scalar.cmpi .eq arg1 c10_i32
  let v45 : BitVec 32 := Scalar.extui v44
  let c0_i32_39 : BitVec 32 := 0#32
  let v46 : BitVec 1 := Scalar.cmpi .ne v45 c0_i32_39
  v46

@[reducible] def k0_t2_loop : Scf.Loop 32 :=
  let c0_i32_44 : BitVec 32 := 0#32
  let c8_i32 : BitVec 32 := 8#32
  let v51 : BitVec 32 := Scalar.addi c0_i32_44 c8_i32
  let c1_i32 : BitVec 32 := 1#32
  ⟨c0_i32_44, v51, c1_i32⟩
def k0_mult2 (k0_t2 : Fin k0_t2_loop.trips) : BitVec 32 :=
  let c0_i32_44 : BitVec 32 := 0#32
  let c1_i32 : BitVec 32 := 1#32
  let arg13 : BitVec 32 := Scf.iv c0_i32_44 c1_i32 k0_t2
  let c128_i32 : BitVec 32 := 128#32
  let v52 : BitVec 32 := Scalar.muli arg13 c128_i32
  let c0_i32_46 : BitVec 32 := 0#32
  let v53 : BitVec 32 := Scalar.addi v52 c0_i32_46
  v53
def k0_mult3 (k0_t2 : Fin k0_t2_loop.trips) : BitVec 32 :=
  let c0_i32_44 : BitVec 32 := 0#32
  let c1_i32 : BitVec 32 := 1#32
  let arg13 : BitVec 32 := Scf.iv c0_i32_44 c1_i32 k0_t2
  let c128_i32_47 : BitVec 32 := 128#32
  let v55 : BitVec 32 := Scalar.muli arg13 c128_i32_47
  let c32_i32 : BitVec 32 := 32#32
  let v56 : BitVec 32 := Scalar.addi v55 c32_i32
  v56
def k0_mult4 (k0_t2 : Fin k0_t2_loop.trips) : BitVec 32 :=
  let c0_i32_44 : BitVec 32 := 0#32
  let c1_i32 : BitVec 32 := 1#32
  let arg13 : BitVec 32 := Scf.iv c0_i32_44 c1_i32 k0_t2
  let c128_i32_48 : BitVec 32 := 128#32
  let v58 : BitVec 32 := Scalar.muli arg13 c128_i32_48
  let c64_i32 : BitVec 32 := 64#32
  let v59 : BitVec 32 := Scalar.addi v58 c64_i32
  v59
def k0_mult5 (k0_t2 : Fin k0_t2_loop.trips) : BitVec 32 :=
  let c0_i32_44 : BitVec 32 := 0#32
  let c1_i32 : BitVec 32 := 1#32
  let arg13 : BitVec 32 := Scf.iv c0_i32_44 c1_i32 k0_t2
  let c128_i32_49 : BitVec 32 := 128#32
  let v61 : BitVec 32 := Scalar.muli arg13 c128_i32_49
  let c96_i32 : BitVec 32 := 96#32
  let v62 : BitVec 32 := Scalar.addi v61 c96_i32
  v62
def k0_off2 (k0_t2 : Fin k0_t2_loop.trips) (c0_i32_46 : BitVec 32) : Fin 2 → Nat :=
  let c0_i32_44 : BitVec 32 := 0#32
  let c1_i32 : BitVec 32 := 1#32
  let arg13 : BitVec 32 := Scf.iv c0_i32_44 c1_i32 k0_t2
  let c128_i32 : BitVec 32 := 128#32
  let v52 : BitVec 32 := Scalar.muli arg13 c128_i32
  let v53 : BitVec 32 := Scalar.addi v52 c0_i32_46
  let v54 : BitVec 32 := v53
  let v64 : Index := Scalar.indexCast v54
  let c0_50 : Index := 0#32
  ![v64.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c6_i32 : BitVec 32 := 6#32
  let v18 : BitVec 32 := Scalar.addi v17 c6_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c7_i32 : BitVec 32 := 7#32
  let v18 : BitVec 32 := Scalar.addi v17 c7_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c8_i32 : BitVec 32 := 8#32
  let v18 : BitVec 32 := Scalar.addi v17 c8_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S16384x2048 : Shape := ⟨2, ![16384, 2048]⟩
abbrev S72x1x2048 : Shape := ⟨3, ![72, 1, 2048]⟩
abbrev S1x2048 : Shape := ⟨2, ![1, 2048]⟩
abbrev S2048x5632 : Shape := ⟨2, ![2048, 5632]⟩
abbrev S5632x2048 : Shape := ⟨2, ![5632, 2048]⟩
abbrev S4x4096x2048 : Shape := ⟨3, ![4, 4096, 2048]⟩
abbrev S2048 : Shape := ⟨1, ![2048]⟩
abbrev S8x9x2048 : Shape := ⟨3, ![8, 9, 2048]⟩
abbrev S4x9x2048 : Shape := ⟨3, ![4, 9, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x5632 : Shape := ⟨3, ![4, 4096, 5632]⟩

abbrev nBuf : Space → Nat
  | .hbm => 77
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S72x1x2048, .f32⟩
  | .hbm, ⟨2, _⟩ => ⟨S1x2048, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S1x2048, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S4x4096x2048, .f32⟩
  | .hbm, ⟨11, _⟩ => ⟨S2048, .f32⟩
  | .hbm, ⟨12, _⟩ => ⟨S8x9x2048, .f32⟩
  | .hbm, ⟨13, _⟩ => ⟨S4x9x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x4096x2048, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x2048, .f32⟩
  | .hbm, ⟨29, _⟩ => ⟨S4x4096x2048, .f32⟩
  | .hbm, ⟨30, _⟩ => ⟨S1x1x2048, .f32⟩
  | .hbm, ⟨31, _⟩ => ⟨S4x4096x2048, .f32⟩
  | .hbm, ⟨32, _⟩ => ⟨S4x4096x2048, .f32⟩
  | .hbm, ⟨33, _⟩ => ⟨S_, .f32⟩
  | .hbm, ⟨34, _⟩ => ⟨S4x1x2048, .f32⟩
  | .hbm, ⟨35, _⟩ => ⟨S4x1x2048, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S_, .f32⟩
  | .hbm, ⟨41, _⟩ => ⟨S4x1x2048, .f32⟩
  | .hbm, ⟨42, _⟩ => ⟨S4x1x2048, .f32⟩
  | .hbm, ⟨43, _⟩ => ⟨S4x4096x5632, .f32⟩
  | .hbm, ⟨44, _⟩ => ⟨S4x4096x5632, .f32⟩
  | .hbm, ⟨45, _⟩ => ⟨S4x4096x5632, .f32⟩
  | .hbm, ⟨46, _⟩ => ⟨S_, .f32⟩
  | .hbm, ⟨47, _⟩ => ⟨S4x4096x5632, .f32⟩
  | .hbm, ⟨48, _⟩ => ⟨S4x4096x5632, .f32⟩
  | .hbm, ⟨49, _⟩ => ⟨S_, .f32⟩
  | .hbm, ⟨50, _⟩ => ⟨S4x4096x5632, .f32⟩
  | .hbm, ⟨51, _⟩ => ⟨S4x4096x5632, .f32⟩
  | .hbm, ⟨52, _⟩ => ⟨S4x4096x5632, .f32⟩
  | .hbm, ⟨53, _⟩ => ⟨S4x4096x5632, .f32⟩
  | .hbm, ⟨54, _⟩ => ⟨S4x4096x5632, .f32⟩
  | .hbm, ⟨55, _⟩ => ⟨S4x4096x2048, .f32⟩
  | .hbm, ⟨56, _⟩ => ⟨S4x4096x2048, .f32⟩
  | .hbm, ⟨57, _⟩ => ⟨S4x4096x2048, .f32⟩
  | .hbm, ⟨58, _⟩ => ⟨S4x4096x2048, .f32⟩
  | .hbm, ⟨59, _⟩ => ⟨S2048, .f32⟩
  | .hbm, ⟨60, _⟩ => ⟨S4x4096x2048, .f32⟩
  | .hbm, ⟨61, _⟩ => ⟨S_, .f32⟩
  | .hbm, ⟨62, _⟩ => ⟨S4x4096, .f32⟩
  | .hbm, ⟨63, _⟩ => ⟨S4x4096x1, .f32⟩
  | .hbm, ⟨64, _⟩ => ⟨S_, .f32⟩
  | .hbm, ⟨65, _⟩ => ⟨S4x4096x1, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S4x4096x1, .f32⟩
  | .hbm, ⟨71, _⟩ => ⟨S4x4096x2048, .f32⟩
  | .hbm, ⟨72, _⟩ => ⟨S4x4096x2048, .f32⟩
  | .hbm, ⟨73, _⟩ => ⟨S1x1x2048, .f32⟩
  | .hbm, ⟨74, _⟩ => ⟨S4x4096x2048, .f32⟩
  | .hbm, ⟨75, _⟩ => ⟨S4x4096x2048, .f32⟩
  | .hbm, ⟨76, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]
-- ==== Kernel3.lean ====
abbrev S16384x2048 : Shape := ⟨2, ![16384, 2048]⟩
abbrev S72x1x2048 : Shape := ⟨3, ![72, 1, 2048]⟩
abbrev S1x2048 : Shape := ⟨2, ![1, 2048]⟩
abbrev S2048x5632 : Shape := ⟨2, ![2048, 5632]⟩
abbrev S5632x2048 : Shape := ⟨2, ![5632, 2048]⟩
abbrev S1024x2048 : Shape := ⟨2, ![1024, 2048]⟩
abbrev S1x1x2048 : Shape := ⟨3, ![1, 1, 2048]⟩
abbrev S2048x512 : Shape := ⟨2, ![2048, 512]⟩
abbrev S512x2048 : Shape := ⟨2, ![512, 2048]⟩
abbrev S32x2048 : Shape := ⟨2, ![32, 2048]⟩
abbrev S32 : Shape := ⟨1, ![32]⟩
abbrev S32x1 : Shape := ⟨2, ![32, 1]⟩
abbrev S2048x256 : Shape := ⟨2, ![2048, 256]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 8
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S72x1x2048, .f32⟩
  | .hbm, ⟨2, _⟩ => ⟨S1x2048, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S1x2048, .f32⟩
  | .hbm, ⟨7, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S1024x2048, .f32⟩
  | .local _ .vmem, ⟨17, _⟩ => ⟨S1024x2048, .f32⟩
  | .local _ .vmem, ⟨18, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_49 : BitVec 32 := 0#32
  let c32_i32 : BitVec 32 := 32#32
  let v55 : BitVec 32 := Scalar.addi c0_i32_49 c32_i32
  let c1_i32 : BitVec 32 := 1#32
  ⟨c0_i32_49, v55, c1_i32⟩
def k0_mult1 (k0_t1 : Fin k0_t1_loop.trips) : BitVec 32 :=
  let c0_i32_49 : BitVec 32 := 0#32
  let c1_i32 : BitVec 32 := 1#32
  let arg13 : BitVec 32 := Scf.iv c0_i32_49 c1_i32 k0_t1
  let c32_i32_51 : BitVec 32 := 32#32
  let v56 : BitVec 32 := Scalar.muli arg13 c32_i32_51
  v56
def k0_off1 (k0_t1 : Fin k0_t1_loop.trips) : Fin 2 → Nat :=
  let c0_i32_49 : BitVec 32 := 0#32
  let c1_i32 : BitVec 32 := 1#32
  let arg13 : BitVec 32 := Scf.iv c0_i32_49 c1_i32 k0_t1
  let c32_i32_51 : BitVec 32 := 32#32
  let v56 : BitVec 32 := Scalar.muli arg13 c32_i32_51
  let v57 : BitVec 32 := v56
  let v58 : Index := Scalar.indexCast v57
  let c0_52 : Index := 0#32
  ![v58.toNat, 0]
def k0_cond2 (i : grid0.Coords) : BitVec 1 :=
  let arg1 : BitVec 32 := BitVec.ofNat 32 (i 1).val
  let c10_i32 : BitVec 32 := 10#32
  let v44 : BitVec 1 := Scalar.cmpi .eq arg1 c10_i32
  let v45 : BitVec 32 := Scalar.extui v44
  let c0_i32_39 : BitVec 32 := 0#32
  let v46 : BitVec 1 := Scalar.cmpi .ne v45 c0_i32_39
  v46

@[reducible] def k0_t2_loop : Scf.Loop 32 :=
  let c0_i32_44 : BitVec 32 := 0#32
  let c32_i32 : BitVec 32 := 32#32
  let v51 : BitVec 32 := Scalar.addi c0_i32_44 c32_i32
  let c1_i32 : BitVec 32 := 1#32
  ⟨c0_i32_44, v51, c1_i32⟩
def k0_mult2 (k0_t2 : Fin k0_t2_loop.trips) : BitVec 32 :=
  let c0_i32_44 : BitVec 32 := 0#32
  let c1_i32 : BitVec 32 := 1#32
  let arg13 : BitVec 32 := Scf.iv c0_i32_44 c1_i32 k0_t2
  let c32_i32_46 : BitVec 32 := 32#32
  let v52 : BitVec 32 := Scalar.muli arg13 c32_i32_46
  let c0_i32_47 : BitVec 32 := 0#32
  let v53 : BitVec 32 := Scalar.addi v52 c0_i32_47
  v53
def k0_off2 (k0_t2 : Fin k0_t2_loop.trips) : Fin 2 → Nat :=
  let c0_i32_44 : BitVec 32 := 0#32
  let c1_i32 : BitVec 32 := 1#32
  let arg13 : BitVec 32 := Scf.iv c0_i32_44 c1_i32 k0_t2
  let c32_i32_46 : BitVec 32 := 32#32
  let v52 : BitVec 32 := Scalar.muli arg13 c32_i32_46
  let c0_i32_47 : BitVec 32 := 0#32
  let v53 : BitVec 32 := Scalar.addi v52 c0_i32_47
  let v54 : BitVec 32 := v53
  let v55 : Index := Scalar.indexCast v54
  let c0_48 : Index := 0#32
  ![v55.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c0_i32_4 : BitVec 32 := 0#32
  let v18 : BitVec 32 := Scalar.addi v17 c0_i32_4
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c1_i32_4 : BitVec 32 := 1#32
  let v18 : BitVec 32 := Scalar.addi v17 c1_i32_4
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c2_i32 : BitVec 32 := 2#32
  let v18 : BitVec 32 := Scalar.addi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference3Ideal.lean ====
abbrev S16384x2048 : Shape := ⟨2, ![16384, 2048]⟩
abbrev S72x1x2048 : Shape := ⟨3, ![72, 1, 2048]⟩
abbrev S1x2048 : Shape := ⟨2, ![1, 2048]⟩
abbrev S2048x5632 : Shape := ⟨2, ![2048, 5632]⟩
abbrev S5632x2048 : Shape := ⟨2, ![5632, 2048]⟩
abbrev S4x4096x2048 : Shape := ⟨3, ![4, 4096, 2048]⟩
abbrev S2048 : Shape := ⟨1, ![2048]⟩
abbrev S8x9x2048 : Shape := ⟨3, ![8, 9, 2048]⟩
abbrev S4x9x2048 : Shape := ⟨3, ![4, 9, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x5632 : Shape := ⟨3, ![4, 4096, 5632]⟩

abbrev nBuf : Space → Nat
  | .hbm => 60
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S72x1x2048, .f32⟩
  | .hbm, ⟨2, _⟩ => ⟨S1x2048, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S1x2048, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S4x4096x2048, .f32⟩
  | .hbm, ⟨11, _⟩ => ⟨S2048, .f32⟩
  | .hbm, ⟨12, _⟩ => ⟨S8x9x2048, .f32⟩
  | .hbm, ⟨13, _⟩ => ⟨S4x9x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x4096x2048, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x2048, .f32⟩
  | .hbm, ⟨29, _⟩ => ⟨S4x4096x2048, .f32⟩
  | .hbm, ⟨30, _⟩ => ⟨S1x1x2048, .f32⟩
  | .hbm, ⟨31, _⟩ => ⟨S4x4096x2048, .f32⟩
  | .hbm, ⟨32, _⟩ => ⟨S4x4096x2048, .f32⟩
  | .hbm, ⟨33, _⟩ => ⟨S_, .f32⟩
  | .hbm, ⟨34, _⟩ => ⟨S4x1x2048, .f32⟩
  | .hbm, ⟨35, _⟩ => ⟨S4x1x2048, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S_, .f32⟩
  | .hbm, ⟨41, _⟩ => ⟨S4x1x2048, .f32⟩
  | .hbm, ⟨42, _⟩ => ⟨S4x1x2048, .f32⟩
  | .hbm, ⟨43, _⟩ => ⟨S4x4096x5632, .f32⟩
  | .hbm, ⟨44, _⟩ => ⟨S4x4096x5632, .f32⟩
  | .hbm, ⟨45, _⟩ => ⟨S4x4096x5632, .f32⟩
  | .hbm, ⟨46, _⟩ => ⟨S_, .f32⟩
  | .hbm, ⟨47, _⟩ => ⟨S4x4096x5632, .f32⟩
  | .hbm, ⟨48, _⟩ => ⟨S4x4096x5632, .f32⟩
  | .hbm, ⟨49, _⟩ => ⟨S_, .f32⟩
  | .hbm, ⟨50, _⟩ => ⟨S4x4096x5632, .f32⟩
  | .hbm, ⟨51, _⟩ => ⟨S4x4096x5632, .f32⟩
  | .hbm, ⟨52, _⟩ => ⟨S4x4096x5632, .f32⟩
  | .hbm, ⟨53, _⟩ => ⟨S4x4096x5632, .f32⟩
  | .hbm, ⟨54, _⟩ => ⟨S4x4096x5632, .f32⟩
  | .hbm, ⟨55, _⟩ => ⟨S4x4096x2048, .f32⟩
  | .hbm, ⟨56, _⟩ => ⟨S4x4096x2048, .f32⟩
  | .hbm, ⟨57, _⟩ => ⟨S4x4096x2048, .f32⟩
  | .hbm, ⟨58, _⟩ => ⟨S4x4096x2048, .f32⟩
  | .hbm, ⟨59, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Kernel4.lean ====
abbrev S16384x2048 : Shape := ⟨2, ![16384, 2048]⟩
abbrev S72x1x2048 : Shape := ⟨3, ![72, 1, 2048]⟩
abbrev S16384x512 : Shape := ⟨2, ![16384, 512]⟩
abbrev S16384x1024 : Shape := ⟨2, ![16384, 1024]⟩
abbrev S2048x2048 : Shape := ⟨2, ![2048, 2048]⟩
abbrev S512x2048 : Shape := ⟨2, ![512, 2048]⟩
abbrev S1x1x2048 : Shape := ⟨3, ![1, 1, 2048]⟩
abbrev S512x512 : Shape := ⟨2, ![512, 512]⟩
abbrev S512x1024 : Shape := ⟨2, ![512, 1024]⟩
abbrev S1024x2048 : Shape := ⟨2, ![1024, 2048]⟩
abbrev S1x2048 : Shape := ⟨2, ![1, 2048]⟩

abbrev nBuf : Space → Nat
  | .hbm => 7
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S72x1x2048, .f32⟩
  | .hbm, ⟨2, _⟩ => ⟨S16384x512, .bf16⟩
  | .hbm, ⟨3, _⟩ => ⟨S16384x512, .bf16⟩
  | .hbm, ⟨4, _⟩ => ⟨S16384x1024, .bf16⟩
  | .hbm, ⟨5, _⟩ => ⟨S2048x2048, .bf16⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S2048x2048, .bf16⟩
  | .local _ .vmem, ⟨11, _⟩ => ⟨S512x2048, .f32⟩
  | .local _ .vmem, ⟨12, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c5_i32 : BitVec 32 := 5#32
  let v18 : BitVec 32 := Scalar.addi v17 c5_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16384x2048 : Shape := ⟨2, ![16384, 2048]⟩
abbrev S72x1x2048 : Shape := ⟨3, ![72, 1, 2048]⟩
abbrev S16384x512 : Shape := ⟨2, ![16384, 512]⟩
abbrev S16384x1024 : Shape := ⟨2, ![16384, 1024]⟩
abbrev S2048x2048 : Shape := ⟨2, ![2048, 2048]⟩
abbrev S4x4096x512 : Shape := ⟨3, ![4, 4096, 512]⟩
abbrev S4x4096x1024 : Shape := ⟨3, ![4, 4096, 1024]⟩
abbrev S4x4096x2048 : Shape := ⟨3, ![4, 4096, 2048]⟩
abbrev S8x9x2048 : Shape := ⟨3, ![8, 9, 2048]⟩
abbrev S4x1x2048 : Shape := ⟨3, ![4, 1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S72x1x2048, .f32⟩
  | .hbm, ⟨2, _⟩ => ⟨S16384x512, .bf16⟩
  | .hbm, ⟨3, _⟩ => ⟨S16384x512, .bf16⟩
  | .hbm, ⟨4, _⟩ => ⟨S16384x1024, .bf16⟩
  | .hbm, ⟨5, _⟩ => ⟨S2048x2048, .bf16⟩
  | .hbm, ⟨6, _⟩ => ⟨S16384x512, .f32⟩
  | .hbm, ⟨7, _⟩ => ⟨S4x4096x512, .f32⟩
  | .hbm, ⟨8, _⟩ => ⟨S16384x512, .f32⟩
  | .hbm, ⟨9, _⟩ => ⟨S4x4096x512, .f32⟩
  | .hbm, ⟨10, _⟩ => ⟨S16384x1024, .f32⟩
  | .hbm, ⟨11, _⟩ => ⟨S4x4096x1024, .f32⟩
  | .hbm, ⟨12, _⟩ => ⟨S4x4096x2048, .f32⟩
  | .hbm, ⟨13, _⟩ => ⟨S8x9x2048, .f32⟩
  | .hbm, ⟨14, _⟩ => ⟨S4x1x2048, .f32⟩
  | .hbm, ⟨15, _⟩ => ⟨S4x4096x2048, .f32⟩
  | .hbm, ⟨16, _⟩ => ⟨S2048x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel5.lean ====
abbrev S16384x2048 : Shape := ⟨2, ![16384, 2048]⟩
abbrev S72x1x2048 : Shape := ⟨3, ![72, 1, 2048]⟩
abbrev S1x2048 : Shape := ⟨2, ![1, 2048]⟩
abbrev S6656x2048 : Shape := ⟨2, ![6656, 2048]⟩
abbrev S32x2048 : Shape := ⟨2, ![32, 2048]⟩
abbrev S1x128 : Shape := ⟨2, ![1, 128]⟩
abbrev S4096 : Shape := ⟨1, ![4096]⟩
abbrev S_ : Shape := ⟨0, ![]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S128 : Shape := ⟨1, ![128]⟩
abbrev S16384x6656 : Shape := ⟨2, ![16384, 6656]⟩
abbrev S32x16384 : Shape := ⟨2, ![32, 16384]⟩
abbrev S512x2048 : Shape := ⟨2, ![512, 2048]⟩
abbrev S1x1x2048 : Shape := ⟨3, ![1, 1, 2048]⟩
abbrev S3328x2048 : Shape := ⟨2, ![3328, 2048]⟩
abbrev S512x128 : Shape := ⟨2, ![512, 128]⟩
abbrev S512x3328 : Shape := ⟨2, ![512, 3328]⟩
abbrev S32x512 : Shape := ⟨2, ![32, 512]⟩
abbrev S512 : Shape := ⟨1, ![512]⟩
abbrev S512x1 : Shape := ⟨2, ![512, 1]⟩
abbrev S512x1536 : Shape := ⟨2, ![512, 1536]⟩
abbrev S512x1024 : Shape := ⟨2, ![512, 1024]⟩

abbrev nBuf : Space → Nat
  | .hbm => 118
  | .vmem => 23
  | .smem => 0
  | _ => 0

abbrev bufTy : (tb : Table) → Fin (tcTables nBuf tb) → BufTy
  | .hbm, ⟨0, _⟩ => ⟨S16384x2048, .f32⟩
  | .hbm, ⟨1, _⟩ => ⟨S72x1x2048, .f32⟩
  | .hbm, ⟨2, _⟩ => ⟨S1x2048, .f32⟩
  | .hbm, ⟨3, _⟩ => ⟨S6656x2048, .bf16⟩
  | .hbm, ⟨4, _⟩ => ⟨S32x2048, .f32⟩
  | .hbm, ⟨5, _⟩ => ⟨S1x128, .f32⟩
  | .hbm, ⟨6, _⟩ => ⟨S1x128, .f32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096, .f32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S_, .i1⟩
  | .hbm, ⟨43, _⟩ => ⟨S4096, .i1⟩
  | .hbm, ⟨44, _⟩ => ⟨S4096, .i1⟩
  | .hbm, ⟨45, _⟩ => ⟨S4096, .i1⟩
  | .hbm, ⟨46, _⟩ => ⟨S4096, .i32⟩
  | .hbm, ⟨47, _⟩ => ⟨S4096, .i32⟩
  | .hbm, ⟨48, _⟩ => ⟨S4096, .i32⟩
  | .hbm, ⟨49, _⟩ => ⟨S4096, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S4096x1, .f32⟩
  | .hbm, ⟨67, _⟩ => ⟨S1x32, .f32⟩
  | .hbm, ⟨68, _⟩ => ⟨S4096x32, .f32⟩
  | .hbm, ⟨69, _⟩ => ⟨S4096x32, .f32⟩
  | .hbm, ⟨70, _⟩ => ⟨S4096x32, .f32⟩
  | .hbm, ⟨71, _⟩ => ⟨S4096x1, .f32⟩
  | .hbm, ⟨72, _⟩ => ⟨S1x32, .f32⟩
  | .hbm, ⟨73, _⟩ => ⟨S4096x32, .f32⟩
  | .hbm, ⟨74, _⟩ => ⟨S4096x32, .f32⟩
  | .hbm, ⟨75, _⟩ => ⟨S4096x32, .f32⟩
  | .hbm, ⟨76, _⟩ => ⟨S4096x128, .f32⟩
  | .hbm, ⟨77, _⟩ => ⟨S4096x128, .f32⟩
  | .hbm, ⟨78, _⟩ => ⟨S4096x128, .f32⟩
  | .hbm, ⟨79, _⟩ => ⟨S128, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i1⟩
  | .hbm, ⟨84, _⟩ => ⟨S_, .i32⟩
  | .hbm, ⟨85, _⟩ => ⟨S_, .i32⟩
  | .hbm, ⟨86, _⟩ => ⟨S128, .i32⟩
  | .hbm, ⟨87, _⟩ => ⟨S128, .i32⟩
  | .hbm, ⟨88, _⟩ => ⟨S_, .i32⟩
  | .hbm, ⟨89, _⟩ => ⟨S128, .i32⟩
  | .hbm, ⟨90, _⟩ => ⟨S128, .i1⟩
  | .hbm, ⟨91, _⟩ => ⟨S_, .i32⟩
  | .hbm, ⟨92, _⟩ => ⟨S128, .i32⟩
  | .hbm, ⟨93, _⟩ => ⟨S128, .i1⟩
  | .hbm, ⟨94, _⟩ => ⟨S_, .i32⟩
  | .hbm, ⟨95, _⟩ => ⟨S_, .i1⟩
  | .hbm, ⟨96, _⟩ => ⟨S128, .i1⟩
  | .hbm, ⟨97, _⟩ => ⟨S128, .i1⟩
  | .hbm, ⟨98, _⟩ => ⟨S128, .i1⟩
  | .hbm, ⟨99, _⟩ => ⟨S128, .i32⟩
  | .hbm, ⟨100, _⟩ => ⟨S128, .i32⟩
  | .hbm, ⟨101, _⟩ => ⟨S128, .i32⟩
  | .hbm, ⟨102, _⟩ => ⟨S_, .i32⟩
  | .hbm, ⟨103, _⟩ => ⟨S128, .i32⟩
  | .hbm, ⟨104, _⟩ => ⟨S128, .i1⟩
  | .hbm, ⟨105, _⟩ => ⟨S4096x128, .f32⟩
  | .hbm, ⟨106, _⟩ => ⟨S_, .f32⟩
  | .hbm, ⟨107, _⟩ => ⟨S_, .f32⟩
  | .hbm, ⟨108, _⟩ => ⟨S4096x128, .i1⟩
  | .hbm, ⟨109, _⟩ => ⟨S4096x128, .f32⟩
  | .hbm, ⟨110, _⟩ => ⟨S4096x128, .f32⟩
  | .hbm, ⟨111, _⟩ => ⟨S_, .f32⟩
  | .hbm, ⟨112, _⟩ => ⟨S_, .f32⟩
  | .hbm, ⟨113, _⟩ => ⟨S4096x128, .i1⟩
  | .hbm, ⟨114, _⟩ => ⟨S4096x128, .f32⟩
  | .hbm, ⟨115, _⟩ => ⟨S4096x128, .f32⟩
  | .hbm, ⟨116, _⟩ => ⟨S16384x6656, .bf16⟩
  | .hbm, ⟨117, _⟩ => ⟨S32x16384, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S3328x2048, .bf16⟩
  | .local _ .vmem, ⟨8, _⟩ => ⟨S3328x2048, .bf16⟩
  | .local _ .vmem, ⟨9, _⟩ => ⟨S32x2048, .f32⟩
  | .local _ .vmem, ⟨10, _⟩ => ⟨S1x128, .f32⟩
  | .local _ .vmem, ⟨11, _⟩ => ⟨S1x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x3328, .bf16⟩
  | .local _ .vmem, ⟨19, _⟩ => ⟨S512x3328, .bf16⟩
  | .local _ .vmem, ⟨20, _⟩ => ⟨S32x512, .f32⟩
  | .local _ .vmem, ⟨21, _⟩ => ⟨S32x512, .f32⟩
  | .local _ .vmem, ⟨22, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v3 : Ref sig .tc := ⟨.hbm, 48, rfl⟩
abbrev main_v4 : Ref sig .tc := ⟨.hbm, 49, rfl⟩
abbrev main_v5 : Ref sig .tc := ⟨.hbm, 50, rfl⟩
abbrev main_cst : Ref sig .tc := ⟨.hbm, 51, rfl⟩
abbrev main_v6 : Ref sig .tc := ⟨.hbm, 52, rfl⟩
abbrev main_v7 : Ref sig .tc := ⟨.hbm, 53, rfl⟩
abbrev main_cst_1 : Ref sig .tc := ⟨.hbm, 54, rfl⟩
abbrev main_v8 : Ref sig .tc := ⟨.hbm, 55, rfl⟩
abbrev main_v9 : Ref sig .tc := ⟨.hbm, 56, rfl⟩
abbrev main_cst_2 : Ref sig .tc := ⟨.hbm, 57, rfl⟩
abbrev main_v10 : Ref sig .tc := ⟨.hbm, 58, rfl⟩
abbrev main_v11 : Ref sig .tc := ⟨.hbm, 59, rfl⟩
abbrev main_cst_3 : Ref sig .tc := ⟨.hbm, 60, rfl⟩
abbrev main_v12 : Ref sig .tc := ⟨.hbm, 61, rfl⟩
abbrev main_v13 : Ref sig .tc := ⟨.hbm, 62, rfl⟩
abbrev main_cst_4 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_c_5 : Ref sig .tc := ⟨.hbm, 80, rfl⟩
abbrev main_call2_v0 : Ref sig .tc := ⟨.hbm, 81, rfl⟩
abbrev main_call2_c : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_c_1 : Ref sig .tc := ⟨.hbm, 88, rfl⟩
abbrev main_call2_v5 : Ref sig .tc := ⟨.hbm, 89, rfl⟩
abbrev main_call2_v6 : Ref sig .tc := ⟨.hbm, 90, rfl⟩
abbrev main_call2_c_2 : Ref sig .tc := ⟨.hbm, 91, rfl⟩
abbrev main_call2_v7 : Ref sig .tc := ⟨.hbm, 92, rfl⟩
abbrev main_call2_v8 : Ref sig .tc := ⟨.hbm, 93, rfl⟩
abbrev main_call2_c_3 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_v12 : Ref sig .tc := ⟨.hbm, 98, rfl⟩
abbrev main_call2_v13 : Ref sig .tc := ⟨.hbm, 99, rfl⟩
abbrev main_call2_v14 : Ref sig .tc := ⟨.hbm, 100, rfl⟩
abbrev main_v30 : Ref sig .tc := ⟨.hbm, 101, rfl⟩
abbrev main_c_6 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_cst_7 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_v34 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v35 : Ref sig .tc := ⟨.hbm, 115, rfl⟩
abbrev main_v36_0 : Ref sig .tc := ⟨.hbm, 116, rfl⟩
abbrev main_v36_1 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![32, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c3_i32 : BitVec 32 := 3#32
  let v18 : BitVec 32 := Scalar.addi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c4_i32 : BitVec 32 := 4#32
  let v18 : BitVec 32 := Scalar.addi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S3328x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S32x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x3328 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference5Ideal.lean ====
abbrev S16384x2048 : Shape := ⟨2, ![16384, 2048]⟩
abbrev S72x1x2048 : Shape := ⟨3, ![72, 1, 2048]⟩
abbrev S1x2048 : Shape := ⟨2, ![1, 2048]⟩
abbrev S6656x2048 : Shape := ⟨2, ![6656, 2048]⟩
abbrev S32x2048 : Shape := ⟨2, ![32, 2048]⟩
abbrev S1x128 : Shape := ⟨2, ![1, 128]⟩
abbrev S8x9x2048 : Shape := ⟨3, ![8, 9, 2048]⟩
abbrev S4x9x2048 : Shape := ⟨3, ![4, 9, 2048]⟩
abbrev S4x1x2048 : Shape := ⟨3, ![4, 1, 2048]⟩
abbrev S4x4096x2048 : Shape := ⟨3, ![4, 4096, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x6656 : Shape := ⟨2, ![2048, 6656]⟩
abbrev S4x4096x6656 : Shape := ⟨3, ![4, 4096, 6656]⟩
abbrev S4x4096x512 : Shape := ⟨3, ![4, 4096, 512]⟩
abbrev S4x4096x4x128 : Shape := ⟨4, ![4, 4096, 4, 128]⟩
abbrev S4x4x4096x128 : Shape := ⟨4, ![4, 4, 4096, 128]⟩
abbrev S4x4096x256 : Shape := ⟨3, ![4, 4096, 256]⟩
abbrev S4x4096x2x128 : Shape := ⟨4, ![4, 4096, 2, 128]⟩
abbrev S4x2x4096x128 : Shape := ⟨4, ![4, 2, 4096, 128]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S128 : Shape := ⟨1, ![128]⟩
abbrev S4x4x4096 : Shape := ⟨3, ![4, 4, 4096]⟩
abbrev S4x4x4096x1 : Shape := ⟨4, ![4, 4, 4096, 1]⟩
abbrev S1x1x1x128 : Shape := ⟨4, ![1, 1, 1, 128]⟩
abbrev S4x4x4096x64 : Shape := ⟨4, ![4, 4, 4096, 64]⟩
abbrev S4x4x4096x32 : Shape := ⟨4, ![4, 4, 4096, 32]⟩
abbrev S1x1x4096x128 : Shape := ⟨4, ![1, 1, 4096, 128]⟩
abbrev S4x2x4096 : Shape := ⟨3, ![4, 2, 4096]⟩
abbrev S4x2x4096x1 : Shape := ⟨4, ![4, 2, 4096, 1]⟩
abbrev S4x2x4096x64 : Shape := ⟨4, ![4, 2, 4096, 64]⟩
abbrev S4x2x4096x32 : Shape := ⟨4, ![4, 2, 4096, 32]⟩
abbrev S4x4096x1536 : Shape := ⟨3, ![4, 4096, 1536]⟩
abbrev S4x4096x4352 : Shape := ⟨3, ![4, 4096, 4352]⟩
abbrev S2048x32 : Shape := ⟨2, ![2048, 32]⟩
abbrev S4x4096x32 : Shape := ⟨3, ![4, 4096, 32]⟩
abbrev S16384x32 : Shape := ⟨2, ![16384, 32]⟩
abbrev S16384x6656 : Shape := ⟨2, ![16384, 6656]⟩
abbrev S32x16384 : Shape := ⟨2, ![32, 16384]⟩

abbrev nBuf : Space → Nat
  | .hbm => 204
  | .vmem => 0
  | .smem => 0
  | _ => 0

abbrev hbmTy0_0 (i : Nat) : BufTy := match i % 128 with
  | 0 => ⟨S16384x2048, .f32⟩
  | 1 => ⟨S72x1x2048, .f32⟩
  | 2 => ⟨S1x2048, .f32⟩
  | 3 => ⟨S6656x2048, .bf16⟩
  | 4 => ⟨S32x2048, .f32⟩
  | 5 => ⟨S1x128, .f32⟩
  | 6 => ⟨S1x128, .f32⟩
  | 7 => ⟨S8x9x2048, .f32⟩
  | 8 => ⟨S4x9x2048, .f32⟩
  | 9 => ⟨S4x1x2048, .f32⟩
  | 10 => ⟨S4x1x2048, .f32⟩
  | 11 => ⟨S4x1x2048, .f32⟩
  | 12 => ⟨S4x4096x2048, .f32⟩
  | 13 => ⟨S2048, .f32⟩
  | 14 => ⟨S4x4096x2048, .f32⟩
  | 15 => ⟨S_, .f32⟩
  | 16 => ⟨S4x4096, .f32⟩
  | 17 => ⟨S4x4096x1, .f32⟩
  | 18 => ⟨S_, .f32⟩
  | 19 => ⟨S4x4096x1, .f32⟩
  | 20 => ⟨S4x4096x1, .f32⟩
  | 21 => ⟨S_, .f32⟩
  | 22 => ⟨S4x4096x1, .f32⟩
  | 23 => ⟨S4x4096x1, .f32⟩
  | 24 => ⟨S4x4096x1, .f32⟩
  | 25 => ⟨S4x4096x2048, .f32⟩
  | 26 => ⟨S4x4096x2048, .f32⟩
  | 27 => ⟨S1x1x2048, .f32⟩
  | 28 => ⟨S4x4096x2048, .f32⟩
  | 29 => ⟨S4x4096x2048, .f32⟩
  | 30 => ⟨S_, .f32⟩
  | 31 => ⟨S4x1x2048, .f32⟩
  | 32 => ⟨S4x1x2048, .f32⟩
  | 33 => ⟨S4x4096x2048, .f32⟩
  | 34 => ⟨S4x4096x2048, .f32⟩
  | 35 => ⟨S4x4096x2048, .f32⟩
  | 36 => ⟨S4x4096x2048, .f32⟩
  | 37 => ⟨S6656x2048, .f32⟩
  | 38 => ⟨S2048x6656, .f32⟩
  | 39 => ⟨S4x4096x6656, .f32⟩
  | 40 => ⟨S4x4096x512, .f32⟩
  | 41 => ⟨S4x4096x4x128, .f32⟩
  | 42 => ⟨S4x4x4096x128, .f32⟩
  | 43 => ⟨S4x4096x256, .f32⟩
  | 44 => ⟨S4x4096x2x128, .f32⟩
  | 45 => ⟨S4x2x4096x128, .f32⟩
  | 46 => ⟨S4096, .i32⟩
  | 47 => ⟨S_, .i32⟩
  | 48 => ⟨S_, .i32⟩
  | 49 => ⟨S4096, .i32⟩
  | 50 => ⟨S4096, .i32⟩
  | 51 => ⟨S4096, .i32⟩
  | 52 => ⟨S_, .i32⟩
  | 53 => ⟨S4096, .i32⟩
  | 54 => ⟨S4096, .i1⟩
  | 55 => ⟨S4096, .i32⟩
  | 56 => ⟨S4096, .i32⟩
  | 57 => ⟨S_, .i32⟩
  | 58 => ⟨S4096, .i32⟩
  | 59 => ⟨S4096, .i1⟩
  | 60 => ⟨S4096, .i1⟩
  | 61 => ⟨S_, .i32⟩
  | 62 => ⟨S4096, .i32⟩
  | 63 => ⟨S4096, .i32⟩
  | 64 => ⟨S4096, .i32⟩
  | 65 => ⟨S4096, .f32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S4096, .i32⟩
  | 73 => ⟨S4096, .i32⟩
  | 74 => ⟨S_, .i32⟩
  | 75 => ⟨S4096, .i32⟩
  | 76 => ⟨S4096, .i1⟩
  | 77 => ⟨S_, .i32⟩
  | 78 => ⟨S4096, .i32⟩
  | 79 => ⟨S4096, .i1⟩
  | 80 => ⟨S_, .i32⟩
  | 81 => ⟨S_, .i1⟩
  | 82 => ⟨S4096, .i1⟩
  | 83 => ⟨S4096, .i1⟩
  | 84 => ⟨S4096, .i1⟩
  | 85 => ⟨S4096, .i32⟩
  | 86 => ⟨S4096, .i32⟩
  | 87 => ⟨S4096, .i32⟩
  | 88 => ⟨S4096, .f32⟩
  | 89 => ⟨S32, .f32⟩
  | 90 => ⟨S_, .f32⟩
  | 91 => ⟨S32, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S_, .f32⟩
  | 103 => ⟨S32, .f32⟩
  | 104 => ⟨S32, .f32⟩
  | 105 => ⟨S4096x1, .f32⟩
  | 106 => ⟨S1x32, .f32⟩
  | 107 => ⟨S4096x32, .f32⟩
  | 108 => ⟨S4096x32, .f32⟩
  | 109 => ⟨S4096x32, .f32⟩
  | 110 => ⟨S4096x1, .f32⟩
  | 111 => ⟨S1x32, .f32⟩
  | 112 => ⟨S4096x32, .f32⟩
  | 113 => ⟨S4096x32, .f32⟩
  | 114 => ⟨S4096x32, .f32⟩
  | 115 => ⟨S4096x128, .f32⟩
  | 116 => ⟨S4096x128, .f32⟩
  | 117 => ⟨S4096x128, .f32⟩
  | 118 => ⟨S128, .f32⟩
  | 119 => ⟨S4x4x4096x128, .f32⟩
  | 120 => ⟨S_, .f32⟩
  | 121 => ⟨S4x4x4096, .f32⟩
  | 122 => ⟨S4x4x4096x1, .f32⟩
  | 123 => ⟨S_, .f32⟩
  | 124 => ⟨S4x4x4096x1, .f32⟩
  | 125 => ⟨S4x4x4096x1, .f32⟩
  | 126 => ⟨S_, .f32⟩
  | 127 => ⟨S4x4x4096x1, .f32⟩
  | _ => ⟨S16384x2048, .f32⟩

abbrev hbmTy0_1 (i : Nat) : BufTy := match i % 128 with
  | 0 => ⟨S4x4x4096x1, .f32⟩
  | 1 => ⟨S4x4x4096x1, .f32⟩
  | 2 => ⟨S4x4x4096x128, .f32⟩
  | 3 => ⟨S4x4x4096x128, .f32⟩
  | 4 => ⟨S1x1x1x128, .f32⟩
  | 5 => ⟨S4x4x4096x128, .f32⟩
  | 6 => ⟨S4x4x4096x128, .f32⟩
  | 7 => ⟨S4x4x4096x64, .f32⟩
  | 8 => ⟨S4x4x4096x32, .f32⟩
  | 9 => ⟨S4x4x4096x32, .f32⟩
  | 10 => ⟨S4x4x4096x32, .f32⟩
  | 11 => ⟨S4x4x4096x64, .f32⟩
  | 12 => ⟨S4x4x4096x64, .f32⟩
  | 13 => ⟨S4x4x4096x32, .f32⟩
  | 14 => ⟨S4x4x4096x32, .f32⟩
  | 15 => ⟨S4x4x4096x32, .f32⟩
  | 16 => ⟨S4x4x4096x64, .f32⟩
  | 17 => ⟨S4x4x4096x128, .f32⟩
  | 18 => ⟨S1x1x4096x128, .f32⟩
  | 19 => ⟨S4x4x4096x128, .f32⟩
  | 20 => ⟨S4x4x4096x128, .f32⟩
  | 21 => ⟨S1x1x4096x128, .f32⟩
  | 22 => ⟨S4x4x4096x128, .f32⟩
  | 23 => ⟨S4x4x4096x128, .f32⟩
  | 24 => ⟨S4x4x4096x128, .f32⟩
  | 25 => ⟨S_, .f32⟩
  | 26 => ⟨S4x4x4096x128, .f32⟩
  | 27 => ⟨S4x4x4096x128, .f32⟩
  | 28 => ⟨S128, .f32⟩
  | 29 => ⟨S4x2x4096x128, .f32⟩
  | 30 => ⟨S_, .f32⟩
  | 31 => ⟨S4x2x4096, .f32⟩
  | 32 => ⟨S4x2x4096x1, .f32⟩
  | 33 => ⟨S_, .f32⟩
  | 34 => ⟨S4x2x4096x1, .f32⟩
  | 35 => ⟨S4x2x4096x1, .f32⟩
  | 36 => ⟨S_, .f32⟩
  | 37 => ⟨S4x2x4096x1, .f32⟩
  | 38 => ⟨S4x2x4096x1, .f32⟩
  | 39 => ⟨S4x2x4096x1, .f32⟩
  | 40 => ⟨S4x2x4096x128, .f32⟩
  | 41 => ⟨S4x2x4096x128, .f32⟩
  | 42 => ⟨S1x1x1x128, .f32⟩
  | 43 => ⟨S4x2x4096x128, .f32⟩
  | 44 => ⟨S4x2x4096x128, .f32⟩
  | 45 => ⟨S4x2x4096x64, .f32⟩
  | 46 => ⟨S4x2x4096x32, .f32⟩
  | 47 => ⟨S4x2x4096x32, .f32⟩
  | 48 => ⟨S4x2x4096x32, .f32⟩
  | 49 => ⟨S4x2x4096x64, .f32⟩
  | 50 => ⟨S4x2x4096x64, .f32⟩
  | 51 => ⟨S4x2x4096x32, .f32⟩
  | 52 => ⟨S4x2x4096x32, .f32⟩
  | 53 => ⟨S4x2x4096x32, .f32⟩
  | 54 => ⟨S4x2x4096x64, .f32⟩
  | 55 => ⟨S4x2x4096x128, .f32⟩
  | 56 => ⟨S1x1x4096x128, .f32⟩
  | 57 => ⟨S4x2x4096x128, .f32⟩
  | 58 => ⟨S4x2x4096x128, .f32⟩
  | 59 => ⟨S1x1x4096x128, .f32⟩
  | 60 => ⟨S4x2x4096x128, .f32⟩
  | 61 => ⟨S4x2x4096x128, .f32⟩
  | 62 => ⟨S4x2x4096x128, .f32⟩
  | 63 => ⟨S4x4096x1536, .f32⟩
  | 64 => ⟨S4x4096x4x128, .f32⟩
  | 65 => ⟨S4x4096x512, .f32⟩
  | 66 => ⟨S4x4096x2x128, .f32⟩
  | 67 => ⟨S4x4096x256, .f32⟩
  | 68 => ⟨S4x4096x4352, .f32⟩
  | 69 => ⟨S4x4096x6656, .f32⟩
  | 70 => ⟨S2048x32, .f32⟩
  | 71 => ⟨S4x4096x32, .f32⟩
  | 72 => ⟨S16384x32, .f32⟩
  | 73 => ⟨S16384x6656, .f32⟩
  | 74 => ⟨S16384x6656, .bf16⟩
  | 75 => ⟨S32x16384, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_c : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_0 : Ref sig .tc := ⟨.hbm, 61, rfl⟩
abbrev main_call0_v12 : Ref sig .tc := ⟨.hbm, 62, rfl⟩
abbrev main_call0_v13 : Ref sig .tc := ⟨.hbm, 63, rfl⟩
abbrev main_v36 : Ref sig .tc := ⟨.hbm, 64, rfl⟩
abbrev main_v37 : Ref sig .tc := ⟨.hbm, 65, rfl⟩
abbrev main_c_3 : Ref sig .tc := ⟨.hbm, 66, rfl⟩
abbrev main_call1_v0 : Ref sig .tc := ⟨.hbm, 67, rfl⟩
abbrev main_call1_c : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_c_1 : Ref sig .tc := ⟨.hbm, 74, rfl⟩
abbrev main_call1_v5 : Ref sig .tc := ⟨.hbm, 75, rfl⟩
abbrev main_call1_v6 : Ref sig .tc := ⟨.hbm, 76, rfl⟩
abbrev main_call1_c_2 : Ref sig .tc := ⟨.hbm, 77, rfl⟩
abbrev main_call1_v7 : Ref sig .tc := ⟨.hbm, 78, rfl⟩
abbrev main_call1_v8 : Ref sig .tc := ⟨.hbm, 79, rfl⟩
abbrev main_call1_c_3 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_cst_4 : Ref sig .tc := ⟨.hbm, 90, rfl⟩
abbrev main_v41 : Ref sig .tc := ⟨.hbm, 91, rfl⟩
abbrev main_v42 : Ref sig .tc := ⟨.hbm, 92, rfl⟩
abbrev main_cst_5 : Ref sig .tc := ⟨.hbm, 93, rfl⟩
abbrev main_v43 : Ref sig .tc := ⟨.hbm, 94, rfl⟩
abbrev main_v44 : Ref sig .tc := ⟨.hbm, 95, rfl⟩
abbrev main_cst_6 : Ref sig .tc := ⟨.hbm, 96, rfl⟩
abbrev main_v45 : Ref sig .tc := ⟨.hbm, 97, rfl⟩
abbrev main_v46 : Ref sig .tc := ⟨.hbm, 98, rfl⟩
abbrev main_cst_7 : Ref sig .tc := ⟨.hbm, 99, rfl⟩
abbrev main_v47 : Ref sig .tc := ⟨.hbm, 100, rfl⟩
abbrev main_v48 : Ref sig .tc := ⟨.hbm, 101, rfl⟩
abbrev main_cst_8 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_9 : Ref sig .tc := ⟨.hbm, 120, rfl⟩
abbrev main_v66 : Ref sig .tc := ⟨.hbm, 121, rfl⟩
abbrev main_v67 : Ref sig .tc := ⟨.hbm, 122, rfl⟩
abbrev main_cst_10 : Ref sig .tc := ⟨.hbm, 123, rfl⟩
abbrev main_v68 : Ref sig .tc := ⟨.hbm, 124, rfl⟩
abbrev main_v69 : Ref sig .tc := ⟨.hbm, 125, rfl⟩
abbrev main_cst_11 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_12 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_cst_13 : Ref sig .tc := ⟨.hbm, 158, rfl⟩
abbrev main_v100 : Ref sig .tc := ⟨.hbm, 159, rfl⟩
abbrev main_v101 : Ref sig .tc := ⟨.hbm, 160, rfl⟩
abbrev main_cst_14 : Ref sig .tc := ⟨.hbm, 161, rfl⟩
abbrev main_v102 : Ref sig .tc := ⟨.hbm, 162, rfl⟩
abbrev main_v103 : Ref sig .tc := ⟨.hbm, 163, rfl⟩
abbrev main_cst_15 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩

abbrev nD : Nat := 1
abbrev τ : Topo := Topo.v7x

variable {F : FTy → Type} [FloatOps F]
-- ==== Kernel6.lean ====
abbrev S4x2048 : Shape := ⟨2, ![4, 2048]⟩
abbrev S2048 : Shape := ⟨1, ![2048]⟩
abbrev S2x2048x18432 : Shape := ⟨3, ![2, 2048, 18432]⟩
abbrev S2x18432 : Shape := ⟨2, ![2, 18432]⟩
abbrev S_ : Shape := ⟨0, ![]⟩
abbrev S8x2048 : Shape := ⟨2, ![8, 2048]⟩
abbrev S1 : Shape := ⟨1, ![1]⟩
abbrev S1x18432 : Shape := ⟨2, ![1, 18432]⟩
abbrev S18432 : Shape := ⟨1, ![18432]⟩
abbrev S8x18432 : Shape := ⟨2, ![8, 18432]⟩
abbrev S1x2048x1024 : Shape := ⟨3, ![1, 2048, 1024]⟩
abbrev S1x1024 : Shape := ⟨2, ![1, 1024]⟩
abbrev S8x1024 : Shape := ⟨2, ![8, 1024]⟩
abbrev S2048x1024 : Shape := ⟨2, ![2048, 1024]⟩
abbrev S72x1x2048 : Shape := ⟨3, ![72, 1, 2048]⟩
abbrev S45x1x2048 : Shape := ⟨3, ![45, 1, 2048]⟩

abbrev nBuf : Space → Nat
  | .hbm => 18
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x18432, .f32⟩
  | .hbm, ⟨3, _⟩ => ⟨S2x18432, .f32⟩
  | .hbm, ⟨4, _⟩ => ⟨S_, .f32⟩
  | .hbm, ⟨5, _⟩ => ⟨S8x2048, .f32⟩
  | .hbm, ⟨6, _⟩ => ⟨S_, .i32⟩
  | .hbm, ⟨7, _⟩ => ⟨S1, .i32⟩
  | .hbm, ⟨8, _⟩ => ⟨S8x2048, .f32⟩
  | .hbm, ⟨9, _⟩ => ⟨S_, .i32⟩
  | .hbm, ⟨10, _⟩ => ⟨S1, .i32⟩
  | .hbm, ⟨11, _⟩ => ⟨S8x2048, .f32⟩
  | .hbm, ⟨12, _⟩ => ⟨S1x18432, .f32⟩
  | .hbm, ⟨13, _⟩ => ⟨S18432, .f32⟩
  | .hbm, ⟨14, _⟩ => ⟨S1x18432, .f32⟩
  | .hbm, ⟨15, _⟩ => ⟨S8x18432, .f32⟩
  | .hbm, ⟨16, _⟩ => ⟨S72x1x2048, .f32⟩
  | .hbm, ⟨17, _⟩ => ⟨S45x1x2048, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4x2048 : Shape := ⟨2, ![4, 2048]⟩
abbrev S2048 : Shape := ⟨1, ![2048]⟩
abbrev S2x2048x18432 : Shape := ⟨3, ![2, 2048, 18432]⟩
abbrev S2x18432 : Shape := ⟨2, ![2, 18432]⟩
abbrev S_ : Shape := ⟨0, ![]⟩
abbrev S1x2048x18432 : Shape := ⟨3, ![1, 2048, 18432]⟩
abbrev S2048x18432 : Shape := ⟨2, ![2048, 18432]⟩
abbrev S4x18432 : Shape := ⟨2, ![4, 18432]⟩
abbrev S1x18432 : Shape := ⟨2, ![1, 18432]⟩
abbrev S18432 : Shape := ⟨1, ![18432]⟩
abbrev S36x1x2048 : Shape := ⟨3, ![36, 1, 2048]⟩
abbrev S9x1x2048 : Shape := ⟨3, ![9, 1, 2048]⟩
abbrev S45x1x2048 : Shape := ⟨3, ![45, 1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x18432, .f32⟩
  | .hbm, ⟨3, _⟩ => ⟨S2x18432, .f32⟩
  | .hbm, ⟨4, _⟩ => ⟨S4x2048, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S1x2048x18432, .f32⟩
  | .hbm, ⟨14, _⟩ => ⟨S2048x18432, .f32⟩
  | .hbm, ⟨15, _⟩ => ⟨S4x18432, .f32⟩
  | .hbm, ⟨16, _⟩ => ⟨S1x18432, .f32⟩
  | .hbm, ⟨17, _⟩ => ⟨S18432, .f32⟩
  | .hbm, ⟨18, _⟩ => ⟨S1x18432, .f32⟩
  | .hbm, ⟨19, _⟩ => ⟨S4x18432, .f32⟩
  | .hbm, ⟨20, _⟩ => ⟨S4x18432, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S1x2048x18432, .f32⟩
  | .hbm, ⟨31, _⟩ => ⟨S2048x18432, .f32⟩
  | .hbm, ⟨32, _⟩ => ⟨S18432, .f32⟩
  | .hbm, ⟨33, _⟩ => ⟨S1x18432, .f32⟩
  | .hbm, ⟨34, _⟩ => ⟨S18432, .f32⟩
  | .hbm, ⟨35, _⟩ => ⟨S18432, .f32⟩
  | .hbm, ⟨36, _⟩ => ⟨S36x1x2048, .f32⟩
  | .hbm, ⟨37, _⟩ => ⟨S9x1x2048, .f32⟩
  | .hbm, ⟨38, _⟩ => ⟨S45x1x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩

abbrev nD : Nat := 1
abbrev τ : Topo := Topo.v7x

variable {F : FTy → Type} [FloatOps F]
-- ==== Proof.Attention.lean ====
/-
  Softmax attention over the extended reals, written by hand.

  `attn s v` is the plain softmax average of the values `v` under the scores `s`. `Rep s v μ d a` says that the
  running maximum `μ`, the running denominator `d` and the running numerator `a` are those of the keys seen so far.
  `Rep.start` is the first block of keys, `Rep.step` one more block, and `Rep.finish` the quotient at the end, which
  is `attn` over every key seen.
-/
module

public import Idealize.ShloMosaic.PureOps.Ideal
public import Idealize.ShloMosaic.PureOps.Ideal.Laws

@[expose] public section

noncomputable section

namespace Cert.Attention

open Idealize.ShloMosaic

variable {ι κ : Type} [Fintype ι] [Fintype κ]

/-- The greatest score. -/
def top (s : ι → EReal) : EReal := Finset.univ.fold max ⊥ s

/-- Softmax attention: every value weighted by the exponential of its score below the greatest, over the sum of them. -/
def attn (s v : ι → EReal) : EReal :=
  ∑ k, Ideal.div (Ideal.exp (s k - top s)) (∑ j, Ideal.exp (s j - top s)) * v k

theorem le_top (s : ι → EReal) (k : ι) : s k ≤ top s := by
  unfold top
  exact (Finset.fold_max_le (s := Finset.univ) (f := s) (b := ⊥) (top s)).mp le_rfl |>.2 k (Finset.mem_univ k)

theorem top_le (s : ι → EReal) (x : EReal) (h : ∀ k, s k ≤ x) : top s ≤ x :=
  (Finset.fold_max_le (s := Finset.univ) (f := s) (b := ⊥) x).mpr ⟨bot_le, fun k _ => h k⟩

theorem top_comp (e : κ ≃ ι) (s : ι → EReal) : top (s ∘ e) = top s :=
  le_antisymm (top_le _ _ fun k => le_top s (e k))
    (top_le _ _ fun k => by simpa using le_top (s ∘ e) (e.symm k))

/-- Renaming the keys changes nothing. -/
theorem attn_comp (e : κ ≃ ι) (s v : ι → EReal) : attn (s ∘ e) (v ∘ e) = attn s v := by
  unfold attn
  rw [top_comp]
  have h : ∑ j, Ideal.exp ((s ∘ e) j - top s) = ∑ j, Ideal.exp (s j - top s) :=
    Equiv.sum_comp e fun j => Ideal.exp (s j - top s)
  rw [h]
  exact Equiv.sum_comp e fun k => Ideal.div (Ideal.exp (s k - top s)) (∑ j, Ideal.exp (s j - top s)) * v k

/-- A weight: the exponential of a score below a real bound is a nonnegative real. -/
theorem weight_real (x : EReal) (hx : x ≠ ⊤) (μ : ℝ) : ∃ w : ℝ, 0 ≤ w ∧ Ideal.exp (x - μ) = (w : EReal) := by
  induction x with
  | bot => exact ⟨0, le_rfl, by rw [EReal.bot_sub, Ideal.exp_bot]; rfl⟩
  | coe x => exact ⟨Real.exp (x - μ), (Real.exp_pos _).le, by rw [← EReal.coe_sub, Ideal.exp_coe]⟩
  | top => exact absurd rfl hx

/-- Moving the bound: the factor between the two bounds turns the one weight into the other. -/
theorem weight_move (x : EReal) (hx : x ≠ ⊤) (μ ν : ℝ) :
    Ideal.exp ((μ : EReal) - ν) * Ideal.exp (x - μ) = Ideal.exp (x - ν) := by
  induction x with
  | bot => rw [EReal.bot_sub, EReal.bot_sub, Ideal.exp_bot, mul_zero]
  | coe x =>
    rw [← EReal.coe_sub, ← EReal.coe_sub, ← EReal.coe_sub, Ideal.exp_coe, Ideal.exp_coe, Ideal.exp_coe, ← EReal.coe_mul,
      ← Real.exp_add]
    congr 2; ring
  | top => exact absurd rfl hx

/-- A nonnegative real factor distributes over a sum of extended reals. -/
theorem mul_sum_real (c : ℝ) (hc : 0 ≤ c) (f : ι → EReal) : (c : EReal) * ∑ k, f k = ∑ k, (c : EReal) * f k := by
  classical
  induction (Finset.univ : Finset ι) using Finset.induction_on with
  | empty => simp
  | insert a t ha ih =>
    rw [Finset.sum_insert ha, Finset.sum_insert ha,
      EReal.left_distrib_of_nonneg_of_ne_top (by exact_mod_cast hc) (EReal.coe_ne_top c), ih]

/-- The running state over the keys seen: their greatest score, the sum of the weights, the weighted sum of the values. -/
structure Rep (s v : ι → EReal) (μ d a : EReal) : Prop where
  fin : ∀ k, s k ≠ ⊤
  real : ∃ r : ℝ, μ = r
  greatest : μ = top s
  den : d = ∑ k, Ideal.exp (s k - μ)
  acc : a = ∑ k, Ideal.exp (s k - μ) * v k

theorem top_real (s : ι → EReal) (hs : ∀ k, s k ≠ ⊤) (k₀ : ι) (hk : s k₀ ≠ ⊥) : ∃ r : ℝ, top s = r := by
  have h1 : top s ≠ ⊥ := fun h => hk (le_bot_iff.mp (h ▸ le_top s k₀))
  have h2 : top s ≠ ⊤ := by
    unfold top
    have : ∀ t : Finset ι, t.fold Max.max ⊥ s ≠ ⊤ := by
      classical
      intro t
      induction t using Finset.induction_on with
      | empty => simp
      | insert a t ha ih =>
        rw [Finset.fold_insert ha]
        rcases max_choice (s a) (t.fold Max.max ⊥ s) with h | h <;> rw [h]
        · exact hs a
        · exact ih
    exact this _
  exact ⟨(top s).toReal, (EReal.coe_toReal h2 h1).symm⟩

/-- The first block of keys. -/
theorem Rep.start (s v : ι → EReal) (hs : ∀ k, s k ≠ ⊤) (k₀ : ι) (hk : s k₀ ≠ ⊥) :
    Rep s v (top s) (∑ k, Ideal.exp (s k - top s)) (∑ k, Ideal.exp (s k - top s) * v k) :=
  ⟨hs, top_real s hs k₀ hk, rfl, rfl, rfl⟩

theorem top_sum (s : ι → EReal) (s' : κ → EReal) : top (Sum.elim s s') = max (top s) (top s') := by
  apply le_antisymm
  · refine top_le _ _ fun k => ?_
    rcases k with k | k
    · exact (le_top s k).trans (le_max_left _ _)
    · exact (le_top s' k).trans (le_max_right _ _)
  · refine max_le (top_le _ _ fun k => ?_) (top_le _ _ fun k => ?_)
    · exact le_top (Sum.elim s s') (.inl k)
    · exact le_top (Sum.elim s s') (.inr k)

/-- One more block of keys: the maximum grows, the old sums are rescaled, the block's own are added. -/
theorem Rep.step {s v : ι → EReal} {μ d a : EReal} (h : Rep s v μ d a) (s' v' : κ → EReal) (hs : ∀ k, s' k ≠ ⊤) :
    Rep (Sum.elim s s') (Sum.elim v v') (max μ (top s'))
      (Ideal.exp (μ - max μ (top s')) * d + ∑ k, Ideal.exp (s' k - max μ (top s')))
      (Ideal.exp (μ - max μ (top s')) * a + ∑ k, Ideal.exp (s' k - max μ (top s')) * v' k) := by
  obtain ⟨r, hr⟩ := h.real
  have hν : ∃ ν : ℝ, max μ (top s') = ν := by
    rcases max_choice μ (top s') with e | e
    · exact ⟨r, e.trans hr⟩
    · rw [e]
      have h0 : μ ≤ top s' := max_eq_right_iff.mp e
      have hb : top s' ≠ ⊥ := fun hb => by
        rw [hb, hr] at h0; exact EReal.coe_ne_bot r (le_bot_iff.mp h0)
      have : ∃ k, s' k ≠ ⊥ := by
        by_contra hc; push Not at hc
        exact hb (le_bot_iff.mp (top_le _ _ fun k => (hc k).le))
      obtain ⟨k, hk⟩ := this
      exact top_real s' hs k hk
  obtain ⟨ν, hν⟩ := hν
  obtain ⟨w, hw, hwe⟩ := weight_real (r : EReal) (EReal.coe_ne_top r) ν
  refine ⟨fun k => ?_, ⟨ν, hν⟩, ?_, ?_, ?_⟩
  · rcases k with k | k
    · exact h.fin k
    · exact hs k
  · rw [top_sum, h.greatest]
  · rw [hν, Fintype.sum_sum_type, h.den, hr]
    congr 1
    rw [hwe, mul_sum_real w hw, ← hwe]
    exact Finset.sum_congr rfl fun k _ => weight_move _ (h.fin k) r ν
  · rw [hν, Fintype.sum_sum_type, h.acc, hr]
    congr 1
    rw [hwe, mul_sum_real w hw, ← hwe]
    exact Finset.sum_congr rfl fun k _ => by
      rw [← mul_assoc, weight_move _ (h.fin k) r ν]; rfl

theorem sum_real (f : ι → EReal) (hf : ∀ k, ∃ w : ℝ, 0 ≤ w ∧ f k = (w : EReal)) :
    ∃ w : ℝ, (∀ k, f k ≤ (w : EReal)) ∧ ∑ k, f k = (w : EReal) := by
  choose g hg using hf
  refine ⟨∑ k, g k, fun k => ?_, ?_⟩
  · rw [(hg k).2]
    exact_mod_cast Finset.single_le_sum (fun i _ => (hg i).1) (Finset.mem_univ k)
  · rw [Finset.sum_congr rfl fun k _ => (hg k).2]
    classical
    induction (Finset.univ : Finset ι) using Finset.induction_on with
    | empty => simp
    | insert a t ha ih => rw [Finset.sum_insert ha, Finset.sum_insert ha, EReal.coe_add, ih]

/-- The quotient at the end is the softmax attention over every key seen. -/
theorem Rep.finish {s v : ι → EReal} {μ d a : EReal} (h : Rep s v μ d a) : Ideal.div a d = attn s v := by
  obtain ⟨r, hr⟩ := h.real
  have hμ : (r : EReal) = top s := hr.symm.trans h.greatest
  obtain ⟨w, hle, hw⟩ := sum_real (fun k => Ideal.exp (s k - r)) fun k => weight_real (s k) (h.fin k) r
  have hd : d = (w : EReal) := by rw [h.den, hr]; exact hw
  have h1 : ∃ k, s k = r := by
    by_contra hc; push Not at hc
    have hlt : ∀ k, s k < r := fun k => lt_of_le_of_ne (hμ ▸ le_top s k) (hc k)
    have : top s < r := by
      unfold top
      exact (Finset.fold_max_lt (s := Finset.univ) (f := s) (b := ⊥) (r : EReal)).mpr
        ⟨EReal.bot_lt_coe r, fun k _ => hlt k⟩
    exact absurd hμ.symm this.ne
  obtain ⟨k₁, hk₁⟩ := h1
  have hw1 : (1 : ℝ) ≤ w := by
    have := hle k₁
    rw [hk₁, ← EReal.coe_sub, Ideal.exp_coe, sub_self, Real.exp_zero] at this
    exact_mod_cast this
  have hw0 : w ≠ 0 := by linarith
  unfold attn
  rw [← hμ, hw, hd, Ideal.div_coe hw0, h.acc, hr, mul_comm, mul_sum_real (1 / w) (by positivity)]
  exact Finset.sum_congr rfl fun k _ => by
    rw [Ideal.div_coe hw0, ← mul_assoc, mul_comm ((1 / w : ℝ) : EReal)]

end Cert.Attention

end
-- ==== Proof.GqaSpec.lean ====
/-
  Grouped-query attention as a function of the two projected token arrays, written by hand: the function both programs
  are shown to compute. Row `r` of the latent tokens belongs to sequence `r / 4096`; column `c` of the result to query
  head `c / 128` and key head `c / 256`.
-/
module

public import proofs.«01_k».proof.Proof.Attention
public import Idealize.ShloMosaic.Lib.Pointwise

@[expose] public section

noncomputable section

namespace Cert.Gqa

open Idealize.ShloMosaic Cert.Attention

variable (xl : (⟨2, ![16384, 6656]⟩ : Shape).Idx → EReal) (xc : (⟨2, ![1024, 6656]⟩ : Shape).Idx → EReal)

/-- The query of row `r` and query head `c / 128`. -/
def query (r : Fin 16384) (c : Fin 512) (e : Fin 128) : EReal :=
  xl (ix2 r ⟨1536 + c.val / 128 * 128 + e.val, by omega⟩)

/-- The latent key `t` of the row's sequence. -/
def keyLat (r : Fin 16384) (c : Fin 512) (t : Fin 4096) (e : Fin 128) : EReal :=
  xl (ix2 ⟨r.val / 4096 * 4096 + t.val, by omega⟩ ⟨2048 + c.val / 256 * 128 + e.val, by omega⟩)

/-- The context key `t` of the row's sequence. -/
def keyCtx (r : Fin 16384) (c : Fin 512) (t : Fin 256) (e : Fin 128) : EReal :=
  xc (ix2 ⟨r.val / 4096 * 256 + t.val, by omega⟩ ⟨2048 + c.val / 256 * 128 + e.val, by omega⟩)

/-- The latent value `t` in the result's column. -/
def valLat (r : Fin 16384) (c : Fin 512) (t : Fin 4096) : EReal :=
  xl (ix2 ⟨r.val / 4096 * 4096 + t.val, by omega⟩ ⟨2304 + c.val / 256 * 128 + c.val % 128, by omega⟩)

/-- The context value `t` in the result's column. -/
def valCtx (r : Fin 16384) (c : Fin 512) (t : Fin 256) : EReal :=
  xc (ix2 ⟨r.val / 4096 * 256 + t.val, by omega⟩ ⟨2304 + c.val / 256 * 128 + c.val % 128, by omega⟩)

/-- The score of a context key. -/
def scoreCtx (r : Fin 16384) (c : Fin 512) (t : Fin 256) : EReal := ∑ e, query xl r c e * keyCtx xc r c t e

/-- The score of a latent key. -/
def scoreLat (r : Fin 16384) (c : Fin 512) (t : Fin 4096) : EReal := ∑ e, query xl r c e * keyLat xl r c t e

/-- Attention of row `r`, column `c`: over the context keys and the latent keys of the sequence. -/
def out (r : Fin 16384) (c : Fin 512) : EReal :=
  attn (Sum.elim (scoreCtx xl xc r c) (scoreLat xl r c)) (Sum.elim (valCtx xc r c) (valLat xl r c))

end Cert.Gqa

end
-- ==== Proof.GqaReference.lean ====
/-
  The reference's attention read at an index, written by hand: its result is `Gqa.out`.
-/
module

public import proofs.«01_k».proof.Proof.GqaSpec
public import proofs.«01_k».proof.Proof.Gen.ReferenceIdeal.Read

@[expose] public section

set_option maxRecDepth 16384

noncomputable section

namespace Cert.GqaReference

open Cert.ReferenceIdeal Cert.ReferenceIdeal.Gen Cert.ReferenceIdeal.Read Idealize.ShloMosaic Cert.Attention

variable (xl : (⟨S16384x6656, .bf16⟩ : BufTy).Contents (Elt Ideal)) (xc : (⟨S1024x6656, .bf16⟩ : BufTy).Contents (Elt Ideal))

theorem neg_inf : Ideal.ofBits .f32 0xFF800000#32 = ⊥ := by simp [Ideal.ofBits, Ideal.ieee]

/-- The queries, by sequence, key head, query head within it, token and lane. -/
theorem query_at (b : Fin 4) (h g : Fin 2) (t : Fin 4096) (e : Fin 128) :
    val_main_v21 (F := Ideal) xl (ix5 b h g t e)
      = xl (ix2 ⟨b.val * 4096 + t.val, by omega⟩ ⟨1536 + ((h.val * 2 + g.val) * 128 + e.val), by omega⟩) := by
  pointwise [val_main_v21, val_main_v6, val_main_v5, val_main_v4, val_main_v1, val_main_v0]

/-- The keys: those of the context, then those of the latents. -/
theorem key_at (b : Fin 4) (h : Fin 2) (k : Fin 4352) (e : Fin 128) :
    val_main_v19 (F := Ideal) xl xc (ix4 b h k e)
      = if hk : k.val < 256 then xc (ix2 ⟨b.val * 256 + k.val, by omega⟩ ⟨2048 + (h.val * 128 + e.val), by omega⟩)
        else xl (ix2 ⟨b.val * 4096 + (k.val - 256), by omega⟩ ⟨2048 + (h.val * 128 + e.val), by omega⟩) := by
  pointwise [val_main_v19, val_main_v15, val_main_v14, val_main_v13, val_main_v3, val_main_v2,
    val_main_v9, val_main_v8, val_main_v7, val_main_v1, val_main_v0]

/-- The values, in the same order. -/
theorem value_at (b : Fin 4) (h : Fin 2) (k : Fin 4352) (e : Fin 128) :
    val_main_v20 (F := Ideal) xl xc (ix4 b h k e)
      = if hk : k.val < 256 then xc (ix2 ⟨b.val * 256 + k.val, by omega⟩ ⟨2304 + (h.val * 128 + e.val), by omega⟩)
        else xl (ix2 ⟨b.val * 4096 + (k.val - 256), by omega⟩ ⟨2304 + (h.val * 128 + e.val), by omega⟩) := by
  pointwise [val_main_v20, val_main_v18, val_main_v17, val_main_v16, val_main_v3, val_main_v2,
    val_main_v12, val_main_v11, val_main_v10, val_main_v1, val_main_v0]

theorem score_at (b : Fin 4) (h g : Fin 2) (t : Fin 4096) (k : Fin 4352) :
    val_main_v22 (F := Ideal) xl xc (ix5 b h g t k)
      = ∑ e : Fin 128, val_main_v21 (F := Ideal) xl (ix5 b h g t e) * val_main_v19 (F := Ideal) xl xc (ix4 b h k e) := by
  pointwise [val_main_v22]

theorem max_at (b : Fin 4) (h g : Fin 2) (t : Fin 4096) :
    val_main_v23 (F := Ideal) xl xc (ix4 b h g t) = top fun k : Fin 4352 => val_main_v22 (F := Ideal) xl xc (ix5 b h g t k) := by
  pointwise [val_main_v23, val_main_cst, top]
  rw [neg_inf]

theorem weight_at (b : Fin 4) (h g : Fin 2) (t : Fin 4096) (k : Fin 4352) :
    val_main_v29 (F := Ideal) xl xc (ix5 b h g t k) = Ideal.exp (val_main_v22 (F := Ideal) xl xc (ix5 b h g t k) - val_main_v23 (F := Ideal) xl xc (ix4 b h g t)) := by
  rw [val_main_v29_apply, val_main_v28_apply, val_main_v27_apply, val_main_v26_apply, val_main_v25_apply, val_main_v24_apply, val_main_cst_0_apply]
  have e : idx_main_v26 (idx_main_v27 (ix5 b h g t k)) = ix4 b h g t := by
    funext a; match a with
    | ⟨0, _⟩ => rfl
    | ⟨1, _⟩ => rfl
    | ⟨2, _⟩ => rfl
    | ⟨3, _⟩ => rfl
  rw [e, Ideal.maximumf_def, Ideal.ofBits_def, neg_inf, max_eq_right bot_le]
  rfl

theorem den_at (b : Fin 4) (h g : Fin 2) (t : Fin 4096) (k : Fin 4352) :
    val_main_v32 (F := Ideal) xl xc (ix5 b h g t k) = ∑ j : Fin 4352, val_main_v29 (F := Ideal) xl xc (ix5 b h g t j) := by
  rw [val_main_v32_apply, val_main_v31_apply, val_main_v30_apply, val_main_cst_1_apply, Ideal.ofBits_def, Ideal.ofBits_zero_f32, zero_add]
  refine Finset.sum_congr rfl fun j _ => congrArg _ ?_
  funext a; match a with
  | ⟨0, _⟩ => rfl
  | ⟨1, _⟩ => rfl
  | ⟨2, _⟩ => rfl
  | ⟨3, _⟩ => rfl
  | ⟨4, _⟩ => rfl

theorem sum_at (b : Fin 4) (h g : Fin 2) (t : Fin 4096) (e : Fin 128) :
    val_main_v34 (F := Ideal) xl xc (ix5 b h g t e)
      = ∑ k : Fin 4352, val_main_v33 (F := Ideal) xl xc (ix5 b h g t k) * val_main_v20 (F := Ideal) xl xc (ix4 b h k e) := by
  pointwise [val_main_v34]

/-- One lane of one query head: attention over the reference's keys. -/
theorem attn_at (b : Fin 4) (h g : Fin 2) (t : Fin 4096) (e : Fin 128) :
    val_main_v34 (F := Ideal) xl xc (ix5 b h g t e)
      = attn (fun k : Fin 4352 => val_main_v22 (F := Ideal) xl xc (ix5 b h g t k)) fun k => val_main_v20 (F := Ideal) xl xc (ix4 b h k e) := by
  rw [sum_at, attn]
  refine Finset.sum_congr rfl fun k _ => ?_
  rw [val_main_v33_apply, den_at]
  simp only [weight_at, max_at]
  rfl

theorem result_at (r : Fin 16384) (c : Fin 512) :
    val_main_v39 (F := Ideal) xl xc (ix2 r c)
      = val_main_v34 (F := Ideal) xl xc (ix5 ⟨r.val / 4096, by omega⟩ ⟨c.val / 128 / 2, by omega⟩ ⟨c.val / 128 % 2, by omega⟩
          ⟨r.val % 4096, by omega⟩ ⟨c.val % 128, by omega⟩) := by
  pointwise [val_main_v39, val_main_v38, val_main_v37, val_main_v36, val_main_v35]

/-- The reference's keys: the context's, then the latents'. -/
def keys : Fin 256 ⊕ Fin 4096 ≃ Fin 4352 := finSumFinEquiv

theorem keys_inl (k : Fin 256) : (keys (Sum.inl k)).val = k.val := rfl

theorem keys_inr (k : Fin 4096) : (keys (Sum.inr k)).val = 256 + k.val := rfl

/-- The reference's result is grouped-query attention. -/
theorem out_at (r : Fin 16384) (c : Fin 512) : val_main_v39 (F := Ideal) xl xc (ix2 r c) = Gqa.out xl xc r c := by
  rw [result_at, attn_at, Gqa.out, ← attn_comp keys]
  have hc : c.val / 128 / 2 = c.val / 256 := by omega
  congr 1
  · funext k
    rcases k with k | k
    · simp only [Function.comp_apply, Sum.elim_inl, score_at, Gqa.scoreCtx]
      refine Finset.sum_congr rfl fun e _ => ?_
      rw [query_at, key_at, dif_pos (by rw [keys_inl]; omega), Gqa.query, Gqa.keyCtx]
      congr 2
      · congr 1 <;> exact Fin.ext (by simp; omega)
      · congr 1 <;> exact Fin.ext (by simp [keys_inl, keys_inr] <;> omega)
    · simp only [Function.comp_apply, Sum.elim_inr, score_at, Gqa.scoreLat]
      refine Finset.sum_congr rfl fun e _ => ?_
      rw [query_at, key_at, dif_neg (by rw [keys_inr]; omega), Gqa.query, Gqa.keyLat]
      congr 2
      · congr 1 <;> exact Fin.ext (by simp; omega)
      · congr 1 <;> exact Fin.ext (by simp [keys_inl, keys_inr] <;> omega)
  · funext k
    rcases k with k | k
    · simp only [Function.comp_apply, Sum.elim_inl]
      rw [value_at, dif_pos (by rw [keys_inl]; omega), Gqa.valCtx]
      congr 2 <;> exact Fin.ext (by simp [keys_inl, keys_inr] <;> omega)
    · simp only [Function.comp_apply, Sum.elim_inr]
      rw [value_at, dif_neg (by rw [keys_inr]; omega), Gqa.valLat]
      congr 2 <;> exact Fin.ext (by simp [keys_inl, keys_inr] <;> omega)

end Cert.GqaReference

end
-- ==== Proof.GqaKernel.lean ====
/-
  The kernel's attention read at an index of one block, written by hand: one pass over the context's keys and two over
  the latents', the greatest score, the sum of the weights and the weighted values carried from one to the next.
-/
module

public import proofs.«01_k».proof.Proof.GqaSpec
public import proofs.«01_k».proof.Proof.Gen.KernelIdeal.Value
public import Idealize.ShloMosaic.Lib.Pipeline.ValueKit

@[expose] public section

set_option maxRecDepth 16384

noncomputable section

namespace Cert.GqaKernel

open Cert.KernelIdeal Cert.KernelIdeal.Gen Idealize.ShloMosaic Cert.Attention

variable (Q0 Q1 : FVec Ideal S512x128 .bf16) (KC VC : FVec Ideal S256x128 .bf16) (K0 K1 V0 V1 : FVec Ideal S2048x128 .bf16)

theorem neg_inf : Ideal.ofBits .f32 0xFF800000#32 = ⊥ := by simp [Ideal.ofBits, Ideal.ieee]

/-- The stacked queries: the first head's rows above the second's. -/
theorem q_at (R : Fin 1024) (e : Fin 128) :
    k0_pay4 (F := Ideal) Q0 Q1 (ix2 R e) = if h : R.val < 512 then Q0 (ix2 ⟨R.val, h⟩ e) else Q1 (ix2 ⟨R.val - 512, by omega⟩ e) := by
  pointwise [k0_pay4]

theorem scoreC_at (R : Fin 1024) (k : Fin 256) :
    k0_pay5 (F := Ideal) Q0 Q1 KC (ix2 R k) = ∑ e, k0_pay4 (F := Ideal) Q0 Q1 (ix2 R e) * KC (ix2 k e) := by
  pointwise [k0_pay5]

theorem score0_at (R : Fin 1024) (k : Fin 2048) :
    k0_pay6 (F := Ideal) Q0 Q1 K0 (ix2 R k) = ∑ e, k0_pay4 (F := Ideal) Q0 Q1 (ix2 R e) * K0 (ix2 k e) := by
  pointwise [k0_pay6]

theorem score1_at (R : Fin 1024) (k : Fin 2048) :
    k0_pay9 (F := Ideal) Q0 Q1 K1 (ix2 R k) = ∑ e, k0_pay4 (F := Ideal) Q0 Q1 (ix2 R e) * K1 (ix2 k e) := by
  pointwise [k0_pay9]

theorem maxC_at (R : Fin 1024) :
    k0_pay7 (F := Ideal) Q0 Q1 KC (ix2 R 0) = top fun k : Fin 256 => k0_pay5 (F := Ideal) Q0 Q1 KC (ix2 R k) := by
  pointwise [k0_pay7, top]
  rw [neg_inf]

theorem max0_at (R : Fin 1024) :
    k0_pay10 (F := Ideal) Q0 Q1 KC K0 (ix2 R 0)
      = max (k0_pay7 (F := Ideal) Q0 Q1 KC (ix2 R 0)) (top fun k : Fin 2048 => k0_pay6 (F := Ideal) Q0 Q1 K0 (ix2 R k)) := by
  pointwise [k0_pay10, top]
  rw [neg_inf]

theorem weightC_at (R : Fin 1024) (k : Fin 256) :
    k0_pay8 (F := Ideal) Q0 Q1 KC (ix2 R k)
      = Ideal.exp (k0_pay5 (F := Ideal) Q0 Q1 KC (ix2 R k) - k0_pay7 (F := Ideal) Q0 Q1 KC (ix2 R 0)) := by
  pointwise [k0_pay8]

theorem weight0_at (R : Fin 1024) (k : Fin 2048) :
    k0_pay11 (F := Ideal) Q0 Q1 KC K0 (ix2 R k)
      = Ideal.exp (k0_pay6 (F := Ideal) Q0 Q1 K0 (ix2 R k) - k0_pay10 (F := Ideal) Q0 Q1 KC K0 (ix2 R 0)) := by
  pointwise [k0_pay11]

theorem weight0'_at (R : Fin 1024) (k : Fin 2048) :
    k0_pay15 (F := Ideal) Q0 Q1 KC K0 (ix2 R k) = k0_pay11 (F := Ideal) Q0 Q1 KC K0 (ix2 R k) := by
  pointwise [k0_pay15]

theorem move0_at (R : Fin 1024) :
    k0_pay12 (F := Ideal) Q0 Q1 KC K0 (ix2 R 0)
      = Ideal.exp (k0_pay7 (F := Ideal) Q0 Q1 KC (ix2 R 0) - k0_pay10 (F := Ideal) Q0 Q1 KC K0 (ix2 R 0)) := by
  pointwise [k0_pay12]

theorem den0_at (R : Fin 1024) :
    k0_pay13 (F := Ideal) Q0 Q1 KC K0 (ix2 R 0)
      = k0_pay12 (F := Ideal) Q0 Q1 KC K0 (ix2 R 0) * (∑ k : Fin 256, k0_pay8 (F := Ideal) Q0 Q1 KC (ix2 R k))
        + ∑ k : Fin 2048, k0_pay11 (F := Ideal) Q0 Q1 KC K0 (ix2 R k) := by
  pointwise [k0_pay13]

theorem accC_at (R : Fin 1024) (y : Fin 128) :
    k0_pay14 (F := Ideal) Q0 Q1 KC K0 VC (ix2 R y)
      = k0_pay12 (F := Ideal) Q0 Q1 KC K0 (ix2 R 0) * ∑ k : Fin 256, k0_pay8 (F := Ideal) Q0 Q1 KC (ix2 R k) * VC (ix2 k y) := by
  pointwise [k0_pay14]

/-- The last pass and the division, from what the passes before it carried. -/
theorem last_at (s : FVec Ideal S1024x2048 .f32) (μ d : FVec Ideal S1024x1 .f32) (a : FVec Ideal S1024x128 .f32)
    (w : FVec Ideal S1024x2048 .bf16) (R : Fin 1024) (y : Fin 128) :
    k0_pay1 (F := Ideal) s μ d a w V0 V1 (ix2 R y)
      = Ideal.div
          (Ideal.exp (μ (ix2 R 0) - max (μ (ix2 R 0)) (top fun k : Fin 2048 => s (ix2 R k)))
              * (a (ix2 R y) + ∑ k : Fin 2048, w (ix2 R k) * V0 (ix2 k y))
            + ∑ k : Fin 2048, Ideal.exp (s (ix2 R k) - max (μ (ix2 R 0)) (top fun k : Fin 2048 => s (ix2 R k))) * V1 (ix2 k y))
          (Ideal.exp (μ (ix2 R 0) - max (μ (ix2 R 0)) (top fun k : Fin 2048 => s (ix2 R k))) * d (ix2 R 0)
            + ∑ k : Fin 2048, Ideal.exp (s (ix2 R k) - max (μ (ix2 R 0)) (top fun k : Fin 2048 => s (ix2 R k)))) := by
  rw [top, ← neg_inf]
  pointwise [k0_pay1]

/-- The scores of a row against a block of keys. -/
def rowScore {n : Nat} (K : FVec Ideal ⟨2, ![n, 128]⟩ .bf16) (R : Fin 1024) (k : Fin n) : EReal :=
  ∑ e, k0_pay4 (F := Ideal) Q0 Q1 (ix2 R e) * K (ix2 k e)

/-- The three passes of one row are attention over all its keys. -/
theorem passes_at (R : Fin 1024) (y : Fin 128) (hC : ∀ k, rowScore Q0 Q1 KC R k ≠ ⊤) (hC0 : rowScore Q0 Q1 KC R 0 ≠ ⊥)
    (h0 : ∀ k, rowScore Q0 Q1 K0 R k ≠ ⊤) (h1 : ∀ k, rowScore Q0 Q1 K1 R k ≠ ⊤) :
    k0_pay1 (F := Ideal) (k0_pay9 Q0 Q1 K1) (k0_pay10 Q0 Q1 KC K0) (k0_pay13 Q0 Q1 KC K0) (k0_pay14 Q0 Q1 KC K0 VC)
        (k0_pay15 Q0 Q1 KC K0) V0 V1 (ix2 R y)
      = attn (Sum.elim (Sum.elim (rowScore Q0 Q1 KC R) (rowScore Q0 Q1 K0 R)) (rowScore Q0 Q1 K1 R))
          (Sum.elim (Sum.elim (fun k : Fin 256 => VC (ix2 k y)) fun k : Fin 2048 => V0 (ix2 k y)) fun k : Fin 2048 => V1 (ix2 k y)) := by
  have H := (((Rep.start (rowScore Q0 Q1 KC R) (fun k : Fin 256 => VC (ix2 k y)) hC 0 hC0).step
    (rowScore Q0 Q1 K0 R) (fun k : Fin 2048 => V0 (ix2 k y)) h0).step
    (rowScore Q0 Q1 K1 R) (fun k : Fin 2048 => V1 (ix2 k y)) h1).finish
  rw [← H, last_at]
  simp only [weight0'_at, accC_at, den0_at, move0_at, weight0_at, weightC_at, max0_at, maxC_at, score0_at, score1_at, scoreC_at]
  rfl

end Cert.GqaKernel

end
-- ==== Proof.GqaValue.lean ====
/-
  The attention kernel's result array, written by hand: each block it writes is the block of `Gqa.out`, so the array after
  the run is `Gqa.out` of the two argument arrays.
-/
module

public import proofs.«01_k».proof.Proof.GqaKernel

@[expose] public section

set_option maxRecDepth 16384

noncomputable section

namespace Cert.GqaKernel

open Cert.KernelIdeal Cert.KernelIdeal.Gen Idealize.ShloMosaic Idealize.ShloMosaic.TcCoe Cert.Attention

variable (x0 : Vec Ideal S512x256 .bf16) (x1 x2 : Vec Ideal S4096x128 .bf16) (x3 x4 : Vec Ideal S256x128 .bf16)

/-- The stored block at an index: query head `y1 / 128` of the two, lane `y1 % 128`. -/
theorem out_block (y0 : Fin 512) (y1 : Fin 256) :
    out0_5 (F := Ideal) x0 x1 x2 x3 x4 (ix2 y0 y1)
      = k0_pay1 (F := Ideal) (k0_pay16 x0 x1 x2 x3 x4) (k0_pay17 x0 x1 x2 x3 x4) (k0_pay18 x0 x1 x2 x3 x4) (k0_pay19 x0 x1 x2 x3 x4)
          (k0_pay20 x0 x1 x2 x3 x4) (View.ld x2 r0_3) (View.ld x2 r0_4)
          (ix2 ⟨y0.val + 512 * (y1.val / 128), by omega⟩ ⟨y1.val % 128, by omega⟩) := by
  unfold out0_5
  canon_tiles x h
  · have h0 : y0.val = (x 0).val := h0
    have h1 : y1.val = 128 + (x 1).val := h1
    obtain ⟨a, b, rfl⟩ : ∃ a b, x = ix2 a b := ⟨x 0, x 1, by funext k; match k with | ⟨0, _⟩ => rfl | ⟨1, _⟩ => rfl⟩
    pointwise [k0_pay3]
    have h0 : y0.val = a.val := h0
    have h1 : y1.val = 128 + b.val := h1
    congr 2 <;> exact Fin.ext (by simp only []; omega)
  · have h0 : y0.val = (x 0).val := h0
    have h1 : y1.val = (x 1).val := h1
    obtain ⟨a, b, rfl⟩ : ∃ a b, x = ix2 a b := ⟨x 0, x 1, by funext k; match k with | ⟨0, _⟩ => rfl | ⟨1, _⟩ => rfl⟩
    pointwise [k0_pay2]
    have h0 : y0.val = a.val := h0
    have h1 : y1.val = b.val := h1
    congr 2 <;> exact Fin.ext (by simp only []; omega)

theorem ld_q0 (y : Fin 512) (e : Fin 128) : View.ld x0 r0_0 (ix2 y e) = x0 (ix2 y ⟨e.val, by omega⟩) := by
  exact View.ld_unit_apply_of _ _ _ _ _ _ fun a => by
    match a with
    | ⟨0, _⟩ => simp
    | ⟨1, _⟩ => simp
theorem ld_q1 (y : Fin 512) (e : Fin 128) : View.ld x0 r0_1 (ix2 y e) = x0 (ix2 y ⟨128 + e.val, by omega⟩) := by
  exact View.ld_unit_apply_of _ _ _ _ _ _ fun a => by
    match a with
    | ⟨0, _⟩ => simp
    | ⟨1, _⟩ => simp
theorem ld_c (y : Fin 256) (e : Fin 128) : View.ld x3 r0_2 (ix2 y e) = x3 (ix2 y e) := by
  exact View.ld_unit_apply_of _ _ _ _ _ _ fun a => by
    match a with
    | ⟨0, _⟩ => simp
    | ⟨1, _⟩ => simp
theorem ld_l0 (y : Fin 2048) (e : Fin 128) : View.ld x1 r0_3 (ix2 y e) = x1 (ix2 ⟨y.val, by omega⟩ e) := by
  exact View.ld_unit_apply_of _ _ _ _ _ _ fun a => by
    match a with
    | ⟨0, _⟩ => simp
    | ⟨1, _⟩ => simp
theorem ld_l1 (y : Fin 2048) (e : Fin 128) : View.ld x1 r0_4 (ix2 y e) = x1 (ix2 ⟨2048 + y.val, by omega⟩ e) := by
  exact View.ld_unit_apply_of _ _ _ _ _ _ fun a => by
    match a with
    | ⟨0, _⟩ => simp
    | ⟨1, _⟩ => simp

theorem idx : ∀ t : Fin cfg0.N,
    win0_0.index t = ![win0_5.index t 0, 6 + win0_5.index t 1] ∧ win0_1.index t = ![win0_5.index t 0 / 8, 16 + win0_5.index t 1]
      ∧ win0_2.index t = ![win0_5.index t 0 / 8, 18 + win0_5.index t 1] ∧ win0_3.index t = ![win0_5.index t 0 / 8, 16 + win0_5.index t 1]
      ∧ win0_4.index t = ![win0_5.index t 0 / 8, 18 + win0_5.index t 1] ∧ win0_5.index t 0 < 32 ∧ win0_5.index t 1 < 2 :=
  (by decide +kernel : ∀ t : Fin grid0.N,
    win0_0.index t = ![win0_5.index t 0, 6 + win0_5.index t 1] ∧ win0_1.index t = ![win0_5.index t 0 / 8, 16 + win0_5.index t 1]
      ∧ win0_2.index t = ![win0_5.index t 0 / 8, 18 + win0_5.index t 1] ∧ win0_3.index t = ![win0_5.index t 0 / 8, 16 + win0_5.index t 1]
      ∧ win0_4.index t = ![win0_5.index t 0 / 8, 18 + win0_5.index t 1] ∧ win0_5.index t 0 < 32 ∧ win0_5.index t 1 < 2)

variable (m : (ℓ : Loc nD τ sig) → Buf (Elt Ideal) ℓ) (c : Dev nD) (t : Fin cfg0.N)

theorem q_blk (y : Fin 512) (e : Fin 256) :
    iblk m c 0 t (ix2 y e) = m ((c : Thread nD τ).loc main_arg0)
      (ix2 ⟨win0_5.index t 0 * 512 + y.val, by have := idx t; omega⟩ ⟨1536 + (win0_5.index t 1 * 256 + e.val), by have := idx t; omega⟩) := by
  blk_ext [iblk, V, idx t]
theorem k_blk (y : Fin 4096) (e : Fin 128) :
    iblk m c 1 t (ix2 y e) = m ((c : Thread nD τ).loc main_arg0)
      (ix2 ⟨win0_5.index t 0 / 8 * 4096 + y.val, by have := idx t; omega⟩ ⟨2048 + (win0_5.index t 1 * 128 + e.val), by have := idx t; omega⟩) := by
  blk_ext [iblk, V, idx t]
theorem v_blk (y : Fin 4096) (e : Fin 128) :
    iblk m c 2 t (ix2 y e) = m ((c : Thread nD τ).loc main_arg0)
      (ix2 ⟨win0_5.index t 0 / 8 * 4096 + y.val, by have := idx t; omega⟩ ⟨2304 + (win0_5.index t 1 * 128 + e.val), by have := idx t; omega⟩) := by
  blk_ext [iblk, V, idx t]
theorem kc_blk (y : Fin 256) (e : Fin 128) :
    iblk m c 3 t (ix2 y e) = m ((c : Thread nD τ).loc main_arg1)
      (ix2 ⟨win0_5.index t 0 / 8 * 256 + y.val, by have := idx t; omega⟩ ⟨2048 + (win0_5.index t 1 * 128 + e.val), by have := idx t; omega⟩) := by
  blk_ext [iblk, V, idx t]
theorem vc_blk (y : Fin 256) (e : Fin 128) :
    iblk m c 4 t (ix2 y e) = m ((c : Thread nD τ).loc main_arg1)
      (ix2 ⟨win0_5.index t 0 / 8 * 256 + y.val, by have := idx t; omega⟩ ⟨2304 + (win0_5.index t 1 * 128 + e.val), by have := idx t; omega⟩) := by
  blk_ext [iblk, V, idx t]

/-- A finite sum of products of finite numbers is finite. -/
theorem dot_finite {n : ℕ} (f g : Fin n → EReal) (hf : ∀ e, f e ≠ ⊤ ∧ f e ≠ ⊥) (hg : ∀ e, g e ≠ ⊤ ∧ g e ≠ ⊥) :
    ∑ e, f e * g e ≠ ⊤ ∧ ∑ e, f e * g e ≠ ⊥ := by
  have h : ∀ s : Finset (Fin n), ∃ r : ℝ, ∑ e ∈ s, f e * g e = (r : EReal) := by
    classical
    intro s
    induction s using Finset.induction_on with
    | empty => exact ⟨0, by simp⟩
    | insert a s ha ih =>
      obtain ⟨r, hr⟩ := ih
      refine ⟨(f a).toReal * (g a).toReal + r, ?_⟩
      rw [Finset.sum_insert ha, hr, EReal.coe_add, EReal.coe_mul, EReal.coe_toReal (hf a).1 (hf a).2, EReal.coe_toReal (hg a).1 (hg a).2]
  obtain ⟨r, hr⟩ := h Finset.univ
  rw [hr]
  exact ⟨EReal.coe_ne_top r, EReal.coe_ne_bot r⟩

/-- The latents' keys, in the kernel's two passes. -/
def halves : Fin 2048 ⊕ Fin 2048 ≃ Fin 4096 := finSumFinEquiv

theorem halves_inl (k : Fin 2048) : (halves (Sum.inl k)).val = k.val := rfl

theorem halves_inr (k : Fin 2048) : (halves (Sum.inr k)).val = 2048 + k.val := rfl

/-- All keys, in the kernel's three passes. -/
def passes : (Fin 256 ⊕ Fin 2048) ⊕ Fin 2048 ≃ Fin 256 ⊕ Fin 4096 :=
  (Equiv.sumAssoc _ _ _).trans (Equiv.sumCongr (Equiv.refl _) halves)

/-- The queries and the keys are finite numbers. -/
structure Finite (xl : (⟨2, ![16384, 6656]⟩ : Shape).Idx → EReal) (xc : (⟨2, ![1024, 6656]⟩ : Shape).Idx → EReal) : Prop where
  lat : ∀ r (e : Fin 6656), 1536 ≤ e.val → e.val < 2304 → xl (ix2 r e) ≠ ⊤ ∧ xl (ix2 r e) ≠ ⊥
  ctx : ∀ r (e : Fin 6656), 2048 ≤ e.val → e.val < 2304 → xc (ix2 r e) ≠ ⊤ ∧ xc (ix2 r e) ≠ ⊥

section Block

variable (xl : (⟨2, ![16384, 6656]⟩ : Shape).Idx → EReal) (xc : (⟨2, ![1024, 6656]⟩ : Shape).Idx → EReal)
  (hl : m ((c : Thread nD τ).loc main_arg0) = xl) (hc : m ((c : Thread nD τ).loc main_arg1) = xc)
  (y0 : Fin 512) (y1 : Fin 256) (r : Fin 16384) (k : Fin 512)
  (hr : r.val = win0_5.index t 0 * 512 + y0.val) (hk : k.val = win0_5.index t 1 * 256 + y1.val)

include hl hr hk in
theorem q_row (e : Fin 128) :
    k0_pay4 (F := Ideal) (View.ld (iblk m c 0 t) r0_0) (View.ld (iblk m c 0 t) r0_1) (ix2 ⟨y0.val + 512 * (y1.val / 128), by omega⟩ e)
      = Gqa.query xl r k e := by
  have hi := idx t
  rw [q_at, Gqa.query]
  split
  · rename_i h
    have h : y0.val + 512 * (y1.val / 128) < 512 := h
    rw [ld_q0, q_blk, hl]
    congr 2 <;> exact Fin.ext (by simp only []; omega)
  · rename_i h
    have h : ¬ y0.val + 512 * (y1.val / 128) < 512 := h
    rw [ld_q1, q_blk, hl]
    congr 2 <;> exact Fin.ext (by simp only []; omega)

include hl hc hr hk in
theorem block_eq (hf : Finite xl xc) :
    out0_5 (F := Ideal) (iblk m c 0 t) (iblk m c 1 t) (iblk m c 2 t) (iblk m c 3 t) (iblk m c 4 t) (ix2 y0 y1) = Gqa.out xl xc r k := by
  have hi := idx t
  have sC : ∀ j, rowScore (View.ld (iblk m c 0 t) r0_0) (View.ld (iblk m c 0 t) r0_1) (View.ld (iblk m c 3 t) r0_2)
      ⟨y0.val + 512 * (y1.val / 128), by omega⟩ j = Gqa.scoreCtx xl xc r k j := by
    intro j
    unfold rowScore Gqa.scoreCtx Gqa.keyCtx
    refine Finset.sum_congr rfl fun e _ => ?_
    rw [q_row m c t xl hl y0 y1 r k hr hk, ld_c, kc_blk, hc]
    congr 3 <;> exact Fin.ext (by simp only []; omega)
  have s0 : ∀ j, rowScore (View.ld (iblk m c 0 t) r0_0) (View.ld (iblk m c 0 t) r0_1) (View.ld (iblk m c 1 t) r0_3)
      ⟨y0.val + 512 * (y1.val / 128), by omega⟩ j = Gqa.scoreLat xl r k (halves (Sum.inl j)) := by
    intro j
    unfold rowScore Gqa.scoreLat Gqa.keyLat
    refine Finset.sum_congr rfl fun e _ => ?_
    rw [q_row m c t xl hl y0 y1 r k hr hk, ld_l0, k_blk, hl]
    congr 3 <;> exact Fin.ext (by simp only [halves_inl]; omega)
  have s1 : ∀ j, rowScore (View.ld (iblk m c 0 t) r0_0) (View.ld (iblk m c 0 t) r0_1) (View.ld (iblk m c 1 t) r0_4)
      ⟨y0.val + 512 * (y1.val / 128), by omega⟩ j = Gqa.scoreLat xl r k (halves (Sum.inr j)) := by
    intro j
    unfold rowScore Gqa.scoreLat Gqa.keyLat
    refine Finset.sum_congr rfl fun e _ => ?_
    rw [q_row m c t xl hl y0 y1 r k hr hk, ld_l1, k_blk, hl]
    congr 3 <;> exact Fin.ext (by simp only [halves_inr]; omega)
  have fC : ∀ j, Gqa.scoreCtx xl xc r k j ≠ ⊤ ∧ Gqa.scoreCtx xl xc r k j ≠ ⊥ := fun j =>
    dot_finite _ _ (fun e => hf.lat _ _ (by simp only []; omega) (by simp only []; omega))
      (fun e => hf.ctx _ _ (by simp only []; omega) (by simp only []; omega))
  have fL : ∀ j, Gqa.scoreLat xl r k j ≠ ⊤ ∧ Gqa.scoreLat xl r k j ≠ ⊥ := fun j =>
    dot_finite _ _ (fun e => hf.lat _ _ (by simp only []; omega) (by simp only []; omega))
      (fun e => hf.lat _ _ (by simp only []; omega) (by simp only []; omega))
  rw [out_block]
  unfold k0_pay16 k0_pay17 k0_pay18 k0_pay19 k0_pay20
  rw [passes_at]
  rotate_left
  · exact fun j h => (fC j).1 ((sC j).symm.trans h)
  · exact fun h => (fC 0).2 ((sC 0).symm.trans h)
  · exact fun j h => (fL _).1 ((s0 j).symm.trans h)
  · exact fun j h => (fL _).1 ((s1 j).symm.trans h)
  rw [Gqa.out, ← attn_comp passes]
  congr 1
  · funext j
    rcases j with (j | j) | j
    · exact sC j
    · exact s0 j
    · exact s1 j
  · funext j
    rcases j with (j | j) | j
    · show View.ld (iblk m c 4 t) r0_2 (ix2 j _) = Gqa.valCtx xc r k j
      rw [ld_c, vc_blk, hc, Gqa.valCtx]
      congr 2 <;> exact Fin.ext (by simp only []; omega)
    · show View.ld (iblk m c 2 t) r0_3 (ix2 j _) = Gqa.valLat xl r k (halves (Sum.inl j))
      rw [ld_l0, v_blk, hl, Gqa.valLat]
      congr 2 <;> exact Fin.ext (by simp only [halves_inl]; omega)
    · show View.ld (iblk m c 2 t) r0_4 (ix2 j _) = Gqa.valLat xl r k (halves (Sum.inr j))
      rw [ld_l1, v_blk, hl, Gqa.valLat]
      congr 2 <;> exact Fin.ext (by simp only [halves_inr]; omega)

end Block

/-- The result array after the run. -/
theorem result (xl : (⟨2, ![16384, 6656]⟩ : Shape).Idx → EReal) (xc : (⟨2, ![1024, 6656]⟩ : Shape).Idx → EReal)
    (hl : m ((c : Thread nD τ).loc main_arg0) = xl) (hc : m ((c : Thread nD τ).loc main_arg1) = xc) (hf : Finite xl xc) :
    (dats m 0 c).arrAt 5 cfg0.N = fun i : S16384x512.Idx => Gqa.out xl xc (i 0) (i 1) := by
  refine (dats m 0 c).arrAt_eq_of_covers 5 _ (by decide +kernel) fun t _ y => ?_
  have e0 : (((cfg0.win 5).blk t).view.emb y 0).val = win0_5.index t 0 * 512 + (y 0).val := by blk_simp
  have e1 : (((cfg0.win 5).blk t).view.emb y 1).val = win0_5.index t 1 * 256 + (y 1).val := by blk_simp
  have hy : y = ix2 (y 0) (y 1) := by funext k; match k with | ⟨0, _⟩ => rfl | ⟨1, _⟩ => rfl
  have h := block_eq m c t xl xc hl hc (y 0) (y 1) _ _ e0 e1 hf
  blk_simp
  rw [after0_5]
  exact (congrArg _ hy).trans h

end Cert.GqaKernel

end
-- ==== Proof.GqaClaim.lean ====
/-
  The attention's claim, written by hand: from the two programs' runs, their results named, and the precondition read as
  finiteness of the queries and keys.
-/
module

public import proofs.«01_k».proof.Defs
public import proofs.«01_k».proof.Proof.GqaReference
public import proofs.«01_k».proof.Proof.GqaValue
public import proofs.«01_k».proof.Proof.Gen.ReferenceIdeal.Run
public import proofs.«01_k».proof.Proof.Gen.Pre_finite_scores
public import Idealize.ShloMosaic.Lib.ReduceAll

@[expose] public section

set_option maxRecDepth 16384

noncomputable section

namespace Cert.GqaClaim

open Idealize.ShloMosaic Idealize.ShloMosaic.TcCoe Idealize.SL.Sem

/-- A number whose absolute value is below the infinity is finite. -/
theorem finite_of_abs_lt (x y : EReal) (hxy : x = y)
    (h : BitVec.ofBool (decide (FloatOps.absf (F := Ideal) (φ := .f32) x < Ideal.ofBits .f32 2139095040#32)) = 1#1) : y ≠ ⊤ ∧ y ≠ ⊥ := by
  subst hxy
  have ht : Ideal.ofBits .f32 2139095040#32 = ⊤ := by simp [Ideal.ofBits, Ideal.ieee]
  rw [ht] at h
  constructor
  · rintro rfl
    have h' : FloatOps.absf (F := Ideal) (φ := .f32) (⊤ : EReal) = (⊤ : EReal) := by
      show max (⊤ : EReal) (-⊤) = ⊤
      simp
    simp [h'] at h
  · rintro rfl
    have h' : FloatOps.absf (F := Ideal) (φ := .f32) (⊥ : EReal) = (⊤ : EReal) := by
      show max (⊥ : EReal) (-⊥) = ⊤
      simp
    simp [h'] at h

/-- The precondition: the queries and keys are finite. -/
theorem finite [Cert.Pre_finite_scores.Facts] (xl : (⟨2, ![16384, 6656]⟩ : Shape).Idx → EReal) (xc : (⟨2, ![1024, 6656]⟩ : Shape).Idx → EReal)
    (h : Cert.Pre_finite_scores.fn (F := Ideal) xl xc = fun _ => 1#1) : GqaKernel.Finite xl xc := by
  have h0 := congrFun h (fun a => a.elim0)
  unfold Cert.Pre_finite_scores.fn at h0
  have h1 := IntOp.andi_eq_one.mp h0
  constructor
  · intro r e he he'
    have := Host.reduce_andi_all _ _ _ _ _ h1.1 (ix2 r ⟨e.val - 1536, by omega⟩)
    pointwise at this
    exact finite_of_abs_lt _ _ (congrArg xl (congrArg (ix2 r) (Fin.ext (by simp only []; omega)))) this
  · intro r e he he'
    have := Host.reduce_andi_all _ _ _ _ _ h1.2 (ix2 r ⟨e.val - 2048, by omega⟩)
    pointwise at this
    exact finite_of_abs_lt _ _ (congrArg xc (congrArg (ix2 r) (Fin.ext (by simp only []; omega)))) this

theorem algebraic : Cert.algebraic_KernelIdeal_ReferenceIdeal_pre_finite_scores := by
  intro m g m' g' hpre hargs
  refine ⟨fun c => fun i : Cert.KernelIdeal.S16384x512.Idx =>
    Gqa.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (i 0) (i 1), ?_, ?_⟩
  · refine (θ_run _ _ _).mono (fun r h c => ?_) (Cert.KernelIdeal.Value.run_blocks m g)
    exact ⟨(h c).1.trans (GqaKernel.result m c _ _ rfl rfl (finite _ _ (hpre c))), (h c).2⟩
  · refine (θ_run _ _ _).mono (fun r h c => ?_) (Cert.ReferenceIdeal.Value.run m' g')
    refine ⟨(h c).1.trans ?_, (h c).2⟩
    rw [Cert.ReferenceIdeal.Read.val_main_v39_eq, (hargs c).1, (hargs c).2]
    funext i
    have hi : i = ix2 (i 0) (i 1) := by funext k; match k with | ⟨0, _⟩ => rfl | ⟨1, _⟩ => rfl
    rw [hi]
    exact GqaReference.out_at _ _ _ _

end Cert.GqaClaim

end
-- ==== Proof.FfnSpec.lean ====
/-
  The gated feed-forward layer with its residual as a function of the argument arrays, written by hand: the function both
  programs are shown to compute. Row `r` belongs to sequence `r / 4096`; the modulation array has nine rows a sequence,
  and a layer uses three of them from `k0` on: shift, scale and gate.
-/
module

public import Idealize.ShloMosaic.Lib.Pointwise
public import Idealize.ShloMosaic.PureOps.Ideal.Laws
public import Mathlib.Algebra.BigOperators.Fin
public import Mathlib.Logic.Equiv.Fin.Basic

@[expose] public section

noncomputable section

namespace Cert.Ffn

open Idealize.ShloMosaic

/-- One over the root mean square of 2048 numbers, a small constant added under the root. -/
def rmsInv (f : Fin 2048 → EReal) : EReal :=
  Ideal.rsqrt (Ideal.div (∑ k : Fin 2048, f k * f k) (Ideal.ofBits .f32 0x45000000#32) + Ideal.ofBits .f32 0x358637BD#32)

/-- The sigmoid-weighted unit times its partner. -/
def glu (g u : EReal) : EReal := g * Ideal.logistic g * u

section
variable (x : (⟨2, ![16384, 2048]⟩ : Shape).Idx → EReal) (md : (⟨3, ![72, 1, 2048]⟩ : Shape).Idx → EReal)
  (gain : (⟨2, ![1, 2048]⟩ : Shape).Idx → EReal) (wg wu : (⟨2, ![2048, 5632]⟩ : Shape).Idx → EReal)
  (wd : (⟨2, ![5632, 2048]⟩ : Shape).Idx → EReal) (k0 : Fin 7)

/-- Shift, scale and gate of the row's sequence. -/
def shift (r : Fin 16384) (k : Fin 2048) : EReal := md (ix3 ⟨r.val / 4096 * 9 + k0.val, by omega⟩ 0 k)
def scale (r : Fin 16384) (k : Fin 2048) : EReal := md (ix3 ⟨r.val / 4096 * 9 + k0.val + 1, by omega⟩ 0 k)
def gate (r : Fin 16384) (k : Fin 2048) : EReal := md (ix3 ⟨r.val / 4096 * 9 + k0.val + 2, by omega⟩ 0 k)

/-- The normalised, modulated row. -/
def hid (r : Fin 16384) (k : Fin 2048) : EReal :=
  x (ix2 r k) * rmsInv (fun k => x (ix2 r k)) * gain (ix2 0 k) * (1 + scale md k0 r k) + shift md k0 r k

/-- The hidden unit `j`: gate and up projections, combined. -/
def act (r : Fin 16384) (j : Fin 5632) : EReal :=
  glu (∑ k : Fin 2048, hid x md gain k0 r k * wg (ix2 k j)) (∑ k : Fin 2048, hid x md gain k0 r k * wu (ix2 k j))

/-- The down projection. -/
def down (r : Fin 16384) (d : Fin 2048) : EReal := ∑ j : Fin 5632, act x md gain wg wu k0 r j * wd (ix2 j d)

/-- The residual plus half the gate times the down projection. -/
def res (r : Fin 16384) (d : Fin 2048) : EReal :=
  x (ix2 r d) + Ideal.ofBits .f32 0x3F000000#32 * gate md k0 r d * down x md gain wg wu wd k0 r d

/-- The same, normalised with the weight `fin`. -/
def out (fin : (⟨2, ![1, 2048]⟩ : Shape).Idx → EReal) (r : Fin 16384) (d : Fin 2048) : EReal :=
  res x md gain wg wu wd k0 r d * rmsInv (fun d => res x md gain wg wu wd k0 r d) * fin (ix2 0 d)

end

/-! ## A sum of 5632 numbers taken in 22 pieces of 256, two at a time -/

/-- Piece `s`. -/
def stretch (f : Fin 5632 → EReal) (s : ℕ) : EReal :=
  if h : s < 22 then ∑ e : Fin 256, f ⟨256 * s + e.val, by omega⟩ else 0

/-- The first `2 n` pieces. -/
def partialSum (f : Fin 5632 → EReal) : ℕ → EReal
  | 0 => 0
  | n + 1 => partialSum f n + stretch f (2 * n) + stretch f (2 * n + 1)

theorem partialSum_range (f : Fin 5632 → EReal) (n : ℕ) : partialSum f n = ∑ s ∈ Finset.range (2 * n), stretch f s := by
  induction n with
  | zero => rfl
  | succ n ih =>
    rw [show 2 * (n + 1) = (2 * n + 1) + 1 by omega, Finset.sum_range_succ, Finset.sum_range_succ, ← ih]
    rfl

theorem partialSum_all (f : Fin 5632 → EReal) : partialSum f 11 = ∑ j : Fin 5632, f j := by
  rw [partialSum_range, Finset.sum_range]
  have e : ∑ j : Fin 5632, f j = ∑ p : Fin 22 × Fin 256, f (finProdFinEquiv p) :=
    (Equiv.sum_comp (finProdFinEquiv (m := 22) (n := 256)) f).symm
  rw [e, Fintype.sum_prod_type]
  refine Finset.sum_congr rfl fun s _ => ?_
  have hs : s.val < 22 := s.isLt
  rw [stretch, dif_pos hs]
  refine Finset.sum_congr rfl fun e _ => congrArg f (Fin.ext ?_)
  show 256 * s.val + e.val = e.val + 256 * s.val
  omega

end Cert.Ffn

end
-- ==== Proof.FfnLoops.lean ====
/-
The two counted loops of the feed-forward kernel, read back.

The first loop normalises and modulates a block of activations 32 rows at a time and clears the accumulator; the
second adds the gated result to the residual and normalises it, again 32 rows at a time, 128 rows a trip.  Each is
read here as ONE function of whole blocks, row by row.
-/
module

public import proofs.«01_k».proof.Proof.Gen.Kernel2Ideal.Loops
public import proofs.«01_k».proof.Proof.Gen.Kernel2Ideal.Frame
public import Idealize.ShloMosaic.Lib.WritesUnit
public import Idealize.ShloMosaic.Lib.Pointwise

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Chunks of 32 rows -/

/-- Rows `32 q … 32 q + 31` of a block. -/
def chunk {α : Type} (X : S1024x2048.Idx → α) (q : Fin 32) : S32x2048.Idx → α :=
  fun z => X (ix2 (n0 := 1024) (n1 := 2048) ⟨32 * q.val + (z 0).val, by
    have h : (z 0).val < 32 := (z 0).isLt
    omega⟩ ⟨(z 1).val, (z 1).isLt⟩)

/-- The chunk a row of the block lies in. -/
def chunkOf (y : S1024x2048.Idx) : Fin 32 := ⟨(y 0).val / 32, by
  have h : (y 0).val < 1024 := (y 0).isLt
  omega⟩

/-- Where in its chunk an index of the block lies. -/
def inChunk (y : S1024x2048.Idx) : S32x2048.Idx :=
  ix2 (n0 := 32) (n1 := 2048) ⟨(y 0).val % 32, Nat.mod_lt _ (by decide)⟩ ⟨(y 1).val, (y 1).isLt⟩

/-- A load of 32 whole rows reads the chunk. -/
theorem readAt_rows {e : EltTy} {sp : Space} (v : View sig .tc sp S1024x2048 e) (G : v.ty.Contents (Elt F)) {off : Fin 2 → ℕ}
    (inb : ∀ a, off a + S32x2048.size a ≤ S1024x2048.size a) (q : Fin 32) (hoff : off = ![32 * q.val, 0]) :
    v.readAt (Elt F) (Rect.unit (s := S1024x2048) off S32x2048.size inb).toLoadRect G = chunk (v.read (Elt F) G) q := by
  subst hoff
  funext z
  show v.read (Elt F) G _ = v.read (Elt F) G _
  congr 1
  funext a
  match a with
  | ⟨0, _⟩ => exact Fin.ext (by show 32 * q.val + 1 * (z 0).val = 32 * q.val + (z 0).val; omega)
  | ⟨1, _⟩ => exact Fin.ext (by show 0 + 1 * (z 1).val = (z 1).val; omega)

/-- Reading after a store of 32 whole rows: the stored rows in that chunk, what was there before elsewhere. -/
theorem read_store_rows {e : EltTy} {sp : Space} (v : View sig .tc sp S1024x2048 e) (f : v.ty.Contents (Elt F)) {off : Fin 2 → ℕ}
    (inb : ∀ a, off a + S32x2048.size a ≤ S1024x2048.size a) (q : Fin 32) (hoff : off = ![32 * q.val, 0])
    (w : S32x2048.Idx → Elt F e) (L : List (View.Piece (Elt F) S1024x2048 e)) (y : S1024x2048.Idx) :
    v.read (Elt F) (v.writes (Elt F) f ((⟨Rect.unit (s := S1024x2048) off S32x2048.size inb, w⟩ : View.Piece (Elt F) S1024x2048 e) :: L)) y
      = if (y 0).val / 32 = q.val then w (inChunk y) else v.read (Elt F) (v.writes (Elt F) f L) y := by
  by_cases h : (y 0).val / 32 = q.val
  · rw [if_pos h]
    exact View.read_writes_cons_rows_of_mem v f inb w L y (inChunk y) hoff
      (by show (y 0).val = 32 * q.val + (y 0).val % 32; omega) rfl
  · rw [if_neg h]
    exact View.read_writes_cons_rows_of_not_mem v f inb w L y hoff rfl (W := 32) (by omega)

/-! ## The normalised, modulated activations -/

/-- A block of activations normalised row by row and modulated: `gain` the norm's weight, `scale` and `shift` the
    modulation. -/
def hBlock (gain : Vec F S1x2048 .f32) (scale shift : Vec F S1x1x2048 .f32) (x : Vec F S1024x2048 .f32) : Vec F S1024x2048 .bf16 :=
  fun y => k0_pay15 gain scale shift (chunk x (chunkOf y)) (inChunk y)

/-- The cleared accumulator. -/
def zeroBlock : Vec F S1024x2048 .f32 := fun y => (k0_pay16 : FVec F S32x2048 .f32) (inChunk y)

/-- The residual plus half the gate times the accumulated product, normalised row by row with weight `fin`. -/
def epiBlock (gate : Vec F S1x1x2048 .f32) (fin : Vec F S1x2048 .f32) (x o : Vec F S1024x2048 .f32) : Vec F S1024x2048 .f32 :=
  fun y => k0_pay11 (k0_pay6 (k0_pay4 gate) (chunk x (chunkOf y)) (chunk o (chunkOf y))) fin (inChunk y)

section
variable (c : Dev nD) (i : grid0.Coords)
  (arg2 : Memref sig .tc .vmem S1024x2048 .f32) (harg2 : arg2.IsWhole) (arg3 : Memref sig .tc .vmem S1x1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S1x2048 .f32) (harg6 : arg6.IsWhole) (arg7 : Memref sig .tc .vmem S2048x512 .bf16) (harg7 : arg7.IsWhole)
  (arg8 : Memref sig .tc .vmem S2048x512 .bf16) (harg8 : arg8.IsWhole) (arg9 : Memref sig .tc .vmem S512x2048 .bf16) (harg9 : arg9.IsWhole)
  (arg10 : Memref sig .tc .vmem S1x2048 .f32) (harg10 : arg10.IsWhole) (arg11 : Memref sig .tc .vmem S1024x2048 .f32) (harg11 : arg11.IsWhole)
  (arg12 : Memref sig .tc .vmem S1024x2048 .bf16) (harg12 : arg12.IsWhole)

/-- The first loop: after `n` trips the first `32 n` rows hold the modulated activations, the others what they held. -/
theorem read_t1_h (k0_h1 : k0_cond1 i = 1#1) (v47 : Vec F S1x2048 .f32) (v48 v53 : Vec F S1x1x2048 .f32)
    (X : BufTy.Contents (Elt F) arg2.view.ty) (G : BufTy.Contents (Elt F) arg12.view.ty) (y : S1024x2048.Idx) :
    ∀ n : ℕ, n ≤ k0_t1_loop.trips →
      arg12.view.read (Elt F) (arg12.view.writes (Elt F) G
        (pb_k0_t1 (F := F) Variants.none c none i arg2 harg2 arg3 harg3 arg4 harg4 arg5 harg5 arg6 harg6 arg7 harg7 arg8 harg8 arg9 harg9
          arg10 harg10 arg11 harg11 arg12 harg12 k0_h1 v47 v48 v53 X n).2) y
      = if (y 0).val / 32 < n then hBlock v47 v48 v53 (arg2.view.read (Elt F) X) y else arg12.view.read (Elt F) G y
  | 0, _ => by rw [if_neg (Nat.not_lt_zero _)]; rfl
  | n + 1, hn => by
    have ih := read_t1_h k0_h1 v47 v48 v53 X G y n (by omega)
    have hlt : n < 32 := Nat.lt_of_lt_of_le hn k0_t1_abs.2.1
    rw [pb_k0_t1_succ (F := F) Variants.none c none i arg2 harg2 arg3 harg3 arg4 harg4 arg5 harg5 arg6 harg6 arg7 harg7 arg8 harg8 arg9 harg9
          arg10 harg10 arg11 harg11 arg12 harg12 k0_h1 v47 v48 v53 X ⟨n, hn⟩]
    unfold tripL_k0_t1 trip_k0_t1
    dsimp only [List.cons_append, List.nil_append]
    have hoff : k0_off1 ⟨n, hn⟩ = ![32 * (⟨n, hlt⟩ : Fin 32).val, 0] := k0_off1_eq _
    refine (read_store_rows arg12.view G (k0_off1_inb i ⟨n, hn⟩ k0_h1) ⟨n, hlt⟩ hoff _ _ y).trans ?_
    rw [ih]
    by_cases h : (y 0).val / 32 = n
    · rw [if_pos h, if_pos (by omega)]
      show k0_pay15 v47 v48 v53 _ (inChunk y) = _
      rw [readAt_rows arg2.view X (k0_off1_inb i ⟨n, hn⟩ k0_h1) ⟨n, hlt⟩ hoff]
      show _ = k0_pay15 v47 v48 v53 (chunk _ (chunkOf y)) (inChunk y)
      rw [show chunkOf y = ⟨n, hlt⟩ from Fin.ext h]
    · rw [if_neg h]
      by_cases h' : (y 0).val / 32 < n
      · rw [if_pos h', if_pos (by omega)]
      · rw [if_neg h', if_neg (by omega)]

/-- … and the first `32 n` rows of the accumulator are cleared. -/
theorem read_t1_o (k0_h1 : k0_cond1 i = 1#1) (v47 : Vec F S1x2048 .f32) (v48 v53 : Vec F S1x1x2048 .f32)
    (X : BufTy.Contents (Elt F) arg2.view.ty) (G : BufTy.Contents (Elt F) arg11.view.ty) (y : S1024x2048.Idx) :
    ∀ n : ℕ, n ≤ k0_t1_loop.trips →
      arg11.view.read (Elt F) (arg11.view.writes (Elt F) G
        (pb_k0_t1 (F := F) Variants.none c none i arg2 harg2 arg3 harg3 arg4 harg4 arg5 harg5 arg6 harg6 arg7 harg7 arg8 harg8 arg9 harg9
          arg10 harg10 arg11 harg11 arg12 harg12 k0_h1 v47 v48 v53 X n).1) y
      = if (y 0).val / 32 < n then zeroBlock (F := F) y else arg11.view.read (Elt F) G y
  | 0, _ => by rw [if_neg (Nat.not_lt_zero _)]; rfl
  | n + 1, hn => by
    have ih := read_t1_o k0_h1 v47 v48 v53 X G y n (by omega)
    have hlt : n < 32 := Nat.lt_of_lt_of_le hn k0_t1_abs.2.1
    rw [pb_k0_t1_succ (F := F) Variants.none c none i arg2 harg2 arg3 harg3 arg4 harg4 arg5 harg5 arg6 harg6 arg7 harg7 arg8 harg8 arg9 harg9
          arg10 harg10 arg11 harg11 arg12 harg12 k0_h1 v47 v48 v53 X ⟨n, hn⟩]
    unfold tripL_k0_t1 trip_k0_t1
    dsimp only [List.cons_append, List.nil_append]
    have hoff : k0_off1 ⟨n, hn⟩ = ![32 * (⟨n, hlt⟩ : Fin 32).val, 0] := k0_off1_eq _
    refine (read_store_rows arg11.view G (k0_off1_inb i ⟨n, hn⟩ k0_h1) ⟨n, hlt⟩ hoff _ _ y).trans ?_
    rw [ih]
    by_cases h : (y 0).val / 32 = n
    · rw [if_pos h, if_pos (by omega)]; rfl
    · rw [if_neg h]
      by_cases h' : (y 0).val / 32 < n
      · rw [if_pos h', if_pos (by omega)]
      · rw [if_neg h', if_neg (by omega)]

/-- The second loop: after `n` trips the first `128 n` rows hold the normalised result, the others what they held. -/
theorem read_t2 (k0_h2 : k0_cond2 i = 1#1) (v47 : Vec F S1x1x2048 .f32)
    (X : BufTy.Contents (Elt F) arg2.view.ty) (X10 : BufTy.Contents (Elt F) arg10.view.ty) (G : BufTy.Contents (Elt F) arg11.view.ty) :
    ∀ n : ℕ, n ≤ k0_t2_loop.trips → ∀ y : S1024x2048.Idx,
      arg11.view.read (Elt F) (arg11.view.writes (Elt F) G
        (pb_k0_t2 (F := F) Variants.none c none i arg2 harg2 arg3 harg3 arg4 harg4 arg5 harg5 arg6 harg6 arg7 harg7 arg8 harg8 arg9 harg9
          arg10 harg10 arg11 harg11 arg12 harg12 k0_h2 v47 X X10 G n)) y
      = if (y 0).val / 128 < n then
          epiBlock v47 (arg10.view.read (Elt F) X10) (arg2.view.read (Elt F) X) (arg11.view.read (Elt F) G) y
        else arg11.view.read (Elt F) G y
  | 0, _, y => by rw [if_neg (Nat.not_lt_zero _)]; rfl
  | n + 1, hn, y => by
    have ih := read_t2 k0_h2 v47 X X10 G n (by omega)
    have hlt : n < 8 := Nat.lt_of_lt_of_le hn k0_t2_abs.2.1
    rw [pb_k0_t2_succ (F := F) Variants.none c none i arg2 harg2 arg3 harg3 arg4 harg4 arg5 harg5 arg6 harg6 arg7 harg7 arg8 harg8 arg9 harg9
          arg10 harg10 arg11 harg11 arg12 harg12 k0_h2 v47 X X10 G ⟨n, hn⟩]
    -- what the earlier trips left
    generalize hG' : arg11.view.writes (Elt F) G (pb_k0_t2 (F := F) Variants.none c none i arg2 harg2 arg3 harg3 arg4 harg4 arg5 harg5 arg6 harg6
      arg7 harg7 arg8 harg8 arg9 harg9 arg10 harg10 arg11 harg11 arg12 harg12 k0_h2 v47 X X10 G n) = G' at ih
    have hfin : arg10.view.readAt (Elt F) (Rect.unit (s := S1x2048) ![0, 0] S1x2048.size inb_S1x2048_S1x2048_0_0).toLoadRect X10
        = arg10.view.read (Elt F) X10 := by
      funext z
      show arg10.view.read (Elt F) X10 _ = _
      congr 1
      funext a
      match a with
      | ⟨0, _⟩ => exact Fin.ext (by show 0 + 1 * (z 0).val = (z 0).val; omega)
      | ⟨1, _⟩ => exact Fin.ext (by show 0 + 1 * (z 1).val = (z 1).val; omega)
    -- a chunk of this trip, as the earlier trips left it, is as it was at entry
    have hch : ∀ r : Fin 4, chunk (arg11.view.read (Elt F) G') ⟨4 * n + r.val, by omega⟩ = chunk (arg11.view.read (Elt F) G) ⟨4 * n + r.val, by omega⟩ := by
      intro r
      funext z
      have hz : (z 0).val < 32 := (z 0).isLt
      refine (ih _).trans (if_neg ?_)
      show ¬ (32 * (4 * n + r.val) + (z 0).val) / 128 < n
      omega
    have hoff : ∀ r : Fin 4, k0_off2 ⟨n, hn⟩ (BitVec.ofNat 32 (32 * r.val)) = ![32 * (⟨4 * n + r.val, by omega⟩ : Fin 32).val, 0] := by
      intro r
      rw [k0_off2_eq]
      show ![128 * n + 32 * r.val, 0] = ![32 * (4 * n + r.val), 0]
      rw [show 128 * n + 32 * r.val = 32 * (4 * n + r.val) by ring]
    have hpay : ∀ r : Fin 4, (y 0).val / 32 = 4 * n + r.val →
        k0_pay11 (k0_pay6 (k0_pay4 v47)
            (arg2.view.readAt (Elt F) (Rect.unit (s := S1024x2048) (k0_off2 ⟨n, hn⟩ (BitVec.ofNat 32 (32 * r.val))) S32x2048.size (k0_off2_inb i ⟨n, hn⟩ k0_h2 r)).toLoadRect X)
            (arg11.view.readAt (Elt F) (Rect.unit (s := S1024x2048) (k0_off2 ⟨n, hn⟩ (BitVec.ofNat 32 (32 * r.val))) S32x2048.size (k0_off2_inb i ⟨n, hn⟩ k0_h2 r)).toLoadRect G'))
          (arg10.view.readAt (Elt F) (Rect.unit (s := S1x2048) ![0, 0] S1x2048.size inb_S1x2048_S1x2048_0_0).toLoadRect X10) (inChunk y)
        = epiBlock v47 (arg10.view.read (Elt F) X10) (arg2.view.read (Elt F) X) (arg11.view.read (Elt F) G) y := by
      intro r h
      rw [hfin, readAt_rows arg2.view X _ _ (hoff r), readAt_rows arg11.view G' _ _ (hoff r), hch r]
      unfold epiBlock
      rw [show chunkOf y = ⟨4 * n + r.val, by omega⟩ from Fin.ext h]
    rw [View.writes_append, hG']
    unfold tripL_k0_t2 trip_k0_t2
    dsimp only
    refine (read_store_rows arg11.view G' (k0_off2_inb i ⟨n, hn⟩ k0_h2 3) _ (hoff 3) _ _ y).trans ?_
    by_cases h3 : (y 0).val / 32 = 4 * n + 3
    · exact (if_pos h3).trans ((hpay 3 h3).trans (if_pos (by omega)).symm)
    refine (if_neg h3).trans ?_
    refine (read_store_rows arg11.view G' (k0_off2_inb i ⟨n, hn⟩ k0_h2 2) _ (hoff 2) _ _ y).trans ?_
    by_cases h2 : (y 0).val / 32 = 4 * n + 2
    · exact (if_pos h2).trans ((hpay 2 h2).trans (if_pos (by omega)).symm)
    refine (if_neg h2).trans ?_
    refine (read_store_rows arg11.view G' (k0_off2_inb i ⟨n, hn⟩ k0_h2 1) _ (hoff 1) _ _ y).trans ?_
    by_cases h1 : (y 0).val / 32 = 4 * n + 1
    · exact (if_pos h1).trans ((hpay 1 h1).trans (if_pos (by omega)).symm)
    refine (if_neg h1).trans ?_
    refine (read_store_rows arg11.view G' (k0_off2_inb i ⟨n, hn⟩ k0_h2 0) _ (hoff 0) _ _ y).trans ?_
    by_cases h0 : (y 0).val / 32 = 4 * n + 0
    · exact (if_pos h0).trans ((hpay 0 h0).trans (if_pos (by omega)).symm)
    refine (if_neg h0).trans ?_
    refine (ih y).trans ?_
    by_cases h' : (y 0).val / 128 < n
    · rw [if_pos h', if_pos (by omega)]
    · rw [if_neg h', if_neg (by omega)]

end

end Cert.Kernel2Ideal.Ffn
-- ==== Proof.FfnAcc.lean ====
/-
The accumulation of one grid point of the feed-forward kernel: the accumulator's two halves of columns, stored one
after the other, and what they read as afterwards.
-/
module

public import proofs.«01_k».proof.Proof.FfnLoops

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Loads and stores of half the columns -/

theorem readAt_unread {s : Shape} {e : EltTy} {sp : Space} (a : Memref sig .tc sp s e) (h : a.IsWhole) (x : Vec F s e) (r : Rect s) :
    a.view.readAt (Elt F) r.toLoadRect (h.unread x) = View.ld x r := by
  rw [View.readAt_eq_ld, h.read_unread]

theorem ld_whole2 {e : EltTy} (x : Vec F S1024x2048 e) (inb : ∀ a, (![0, 0] : Fin 2 → ℕ) a + (![1024, 2048] : Fin 2 → ℕ) a ≤ S1024x2048.size a) :
    View.ld x (Rect.unit (s := S1024x2048) ![0, 0] ![1024, 2048] inb) = x := by
  funext z
  show x _ = x z
  congr 1
  funext a
  match a with
  | ⟨0, _⟩ => exact Fin.ext (by show 0 + 1 * (z 0).val = (z 0).val; omega)
  | ⟨1, _⟩ => exact Fin.ext (by show 0 + 1 * (z 1).val = (z 1).val; omega)

theorem ld_whole1 {e : EltTy} (x : Vec F S1x2048 e) (inb : ∀ a, (![0, 0] : Fin 2 → ℕ) a + (![1, 2048] : Fin 2 → ℕ) a ≤ S1x2048.size a) :
    View.ld x (Rect.unit (s := S1x2048) ![0, 0] ![1, 2048] inb) = x := by
  funext z
  show x _ = x z
  congr 1
  funext a
  match a with
  | ⟨0, _⟩ => exact Fin.ext (by show 0 + 1 * (z 0).val = (z 0).val; omega)
  | ⟨1, _⟩ => exact Fin.ext (by show 0 + 1 * (z 1).val = (z 1).val; omega)

theorem ld_whole3 {e : EltTy} (x : Vec F S1x1x2048 e) (inb : ∀ a, (![0, 0, 0] : Fin 3 → ℕ) a + (![1, 1, 2048] : Fin 3 → ℕ) a ≤ S1x1x2048.size a) :
    View.ld x (Rect.unit (s := S1x1x2048) ![0, 0, 0] ![1, 1, 2048] inb) = x := by
  funext z
  show x _ = x z
  congr 1
  funext a
  match a with
  | ⟨0, _⟩ => exact Fin.ext (by show 0 + 1 * (z 0).val = (z 0).val; omega)
  | ⟨1, _⟩ => exact Fin.ext (by show 0 + 1 * (z 1).val = (z 1).val; omega)
  | ⟨2, _⟩ => exact Fin.ext (by show 0 + 1 * (z 2).val = (z 2).val; omega)

/-- The left half of the columns, and the right half. -/
abbrev rL : Rect S1024x2048 := Rect.unit (s := S1024x2048) ![0, 0] S1024x1024.size inb_S1024x2048_S1024x1024_0_0
abbrev rR : Rect S1024x2048 := Rect.unit (s := S1024x2048) ![0, 1024] S1024x1024.size inb_S1024x2048_S1024x1024_0_1024

/-- A block put together from its two halves. -/
def halves {α : Type} (A B : S1024x1024.Idx → α) : S1024x2048.Idx → α := fun y =>
  if h : (y 1).val < 1024 then A (ix2 (n0 := 1024) (n1 := 1024) ⟨(y 0).val, (y 0).isLt⟩ ⟨(y 1).val, h⟩)
  else B (ix2 (n0 := 1024) (n1 := 1024) ⟨(y 0).val, (y 0).isLt⟩ ⟨(y 1).val - 1024, by
    have h2 : (y 1).val < 2048 := (y 1).isLt
    omega⟩)

section
variable {sp : Space} (v : View sig .tc sp S1024x2048 .f32) (f : v.ty.Contents (Elt F)) (A B : Vec F S1024x1024 .f32)
  (L : List (View.Piece (Elt F) S1024x2048 .f32))

theorem hit_left (y : S1024x2048.Idx) (h : (y 1).val < 1024) :
    v.read (Elt F) (v.writes (Elt F) f (⟨rL, A⟩ :: L)) y
      = A (ix2 (n0 := 1024) (n1 := 1024) ⟨(y 0).val, (y 0).isLt⟩ ⟨(y 1).val, h⟩) :=
  View.read_writes_cons_unit_of_mem v f _ A L y _ rfl fun a => by
    match a with
    | ⟨0, _⟩ => exact (Nat.zero_add _).symm
    | ⟨1, _⟩ => exact (Nat.zero_add _).symm

theorem hit_right (y : S1024x2048.Idx) (h : ¬ (y 1).val < 1024) :
    v.read (Elt F) (v.writes (Elt F) f (⟨rR, B⟩ :: L)) y
      = B (ix2 (n0 := 1024) (n1 := 1024) ⟨(y 0).val, (y 0).isLt⟩ ⟨(y 1).val - 1024, by
    have h2 : (y 1).val < 2048 := (y 1).isLt
    omega⟩) :=
  View.read_writes_cons_unit_of_mem v f _ B L y _ rfl fun a => by
    match a with
    | ⟨0, _⟩ => exact (Nat.zero_add _).symm
    | ⟨1, _⟩ => show (y 1).val = 1024 + ((y 1).val - 1024); omega

theorem miss_left (y : S1024x2048.Idx) (h : ¬ (y 1).val < 1024) :
    v.read (Elt F) (v.writes (Elt F) f (⟨rL, A⟩ :: L)) y = v.read (Elt F) (v.writes (Elt F) f L) y :=
  View.read_writes_cons_unit_of_not_mem v f _ A L y rfl (1 : Fin 2) (Or.inr (by show 0 + 1024 ≤ (y 1).val; omega))

theorem miss_right (y : S1024x2048.Idx) (h : (y 1).val < 1024) :
    v.read (Elt F) (v.writes (Elt F) f (⟨rR, B⟩ :: L)) y = v.read (Elt F) (v.writes (Elt F) f L) y :=
  View.read_writes_cons_unit_of_not_mem v f _ B L y rfl (1 : Fin 2) (Or.inl (by show (y 1).val < 1024; exact h))

/-- Both halves stored, whatever was stored before: the block reads their union. -/
theorem read_halves : v.read (Elt F) (v.writes (Elt F) f (⟨rR, B⟩ :: ⟨rL, A⟩ :: L)) = halves A B := by
  funext y
  unfold halves
  by_cases h : (y 1).val < 1024
  · rw [dif_pos h]; exact (miss_right v f B _ y h).trans (hit_left v f A L y h)
  · rw [dif_neg h]; exact hit_right v f B _ y h

theorem col_left (z : S1024x1024.Idx) : ((rL.idx z) 1).val < 1024 := by
  show 0 + 1 * (z 1).val < 1024
  have h : (z 1).val < 1024 := (z 1).isLt
  omega
theorem col_right (z : S1024x1024.Idx) : ¬ ((rR.idx z) 1).val < 1024 := by
  show ¬ 1024 + 1 * (z 1).val < 1024
  omega

theorem ix_left (z : S1024x1024.Idx) : (ix2 (n0 := 1024) (n1 := 1024) ⟨((rL.idx z) 0).val, ((rL.idx z) 0).isLt⟩ ⟨((rL.idx z) 1).val, col_left z⟩) = z := by
  funext a
  match a with
  | ⟨0, _⟩ => exact Fin.ext (by show 0 + 1 * (z 0).val = (z 0).val; omega)
  | ⟨1, _⟩ => exact Fin.ext (by show 0 + 1 * (z 1).val = (z 1).val; omega)
theorem ix_right (z : S1024x1024.Idx) (hlt) : (ix2 (n0 := 1024) (n1 := 1024) ⟨((rR.idx z) 0).val, ((rR.idx z) 0).isLt⟩ ⟨((rR.idx z) 1).val - 1024, hlt⟩) = z := by
  funext a
  match a with
  | ⟨0, _⟩ => exact Fin.ext (by show 0 + 1 * (z 0).val = (z 0).val; omega)
  | ⟨1, _⟩ => exact Fin.ext (by show 1024 + 1 * (z 1).val - 1024 = (z 1).val; omega)

/-- The left half read back after the right half was stored over it and beside. -/
theorem cov_left : v.readCov (⟨rR, B⟩ :: ⟨rL, A⟩ :: L) rL.toLoadRect = A := by
  funext z
  show v.read (Elt F) (v.writes (Elt F) v.junk (⟨rR, B⟩ :: ⟨rL, A⟩ :: L)) (rL.idx z) = A z
  refine (miss_right v v.junk B _ _ (col_left z)).trans ((hit_left v v.junk A L _ (col_left z)).trans ?_)
  rw [ix_left]

theorem cov_right (A' : Vec F S1024x1024 .f32) : v.readCov (⟨rL, A'⟩ :: ⟨rR, B⟩ :: L) rR.toLoadRect = B := by
  funext z
  show v.read (Elt F) (v.writes (Elt F) v.junk (⟨rL, A'⟩ :: ⟨rR, B⟩ :: L)) (rR.idx z) = B z
  refine (miss_left v v.junk A' _ _ (col_right z)).trans ((hit_right v v.junk B L _ (col_right z)).trans ?_)
  rw [ix_right]

/-- The right half read after the left half was stored: what was there before. -/
theorem readAt_right : v.readAt (Elt F) rR.toLoadRect (v.writes (Elt F) f (⟨rL, A⟩ :: L)) = View.ld (v.read (Elt F) (v.writes (Elt F) f L)) rR := by
  funext z
  exact miss_left v f A L _ (col_right z)
end

/-! ## One step of the accumulation -/

section
variable (h : Vec F S1024x2048 .bf16) (wg wu : Vec F S2048x512 .bf16) (wd : Vec F S512x2048 .bf16) (o : Vec F S1024x2048 .f32)

/-- Columns `0 … 255` / `256 … 511` of a tile of the gate and up weights, and of the four quarters of the down weights' tile. -/
abbrev wLo (w : Vec F S2048x512 .bf16) : Vec F S2048x256 .bf16 :=
  View.ld w (Rect.unit (s := S2048x512) ![0, 0] S2048x256.size inb_S2048x512_S2048x256_0_0)
abbrev wHi (w : Vec F S2048x512 .bf16) : Vec F S2048x256 .bf16 :=
  View.ld w (Rect.unit (s := S2048x512) ![0, 256] S2048x256.size inb_S2048x512_S2048x256_0_256)
abbrev d00 : Vec F S256x1024 .bf16 := View.ld wd (Rect.unit (s := S512x2048) ![0, 0] S256x1024.size inb_S512x2048_S256x1024_0_0)
abbrev d01 : Vec F S256x1024 .bf16 := View.ld wd (Rect.unit (s := S512x2048) ![0, 1024] S256x1024.size inb_S512x2048_S256x1024_0_1024)
abbrev d10 : Vec F S256x1024 .bf16 := View.ld wd (Rect.unit (s := S512x2048) ![256, 0] S256x1024.size inb_S512x2048_S256x1024_256_0)
abbrev d11 : Vec F S256x1024 .bf16 := View.ld wd (Rect.unit (s := S512x2048) ![256, 1024] S256x1024.size inb_S512x2048_S256x1024_256_1024)

/-- The left columns of the accumulator after one step: both 256-wide halves of the tile, one after the other. -/
def accLeft : Vec F S1024x1024 .f32 :=
  k0_pay2 h (k0_pay20 h (wHi wg)) (wHi wu) (k0_pay18 h (wLo wg) (wLo wu) (View.ld o rL) (d00 wd)) (d10 wd)
/-- The right columns. -/
def accRight : Vec F S1024x1024 .f32 :=
  k0_pay3 h (k0_pay20 h (wHi wg)) (wHi wu) (k0_pay19 h (wLo wg) (wLo wu) (View.ld o rR) (d01 wd)) (d11 wd)

/-- The accumulator after one step. -/
def accBlock : Vec F S1024x2048 .f32 := halves (accLeft h wg wu wd o) (accRight h wg wu wd o)
end

theorem row_lt (y : S1024x2048.Idx) : (y 0).val / 32 < k0_t1_loop.trips := by
  have h : (y 0).val < 1024 := (y 0).isLt
  have h32 : k0_t1_loop.trips = 32 := by decide
  omega

section
variable (c : Dev nD) (i : grid0.Coords)
  (arg2 : Memref sig .tc .vmem S1024x2048 .f32) (harg2 : arg2.IsWhole) (arg3 : Memref sig .tc .vmem S1x1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S1x2048 .f32) (harg6 : arg6.IsWhole) (arg7 : Memref sig .tc .vmem S2048x512 .bf16) (harg7 : arg7.IsWhole)
  (arg8 : Memref sig .tc .vmem S2048x512 .bf16) (harg8 : arg8.IsWhole) (arg9 : Memref sig .tc .vmem S512x2048 .bf16) (harg9 : arg9.IsWhole)
  (arg10 : Memref sig .tc .vmem S1x2048 .f32) (harg10 : arg10.IsWhole) (arg11 : Memref sig .tc .vmem S1024x2048 .f32) (harg11 : arg11.IsWhole)
  (arg12 : Memref sig .tc .vmem S1024x2048 .bf16) (harg12 : arg12.IsWhole)

/-- The whole of the last point's sweep over the accumulator. -/
theorem t2_all (hc1 : k0_cond2 i = 1#1) (x3 : Vec F S1x1x2048 .f32) (x8 : Vec F S1x2048 .f32) (x0 o : Vec F S1024x2048 .f32)
    (v47 : Vec F S1x1x2048 .f32) (X : arg2.view.ty.Contents (Elt F)) (X10 : arg10.view.ty.Contents (Elt F)) {G : arg11.view.ty.Contents (Elt F)} {n : ℕ}
    (hn : n = k0_t2_loop.trips) (h3 : v47 = x3) (h0 : arg2.view.read (Elt F) X = x0) (h8 : arg10.view.read (Elt F) X10 = x8)
    (hG : arg11.view.read (Elt F) G = o) :
    arg11.view.read (Elt F) (arg11.view.writes (Elt F) G (pb_k0_t2 (F := F) Variants.none c none i arg2 harg2 arg3 harg3 arg4 harg4 arg5 harg5 arg6 harg6 arg7 harg7 arg8 harg8 arg9 harg9 arg10 harg10
      arg11 harg11 arg12 harg12 hc1 v47 X X10 G n)) = epiBlock x3 x8 x0 o := by
  subst hn h3 h0 h8 hG
  funext y
  refine (read_t2 c i arg2 harg2 arg3 harg3 arg4 harg4 arg5 harg5 arg6 harg6 arg7 harg7 arg8 harg8 arg9 harg9 arg10 harg10
      arg11 harg11 arg12 harg12 hc1 _ _ _ _ k0_t2_loop.trips le_rfl y).trans (if_pos ?_)
  have h : (y 0).val < 1024 := (y 0).isLt
  have h8 : k0_t2_loop.trips = 8 := by decide
  omega

theorem t1_all_h (hc0 : k0_cond1 i = 1#1) (x4 : Vec F S1x2048 .f32) (x2 x1 : Vec F S1x1x2048 .f32) (x0 : Vec F S1024x2048 .f32)
    {v4 : Vec F S1x2048 .f32} {v2 v1 : Vec F S1x1x2048 .f32} {X : arg2.view.ty.Contents (Elt F)} {G : arg12.view.ty.Contents (Elt F)} {n : ℕ}
    (hn : n = k0_t1_loop.trips) (h4 : v4 = x4) (h2 : v2 = x2) (h1 : v1 = x1) (h0 : arg2.view.read (Elt F) X = x0) :
    arg12.view.read (Elt F) (arg12.view.writes (Elt F) G (pb_k0_t1 (F := F) Variants.none c none i arg2 harg2 arg3 harg3 arg4 harg4 arg5 harg5 arg6 harg6 arg7 harg7 arg8 harg8 arg9 harg9 arg10 harg10
      arg11 harg11 arg12 harg12 hc0 v4 v2 v1 X n).2) = hBlock x4 x2 x1 x0 := by
  subst hn h4 h2 h1 h0
  funext y
  exact (read_t1_h c i arg2 harg2 arg3 harg3 arg4 harg4 arg5 harg5 arg6 harg6 arg7 harg7 arg8 harg8 arg9 harg9 arg10 harg10
      arg11 harg11 arg12 harg12 hc0 _ _ _ _ _ y k0_t1_loop.trips le_rfl).trans (if_pos (row_lt y))

theorem t1_all_o (hc0 : k0_cond1 i = 1#1)
    {v4 : Vec F S1x2048 .f32} {v2 v1 : Vec F S1x1x2048 .f32} {X : arg2.view.ty.Contents (Elt F)} {G : arg11.view.ty.Contents (Elt F)} {n : ℕ}
    (hn : n = k0_t1_loop.trips) :
    arg11.view.read (Elt F) (arg11.view.writes (Elt F) G (pb_k0_t1 (F := F) Variants.none c none i arg2 harg2 arg3 harg3 arg4 harg4 arg5 harg5 arg6 harg6 arg7 harg7 arg8 harg8 arg9 harg9 arg10 harg10
      arg11 harg11 arg12 harg12 hc0 v4 v2 v1 X n).1) = zeroBlock (F := F) := by
  subst hn
  funext y
  exact (read_t1_o c i arg2 harg2 arg3 harg3 arg4 harg4 arg5 harg5 arg6 harg6 arg7 harg7 arg8 harg8 arg9 harg9 arg10 harg10
      arg11 harg11 arg12 harg12 hc0 _ _ _ _ _ y k0_t1_loop.trips le_rfl).trans (if_pos (row_lt y))
end

end Cert.Kernel2Ideal.Ffn
-- ==== Proof.FfnFirst.lean ====
/-
What one grid point of the feed-forward kernel leaves in its buffers, in closed form.

A point in the middle of a row block's sweep adds one 512-wide tile of the hidden dimension to the accumulator; the
first point of a sweep normalises and modulates the activations and clears the accumulator first; the last one turns
the accumulator into the normalised result.
-/
module

public import proofs.«01_k».proof.Proof.FfnAcc

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S1024x2048 .f32) (harg2 : arg2.IsWhole) (arg3 : Memref sig .tc .vmem S1x1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S1x2048 .f32) (harg6 : arg6.IsWhole) (arg7 : Memref sig .tc .vmem S2048x512 .bf16) (harg7 : arg7.IsWhole)
  (arg8 : Memref sig .tc .vmem S2048x512 .bf16) (harg8 : arg8.IsWhole) (arg9 : Memref sig .tc .vmem S512x2048 .bf16) (harg9 : arg9.IsWhole)
  (arg10 : Memref sig .tc .vmem S1x2048 .f32) (harg10 : arg10.IsWhole) (arg11 : Memref sig .tc .vmem S1024x2048 .f32) (harg11 : arg11.IsWhole)
  (arg12 : Memref sig .tc .vmem S1024x2048 .bf16) (harg12 : arg12.IsWhole)

set_option maxHeartbeats 1000000 in
/-- The first point of a sweep: what the buffers held before does not matter. -/
theorem body_first (hc0 : k0_cond1 i = 1#1) (hc1 : ¬ k0_cond2 i = 1#1)
    (x0 : Vec F S1024x2048 .f32) (x1 x2 x3 : Vec F S1x1x2048 .f32) (x4 : Vec F S1x2048 .f32) (x5 x6 : Vec F S2048x512 .bf16)
    (x7 : Vec F S512x2048 .bf16) (x8 : Vec F S1x2048 .f32) (xo : Vec F S1024x2048 .f32) (xs : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (accBlock (hBlock x4 x2 x1 x0) x5 x6 x7 (zeroBlock (F := F))) ∗ owns (c : Thread nD τ) arg12 fullShare (hBlock x4 x2 x1 x0)) -∗ K ⟨⟩))
      ⊢ wp frame (wpE (defs₀ (F := F)) Variants.none c none) E (cc0_macaron_ffn i arg2 harg2 arg3 harg3 arg4 harg4 arg5 harg5 arg6 harg6 arg7 harg7 arg8 harg8 arg9 harg9 arg10 harg10 arg11 harg11 arg12 harg12) K := by
  simp only [cc0_macaron_ffn_eq_skeleton]; unfold cc0_macaron_ffn_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo, %hfo, HO⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfo; obtain rfl := harg12.eq_unread hfs
  sl_exec (disch := first | sl_exact hc0 | sl_exact hc1)
  simp only [Prog.bind_assoc]
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HO]
  · iexists _; isplitr
    rotate_left
    · iexact HO
    ipureintro
    sl_unfold_run_names
    refine (read_halves arg11.view _ _ _ _).trans ?_
    dsimp only
    unfold accBlock accLeft accRight
    have h11 := fun G v4 v2 v1 X => t1_all_o (F := F) c i arg2 harg2 arg3 harg3 arg4 harg4 arg5 harg5 arg6 harg6 arg7 harg7 arg8 harg8 arg9 harg9 arg10 harg10
      arg11 harg11 arg12 harg12 hc0 (v4 := v4) (v2 := v2) (v1 := v1) (X := X) (G := G) rfl
    have h12 := fun G => t1_all_h (F := F) c i arg2 harg2 arg3 harg3 arg4 harg4 arg5 harg5 arg6 harg6 arg7 harg7 arg8 harg8 arg9 harg9 arg10 harg10
      arg11 harg11 arg12 harg12 hc0 x4 x2 x1 x0 (G := G) rfl
      (ld_whole1 x4 inb_S1x2048_S1x2048_0_0) (ld_whole3 x2 inb_S1x1x2048_S1x1x2048_0_0_0) (ld_whole3 x1 inb_S1x1x2048_S1x1x2048_0_0_0) (harg2.read_unread x0)
    congr 1
    · rw [cov_left arg11.view]
      simp only [readAt_unread]
      simp only [View.readAt_eq_ld, h11, h12, ld_whole2]
    · rw [cov_right arg11.view, readAt_right arg11.view]
      simp only [readAt_unread]
      simp only [View.readAt_eq_ld, h11, h12, ld_whole2]
  iexists _; isplitr
  rotate_left
  · iexact HS
  ipureintro
  exact t1_all_h c i arg2 harg2 arg3 harg3 arg4 harg4 arg5 harg5 arg6 harg6 arg7 harg7 arg8 harg8 arg9 harg9 arg10 harg10
      arg11 harg11 arg12 harg12 hc0 x4 x2 x1 x0 rfl
    (by rw [readAt_unread, ld_whole1]) (by rw [readAt_unread, ld_whole3]) (by rw [readAt_unread, ld_whole3]) (harg2.read_unread x0)

end Cert.Kernel2Ideal.Ffn
-- ==== Proof.FfnMid.lean ====
/-
What one grid point of the feed-forward kernel leaves in its buffers, in closed form.

A point in the middle of a row block's sweep adds one 512-wide tile of the hidden dimension to the accumulator; the
first point of a sweep normalises and modulates the activations and clears the accumulator first; the last one turns
the accumulator into the normalised result.
-/
module

public import proofs.«01_k».proof.Proof.FfnAcc

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S1024x2048 .f32) (harg2 : arg2.IsWhole) (arg3 : Memref sig .tc .vmem S1x1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S1x2048 .f32) (harg6 : arg6.IsWhole) (arg7 : Memref sig .tc .vmem S2048x512 .bf16) (harg7 : arg7.IsWhole)
  (arg8 : Memref sig .tc .vmem S2048x512 .bf16) (harg8 : arg8.IsWhole) (arg9 : Memref sig .tc .vmem S512x2048 .bf16) (harg9 : arg9.IsWhole)
  (arg10 : Memref sig .tc .vmem S1x2048 .f32) (harg10 : arg10.IsWhole) (arg11 : Memref sig .tc .vmem S1024x2048 .f32) (harg11 : arg11.IsWhole)
  (arg12 : Memref sig .tc .vmem S1024x2048 .bf16) (harg12 : arg12.IsWhole)

set_option maxHeartbeats 1000000 in
/-- A point in the middle of a sweep. -/
theorem body_mid (hc0 : ¬ k0_cond1 i = 1#1) (hc1 : ¬ k0_cond2 i = 1#1)
    (x0 : Vec F S1024x2048 .f32) (x1 x2 x3 : Vec F S1x1x2048 .f32) (x4 : Vec F S1x2048 .f32) (x5 x6 : Vec F S2048x512 .bf16)
    (x7 : Vec F S512x2048 .bf16) (x8 : Vec F S1x2048 .f32) (xo : Vec F S1024x2048 .f32) (xs : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (accBlock xs x5 x6 x7 xo) ∗ owns (c : Thread nD τ) arg12 fullShare xs) -∗ K ⟨⟩))
      ⊢ wp frame (wpE (defs₀ (F := F)) Variants.none c none) E (cc0_macaron_ffn i arg2 harg2 arg3 harg3 arg4 harg4 arg5 harg5 arg6 harg6 arg7 harg7 arg8 harg8 arg9 harg9 arg10 harg10 arg11 harg11 arg12 harg12) K := by
  simp only [cc0_macaron_ffn_eq_skeleton]; unfold cc0_macaron_ffn_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo, %hfo, HO⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfo; obtain rfl := harg12.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HO]
  · iexists _; isplitr
    rotate_left
    · iexact HO
    ipureintro
    sl_unfold_run_names
    refine (read_halves arg11.view _ _ _ _).trans ?_
    dsimp only
    unfold accBlock accLeft accRight
    congr 1
    · rw [cov_left arg11.view]
      simp only [readAt_unread, ld_whole2]
    · rw [cov_right arg11.view]
      simp only [readAt_unread, ld_whole2]
  iexists _; isplitr
  rotate_left
  · iexact HS
  ipureintro
  exact hfs

end Cert.Kernel2Ideal.Ffn
-- ==== Proof.FfnLast.lean ====
/-
What one grid point of the feed-forward kernel leaves in its buffers, in closed form.

A point in the middle of a row block's sweep adds one 512-wide tile of the hidden dimension to the accumulator; the
first point of a sweep normalises and modulates the activations and clears the accumulator first; the last one turns
the accumulator into the normalised result.
-/
module

public import proofs.«01_k».proof.Proof.FfnAcc

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S1024x2048 .f32) (harg2 : arg2.IsWhole) (arg3 : Memref sig .tc .vmem S1x1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S1x2048 .f32) (harg6 : arg6.IsWhole) (arg7 : Memref sig .tc .vmem S2048x512 .bf16) (harg7 : arg7.IsWhole)
  (arg8 : Memref sig .tc .vmem S2048x512 .bf16) (harg8 : arg8.IsWhole) (arg9 : Memref sig .tc .vmem S512x2048 .bf16) (harg9 : arg9.IsWhole)
  (arg10 : Memref sig .tc .vmem S1x2048 .f32) (harg10 : arg10.IsWhole) (arg11 : Memref sig .tc .vmem S1024x2048 .f32) (harg11 : arg11.IsWhole)
  (arg12 : Memref sig .tc .vmem S1024x2048 .bf16) (harg12 : arg12.IsWhole)

set_option maxHeartbeats 1000000 in
/-- The last point of a sweep. -/
theorem body_last (hc0 : ¬ k0_cond1 i = 1#1) (hc1 : k0_cond2 i = 1#1)
    (x0 : Vec F S1024x2048 .f32) (x1 x2 x3 : Vec F S1x1x2048 .f32) (x4 : Vec F S1x2048 .f32) (x5 x6 : Vec F S2048x512 .bf16)
    (x7 : Vec F S512x2048 .bf16) (x8 : Vec F S1x2048 .f32) (xo : Vec F S1024x2048 .f32) (xs : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (epiBlock x3 x8 x0 (accBlock xs x5 x6 x7 xo)) ∗ owns (c : Thread nD τ) arg12 fullShare xs) -∗ K ⟨⟩))
      ⊢ wp frame (wpE (defs₀ (F := F)) Variants.none c none) E (cc0_macaron_ffn i arg2 harg2 arg3 harg3 arg4 harg4 arg5 harg5 arg6 harg6 arg7 harg7 arg8 harg8 arg9 harg9 arg10 harg10 arg11 harg11 arg12 harg12) K := by
  simp only [cc0_macaron_ffn_eq_skeleton]; unfold cc0_macaron_ffn_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo, %hfo, HO⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfo; obtain rfl := harg12.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HO]
  · iexists _; isplitr
    rotate_left
    · iexact HO
    ipureintro
    sl_unfold_run_names
    rw [View.writes_append]
    refine t2_all c i arg2 harg2 arg3 harg3 arg4 harg4 arg5 harg5 arg6 harg6 arg7 harg7 arg8 harg8 arg9 harg9 arg10 harg10
      arg11 harg11 arg12 harg12 hc1 _ _ _ _ _ _ _ rfl (by rw [readAt_unread, ld_whole3]) (harg2.read_unread _)
      (harg10.read_unread _) ?_
    refine (read_halves arg11.view _ _ _ _).trans ?_
    dsimp only
    unfold accBlock accLeft accRight
    congr 1
    · rw [cov_left arg11.view]
      simp only [readAt_unread, ld_whole2]
    · rw [cov_right arg11.view]
      simp only [readAt_unread, ld_whole2]
  iexists _; isplitr
  rotate_left
  · iexact HS
  ipureintro
  exact hfs

end Cert.Kernel2Ideal.Ffn
-- ==== Proof.FfnFrame.lean ====
/-
The feed-forward kernel's run: what the accumulator and the normalised activations hold after every grid point, the
body's obligation at every point, and from it the frame.

The grid sweeps eleven tiles of the hidden dimension for each of sixteen blocks of rows; point `t` is tile `t % 11` of
block `t / 11`.  The output's staging buffer and the scratch buffer carry their contents from one tile to the next.
-/
module

public import proofs.«01_k».proof.Proof.FfnFirst
public import proofs.«01_k».proof.Proof.FfnMid
public import proofs.«01_k».proof.Proof.FfnLast
public import Idealize.ShloMosaic.Lib.Claim

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem tile_first : ∀ t : Fin cfg0.N, k0_cond1 (grid0.coords t) = 1#1 ↔ t.val % 11 = 0 :=
  (fun t => by
    have ht : t.val < 176 := Nat.lt_of_lt_of_eq t.isLt N_0
    have e1 : (grid0.coords t 1).val = t.val / 1 % 11 := Pipeline.Grid.coords_val t 1 (by decide) rfl
    simp only [k0_cond1, e1]
    word_cmp
   : ∀ t : Fin grid0.N, k0_cond1 (grid0.coords t) = 1#1 ↔ t.val % 11 = 0)

theorem tile_last : ∀ t : Fin cfg0.N, k0_cond2 (grid0.coords t) = 1#1 ↔ t.val % 11 = 10 :=
  (fun t => by
    have ht : t.val < 176 := Nat.lt_of_lt_of_eq t.isLt N_0
    have e1 : (grid0.coords t 1).val = t.val / 1 % 11 := Pipeline.Grid.coords_val t 1 (by decide) rfl
    simp only [k0_cond2, e1]
    word_cmp
   : ∀ t : Fin grid0.N, k0_cond2 (grid0.coords t) = 1#1 ↔ t.val % 11 = 10)

/-! ## The buffers the body runs on -/

abbrev stg0 (t : Fin cfg0.N) : Memref sig .tc .vmem S1024x2048 .f32 := win0_0.stage (cfg0.slots t 0)
abbrev stgWhole0 (t : Fin cfg0.N) : (stg0 t).IsWhole := hstage0_0 ((cfg0.slots t 0).cast nbuf0_0)
abbrev stg1 (t : Fin cfg0.N) : Memref sig .tc .vmem S1x1x2048 .f32 := win0_1.stage (cfg0.slots t 1)
abbrev stgWhole1 (t : Fin cfg0.N) : (stg1 t).IsWhole := hstage0_1 ((cfg0.slots t 1).cast nbuf0_1)
abbrev stg2 (t : Fin cfg0.N) : Memref sig .tc .vmem S1x1x2048 .f32 := win0_2.stage (cfg0.slots t 2)
abbrev stgWhole2 (t : Fin cfg0.N) : (stg2 t).IsWhole := hstage0_2 ((cfg0.slots t 2).cast nbuf0_2)
abbrev stg3 (t : Fin cfg0.N) : Memref sig .tc .vmem S1x1x2048 .f32 := win0_3.stage (cfg0.slots t 3)
abbrev stgWhole3 (t : Fin cfg0.N) : (stg3 t).IsWhole := hstage0_3 ((cfg0.slots t 3).cast nbuf0_3)
abbrev stg4 (t : Fin cfg0.N) : Memref sig .tc .vmem S1x2048 .f32 := win0_4.stage (cfg0.slots t 4)
abbrev stgWhole4 (t : Fin cfg0.N) : (stg4 t).IsWhole := hstage0_4 ((cfg0.slots t 4).cast nbuf0_4)
abbrev stg5 (t : Fin cfg0.N) : Memref sig .tc .vmem S2048x512 .bf16 := win0_5.stage (cfg0.slots t 5)
abbrev stgWhole5 (t : Fin cfg0.N) : (stg5 t).IsWhole := hstage0_5 ((cfg0.slots t 5).cast nbuf0_5)
abbrev stg6 (t : Fin cfg0.N) : Memref sig .tc .vmem S2048x512 .bf16 := win0_6.stage (cfg0.slots t 6)
abbrev stgWhole6 (t : Fin cfg0.N) : (stg6 t).IsWhole := hstage0_6 ((cfg0.slots t 6).cast nbuf0_6)
abbrev stg7 (t : Fin cfg0.N) : Memref sig .tc .vmem S512x2048 .bf16 := win0_7.stage (cfg0.slots t 7)
abbrev stgWhole7 (t : Fin cfg0.N) : (stg7 t).IsWhole := hstage0_7 ((cfg0.slots t 7).cast nbuf0_7)
abbrev stg8 (t : Fin cfg0.N) : Memref sig .tc .vmem S1x2048 .f32 := win0_8.stage (cfg0.slots t 8)
abbrev stgWhole8 (t : Fin cfg0.N) : (stg8 t).IsWhole := hstage0_8 ((cfg0.slots t 8).cast nbuf0_8)
abbrev stg9 (t : Fin cfg0.N) : Memref sig .tc .vmem S1024x2048 .f32 := win0_9.stage (cfg0.slots t 9)
abbrev stgWhole9 (t : Fin cfg0.N) : (stg9 t).IsWhole := hstage0_9 ((cfg0.slots t 9).cast nbuf0_9)

/-- The scratch buffer that carries the normalised activations. -/
abbrev scr : Memref sig .tc .vmem S1024x2048 .bf16 := Memref.whole cc0_scratch0

theorem scoped_eq (c : Dev nD) :
    (Pipeline.ΦA spec0 c : sProp 𝕄) = iprop(iprop(∃ d, owns (c : Thread nD τ) scr fullShare d) ∗ (∃ r, prngReg c r)) := by
  unfold Pipeline.ΦA; rw [scopedRest0_eq]; simp only [scr, owns_whole]; try rfl

/-! ## What the buffers hold after each point -/

/-- The normalised activations of point `t`'s block of rows. -/
def hAt (c : Dev nD) (t : Fin cfg0.N) : Vec F S1024x2048 .bf16 := hBlock (iblk m c 4 t) (iblk m c 2 t) (iblk m c 1 t) (iblk m c 0 t)

/-- One point: the accumulator and the activations, from what the point before left. -/
def next (c : Dev nD) (t : Fin cfg0.N) (p : Vec F S1024x2048 .f32 × Vec F S1024x2048 .bf16) : Vec F S1024x2048 .f32 × Vec F S1024x2048 .bf16 :=
  if t.val % 11 = 0 then (accBlock (hAt m c t) (iblk m c 5 t) (iblk m c 6 t) (iblk m c 7 t) (zeroBlock (F := F)), hAt m c t)
  else if t.val % 11 = 10 then
    (epiBlock (iblk m c 3 t) (iblk m c 8 t) (iblk m c 0 t) (accBlock p.2 (iblk m c 5 t) (iblk m c 6 t) (iblk m c 7 t) p.1), p.2)
  else (accBlock p.2 (iblk m c 5 t) (iblk m c 6 t) (iblk m c 7 t) p.1, p.2)

/-- The accumulator and the activations after point `n`. -/
def held (c : Dev nD) : (n : ℕ) → n < cfg0.N → Vec F S1024x2048 .f32 × Vec F S1024x2048 .bf16
  | 0, hn => next m c ⟨0, hn⟩ (zeroBlock (F := F), hAt m c ⟨0, hn⟩)
  | n + 1, hn => next m c ⟨n + 1, hn⟩ (held c n (Nat.lt_of_succ_lt hn))

/-- What the point before `t` left. -/
abbrev prev (c : Dev nD) (t : Fin cfg0.N) : Vec F S1024x2048 .f32 × Vec F S1024x2048 .bf16 :=
  held m c (t.val - 1) (Nat.lt_of_le_of_lt (Nat.sub_le _ _) t.isLt)

theorem held_first (c : Dev nD) (t : Fin cfg0.N) (h0 : t.val % 11 = 0) :
    held m c t.val t.isLt = (accBlock (hAt m c t) (iblk m c 5 t) (iblk m c 6 t) (iblk m c 7 t) (zeroBlock (F := F)), hAt m c t) := by
  obtain ⟨n, hn⟩ := t
  cases n with
  | zero =>
    show next m c ⟨0, hn⟩ (zeroBlock (F := F), hAt m c ⟨0, hn⟩) = _
    exact if_pos h0
  | succ n => exact if_pos h0

theorem held_mid (c : Dev nD) (t : Fin cfg0.N) (h0 : ¬ t.val % 11 = 0) (h1 : ¬ t.val % 11 = 10) :
    held m c t.val t.isLt = (accBlock (prev m c t).2 (iblk m c 5 t) (iblk m c 6 t) (iblk m c 7 t) (prev m c t).1, (prev m c t).2) := by
  obtain ⟨n, hn⟩ := t
  cases n with
  | zero => exact absurd (Nat.zero_mod _) h0
  | succ n => exact (if_neg h0).trans (if_neg h1)

theorem held_last (c : Dev nD) (t : Fin cfg0.N) (h0 : ¬ t.val % 11 = 0) (h1 : t.val % 11 = 10) :
    held m c t.val t.isLt = (epiBlock (iblk m c 3 t) (iblk m c 8 t) (iblk m c 0 t)
      (accBlock (prev m c t).2 (iblk m c 5 t) (iblk m c 6 t) (iblk m c 7 t) (prev m c t).1), (prev m c t).2) := by
  obtain ⟨n, hn⟩ := t
  cases n with
  | zero => exact absurd (Nat.zero_mod _) h0
  | succ n => exact (if_neg h0).trans (if_pos h1)

/-- Between points: the scratch buffer at the contents carried, at anything before the first point. -/
def carried (c : Dev nD) : (n : ℕ) → n ≤ cfg0.N → sProp 𝕄
  | 0, _ => Pipeline.ΦA spec0 c
  | n + 1, hn => iprop(owns (c : Thread nD τ) scr fullShare (held m c n hn).2 ∗ (∃ r, prngReg c r))

theorem carried_pos (c : Dev nD) (n : ℕ) (h : n ≤ cfg0.N) (hz : n ≠ 0) :
    carried m c n h = iprop(owns (c : Thread nD τ) scr fullShare (held m c (n - 1) (by omega)).2 ∗ (∃ r, prngReg c r)) := by
  cases n with
  | zero => exact absurd rfl hz
  | succ n => rfl

/-- Whatever the position, the scratch buffer is owned at some contents. -/
theorem carried_some (c : Dev nD) (n : ℕ) (h : n ≤ cfg0.N) :
    carried m c n h ⊢ (iprop(iprop(∃ d, owns (c : Thread nD τ) scr fullShare d) ∗ (∃ r, prngReg c r)) : sProp 𝕄) := by
  cases n with
  | zero =>
    rw [show carried m c 0 h = Pipeline.ΦA spec0 c from rfl, scoped_eq]
  | succ n =>
    rw [carried_pos m c _ h (Nat.succ_ne_zero n)]
    iintro ⟨HS, Hg⟩
    isplitl [HS]
    · iexists _; iexact HS
    iexact Hg

/-! ## The pipeline's data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (held m c t.val t.isLt).1
  Φ t := carried m c t.val (Nat.le_of_lt_succ t.isLt)
  q w := Pipeline.shareOf spec0 w
  owed _ := 0

theorem dats_A (c : Dev nD) (w : Fin cfg0.W) : (dats m 0 c).A w = V m c (Pipeline.arrRef spec0 w) := by dsimp only [dats]
theorem dats_carried (c : Dev nD) (t : Fin cfg0.N) : (dats m 0 c).Φ t.castSucc = carried m c t.val (Nat.le_of_lt t.isLt) := by
  dsimp only [dats]; exact Pipeline.Dat.Φ_castSucc (carried m c) t

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem left6 (c : Dev nD) (t : Fin cfg0.N) : (dats m 0 c).after 6 t = iblk m c 6 t := by dsimp only [dats]
theorem left7 (c : Dev nD) (t : Fin cfg0.N) : (dats m 0 c).after 7 t = iblk m c 7 t := by dsimp only [dats]
theorem left8 (c : Dev nD) (t : Fin cfg0.N) : (dats m 0 c).after 8 t = iblk m c 8 t := by dsimp only [dats]
theorem left9 (c : Dev nD) (t : Fin cfg0.N) : (dats m 0 c).after 9 t = (held m c t.val t.isLt).1 := by dsimp only [dats]

theorem found0 (c : Dev nD) (t : Fin cfg0.N) (d) : (dats m 0 c).before 0 t d = iblk m c 0 t :=
  before0_0_of m (dats m 0 c) (dats_A m c 0) (left0 m c) t d
theorem found1 (c : Dev nD) (t : Fin cfg0.N) (d) : (dats m 0 c).before 1 t d = iblk m c 1 t :=
  before0_1_of m (dats m 0 c) (dats_A m c 1) (left1 m c) t d
theorem found2 (c : Dev nD) (t : Fin cfg0.N) (d) : (dats m 0 c).before 2 t d = iblk m c 2 t :=
  before0_2_of m (dats m 0 c) (dats_A m c 2) (left2 m c) t d
theorem found3 (c : Dev nD) (t : Fin cfg0.N) (d) : (dats m 0 c).before 3 t d = iblk m c 3 t :=
  before0_3_of m (dats m 0 c) (dats_A m c 3) (left3 m c) t d
theorem found4 (c : Dev nD) (t : Fin cfg0.N) (d) : (dats m 0 c).before 4 t d = iblk m c 4 t :=
  before0_4_of m (dats m 0 c) (dats_A m c 4) (left4 m c) t d
theorem found5 (c : Dev nD) (t : Fin cfg0.N) (d) : (dats m 0 c).before 5 t d = iblk m c 5 t :=
  before0_5_of m (dats m 0 c) (dats_A m c 5) (left5 m c) t d
theorem found6 (c : Dev nD) (t : Fin cfg0.N) (d) : (dats m 0 c).before 6 t d = iblk m c 6 t :=
  before0_6_of m (dats m 0 c) (dats_A m c 6) (left6 m c) t d
theorem found7 (c : Dev nD) (t : Fin cfg0.N) (d) : (dats m 0 c).before 7 t d = iblk m c 7 t :=
  before0_7_of m (dats m 0 c) (dats_A m c 7) (left7 m c) t d
theorem found8 (c : Dev nD) (t : Fin cfg0.N) (d) : (dats m 0 c).before 8 t d = iblk m c 8 t :=
  before0_8_of m (dats m 0 c) (dats_A m c 8) (left8 m c) t d
/-- Inside a sweep the output's buffer still holds what the point before left. -/
theorem found9 (c : Dev nD) (t : Fin cfg0.N) (h0 : ¬ t.val % 11 = 0) (d) : (dats m 0 c).before 9 t d = (prev m c t).1 := by
  have hN : t.val < 176 := lt_of_lt_of_eq t.isLt (show cfg0.N = 176 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, found7, found8]
  rw [show (dats m 0 c).owesAt () t.succ = (dats m 0 c).owesAt () t.castSucc from rfl,
    left0, left1, left2, left3, left4, left5, left6, left7, left8, left9]
  rw [show (dats m 0 c).Φ t.succ = iprop(owns (c : Thread nD τ) scr fullShare (held m c t.val t.isLt).2 ∗ (∃ r, prngReg c r)) from rfl,
    dats_carried m c t]
  by_cases h0 : t.val % 11 = 0
  · rw [held_first m c t h0]
    unfold hAt
    dsimp only
    by_cases hz : t.val = 0
    · rw [show carried m c t.val (Nat.le_of_lt t.isLt) = Pipeline.ΦA spec0 c from by simp only [hz]; rfl, scoped_eq]
      iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (body_first c (grid0.coords t) _ _ _ _ _ _ _ _ _ _ _ _ _ _ _ _ _ _ _ _ _ _ ((tile_first t).mpr h0) (fun h => by have := (tile_last t).mp h; omega) (iblk m c 0 t) (iblk m c 1 t) (iblk m c 2 t) (iblk m c 3 t) (iblk m c 4 t) (iblk m c 5 t) (iblk m c 6 t) (iblk m c 7 t) (iblk m c 8 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [carried_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (body_first c (grid0.coords t) _ _ _ _ _ _ _ _ _ _ _ _ _ _ _ _ _ _ _ _ _ _ ((tile_first t).mpr h0) (fun h => by have := (tile_last t).mp h; omega) (iblk m c 0 t) (iblk m c 1 t) (iblk m c 2 t) (iblk m c 3 t) (iblk m c 4 t) (iblk m c 5 t) (iblk m c 6 t) (iblk m c 7 t) (iblk m c 8 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  have hz : t.val ≠ 0 := fun h => h0 (by rw [h])
  rw [carried_pos m c _ _ hz]
  simp only [found9 m c t h0]
  by_cases h1 : t.val % 11 = 10
  · rw [held_last m c t h0 h1]
    dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_last c (grid0.coords t) _ _ _ _ _ _ _ _ _ _ _ _ _ _ _ _ _ _ _ _ _ _ (fun h => h0 ((tile_first t).mp h)) ((tile_last t).mpr h1) (iblk m c 0 t) (iblk m c 1 t) (iblk m c 2 t) (iblk m c 3 t) (iblk m c 4 t) (iblk m c 5 t) (iblk m c 6 t) (iblk m c 7 t) (iblk m c 8 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [held_mid m c t h0 h1]
    dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_mid c (grid0.coords t) _ _ _ _ _ _ _ _ _ _ _ _ _ _ _ _ _ _ _ _ _ _ (fun h => h0 ((tile_first t).mp h)) (fun h => h1 ((tile_last t).mp h)) (iblk m c 0 t) (iblk m c 1 t) (iblk m c 2 t) (iblk m c 3 t) (iblk m c 4 t) (iblk m c 5 t) (iblk m c 6 t) (iblk m c 7 t) (iblk m c 8 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  rw [scoped_eq]
  exact carried_some m c cfg0.N (Nat.le_refl _)

/-! ## The run and the frame -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := dats_A m) (hin := enter m) (hout := leave m)

theorem run : θ_run defs (onTc (τ := τ) (main (F := F))) (s₀ m ρ) (Pipeline.FramePost cfgs (dats m) 0 (V m)) :=
  (θ_run defs _ _).mono (fun _ h => h.1) (run_quiet m ρ)

/-- The frame: every argument array ends unchanged and every semaphore at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (dats_A m) (run m ρ)) ((θ_run defs _ _).mono (fun _ h => h.2) (run_quiet m ρ))

end Cert.Kernel2Ideal.Ffn
-- ==== Proof.FfnValue.lean ====
/-
  The feed-forward kernel's result array, written by hand: the accumulator holds, after each tile of hidden units, the
  partial sums of the down projection, and the block written back after the last tile is the block of `Ffn.out`.
-/
module

public import proofs.«01_k».proof.Proof.FfnSpec
public import proofs.«01_k».proof.Proof.FfnFrame
public import Idealize.ShloMosaic.Lib.Pointwise
public import Idealize.ShloMosaic.Lib.ValueIdx
public import Idealize.ShloMosaic.Lib.Pipeline.Value
public import Idealize.ShloMosaic.Lib.Pipeline.ValueKit

@[expose] public section

set_option maxRecDepth 16384

noncomputable section

namespace Cert.Kernel2Ideal.Ffn

open Cert.Kernel2Ideal Cert.Kernel2Ideal.Gen Idealize.ShloMosaic Idealize.ShloMosaic.TcCoe Cert.Ffn

/-! ## The blocks' arithmetic, element by element -/

theorem chunk_at {α : Type} (X : S1024x2048.Idx → α) (a : Fin 1024) (b k : Fin 2048) :
    chunk X (chunkOf (ix2 a b)) (ix2 (n0 := 32) (n1 := 2048) ⟨a.val % 32, Nat.mod_lt _ (by decide)⟩ k) = X (ix2 a k) := by
  refine congrArg X (congrArg (fun z => ix2 z k) (Fin.ext ?_))
  show 32 * (a.val / 32) + a.val % 32 = a.val
  omega

theorem inChunk_at (a : Fin 1024) (b : Fin 2048) :
    inChunk (ix2 a b) = ix2 (n0 := 32) (n1 := 2048) ⟨a.val % 32, Nat.mod_lt _ (by decide)⟩ b := rfl

section
variable (gain fin : Vec Ideal S1x2048 .f32) (scale shift gate : Vec Ideal S1x1x2048 .f32)

theorem norm_at (x : Vec Ideal S32x2048 .f32) (a : Fin 32) (b : Fin 2048) :
    k0_pay15 (F := Ideal) gain scale shift x (ix2 a b)
      = x (ix2 a b) * rmsInv (fun k => x (ix2 a k)) * (gain (ix2 0 b) * (1 + scale (ix3 0 0 b))) + shift (ix3 0 0 b) := by
  pointwise [k0_pay15, rmsInv]

theorem close_at (x o : Vec Ideal S32x2048 .f32) (a : Fin 32) (b : Fin 2048) :
    k0_pay11 (F := Ideal) (k0_pay6 (k0_pay4 gate) x o) fin (ix2 a b)
      = (x (ix2 a b) + Ideal.ofBits .f32 0x3F000000#32 * gate (ix3 0 0 b) * o (ix2 a b))
          * rmsInv (fun k => x (ix2 a k) + Ideal.ofBits .f32 0x3F000000#32 * gate (ix3 0 0 k) * o (ix2 a k)) * fin (ix2 0 b) := by
  pointwise [k0_pay11, k0_pay6, k0_pay4, rmsInv]

theorem zero_piece (a : Fin 32) (b : Fin 2048) : (k0_pay16 (F := Ideal)) (ix2 a b) = 0 := by
  pointwise [k0_pay16]

theorem hBlock_at (x : Vec Ideal S1024x2048 .f32) (a : Fin 1024) (b : Fin 2048) :
    hBlock (F := Ideal) gain scale shift x (ix2 a b)
      = x (ix2 a b) * rmsInv (fun k => x (ix2 a k)) * (gain (ix2 0 b) * (1 + scale (ix3 0 0 b))) + shift (ix3 0 0 b) := by
  have h := norm_at gain scale shift (chunk x (chunkOf (ix2 a b))) ⟨a.val % 32, Nat.mod_lt _ (by decide)⟩ b
  simp only [chunk_at] at h
  exact h

theorem epiBlock_at (x o : Vec Ideal S1024x2048 .f32) (a : Fin 1024) (b : Fin 2048) :
    epiBlock (F := Ideal) gate fin x o (ix2 a b)
      = (x (ix2 a b) + Ideal.ofBits .f32 0x3F000000#32 * gate (ix3 0 0 b) * o (ix2 a b))
          * rmsInv (fun k => x (ix2 a k) + Ideal.ofBits .f32 0x3F000000#32 * gate (ix3 0 0 k) * o (ix2 a k)) * fin (ix2 0 b) := by
  have h := close_at fin gate (chunk x (chunkOf (ix2 a b))) (chunk o (chunkOf (ix2 a b))) ⟨a.val % 32, Nat.mod_lt _ (by decide)⟩ b
  simp only [chunk_at] at h
  exact h

theorem zeroBlock_at (a : Fin 1024) (b : Fin 2048) : zeroBlock (F := Ideal) (ix2 a b) = 0 :=
  zero_piece ⟨a.val % 32, Nat.mod_lt _ (by decide)⟩ b
end

section
variable (h : Vec Ideal S1024x2048 .bf16)

theorem firstL (wg wu : Vec Ideal S2048x256 .bf16) (o : Vec Ideal S1024x1024 .f32) (wd : Vec Ideal S256x1024 .bf16) (a : Fin 1024) (b : Fin 1024) :
    k0_pay18 (F := Ideal) h wg wu o wd (ix2 a b) = o (ix2 a b) + ∑ e : Fin 256,
      glu (∑ k : Fin 2048, h (ix2 a k) * wg (ix2 k e)) (∑ k : Fin 2048, h (ix2 a k) * wu (ix2 k e)) * wd (ix2 e b) := by
  pointwise [k0_pay18, k0_pay17, glu]
theorem firstR (wg wu : Vec Ideal S2048x256 .bf16) (o : Vec Ideal S1024x1024 .f32) (wd : Vec Ideal S256x1024 .bf16) (a : Fin 1024) (b : Fin 1024) :
    k0_pay19 (F := Ideal) h wg wu o wd (ix2 a b) = o (ix2 a b) + ∑ e : Fin 256,
      glu (∑ k : Fin 2048, h (ix2 a k) * wg (ix2 k e)) (∑ k : Fin 2048, h (ix2 a k) * wu (ix2 k e)) * wd (ix2 e b) := by
  pointwise [k0_pay19, k0_pay17, glu]
theorem secondL (wg wu : Vec Ideal S2048x256 .bf16) (o : Vec Ideal S1024x1024 .f32) (wd : Vec Ideal S256x1024 .bf16) (a : Fin 1024) (b : Fin 1024) :
    k0_pay2 (F := Ideal) h (k0_pay20 h wg) wu o wd (ix2 a b) = o (ix2 a b) + ∑ e : Fin 256,
      glu (∑ k : Fin 2048, h (ix2 a k) * wg (ix2 k e)) (∑ k : Fin 2048, h (ix2 a k) * wu (ix2 k e)) * wd (ix2 e b) := by
  pointwise [k0_pay2, k0_pay20, k0_pay1, glu]
theorem secondR (wg wu : Vec Ideal S2048x256 .bf16) (o : Vec Ideal S1024x1024 .f32) (wd : Vec Ideal S256x1024 .bf16) (a : Fin 1024) (b : Fin 1024) :
    k0_pay3 (F := Ideal) h (k0_pay20 h wg) wu o wd (ix2 a b) = o (ix2 a b) + ∑ e : Fin 256,
      glu (∑ k : Fin 2048, h (ix2 a k) * wg (ix2 k e)) (∑ k : Fin 2048, h (ix2 a k) * wu (ix2 k e)) * wd (ix2 e b) := by
  pointwise [k0_pay3, k0_pay20, k0_pay1, glu]

theorem wLo_at (w : Vec Ideal S2048x512 .bf16) (k : Fin 2048) (e : Fin 256) : wLo w (ix2 k e) = w (ix2 k ⟨0 + e.val, by omega⟩) := by
  exact View.ld_unit_apply_of _ _ _ _ _ _ fun a => by
    match a with
    | ⟨0, _⟩ => simp
    | ⟨1, _⟩ => simp
theorem wHi_at (w : Vec Ideal S2048x512 .bf16) (k : Fin 2048) (e : Fin 256) : wHi w (ix2 k e) = w (ix2 k ⟨256 + e.val, by omega⟩) := by
  exact View.ld_unit_apply_of _ _ _ _ _ _ fun a => by
    match a with
    | ⟨0, _⟩ => simp
    | ⟨1, _⟩ => simp
theorem d00_at (w : Vec Ideal S512x2048 .bf16) (e : Fin 256) (b : Fin 1024) : d00 w (ix2 e b) = w (ix2 ⟨0 + e.val, by omega⟩ ⟨b.val, by omega⟩) := by
  exact View.ld_unit_apply_of _ _ _ _ _ _ fun a => by
    match a with
    | ⟨0, _⟩ => simp
    | ⟨1, _⟩ => simp
theorem d01_at (w : Vec Ideal S512x2048 .bf16) (e : Fin 256) (b : Fin 1024) : d01 w (ix2 e b) = w (ix2 ⟨0 + e.val, by omega⟩ ⟨1024 + b.val, by omega⟩) := by
  exact View.ld_unit_apply_of _ _ _ _ _ _ fun a => by
    match a with
    | ⟨0, _⟩ => simp
    | ⟨1, _⟩ => simp
theorem d10_at (w : Vec Ideal S512x2048 .bf16) (e : Fin 256) (b : Fin 1024) : d10 w (ix2 e b) = w (ix2 ⟨256 + e.val, by omega⟩ ⟨b.val, by omega⟩) := by
  exact View.ld_unit_apply_of _ _ _ _ _ _ fun a => by
    match a with
    | ⟨0, _⟩ => simp
    | ⟨1, _⟩ => simp
theorem d11_at (w : Vec Ideal S512x2048 .bf16) (e : Fin 256) (b : Fin 1024) : d11 w (ix2 e b) = w (ix2 ⟨256 + e.val, by omega⟩ ⟨1024 + b.val, by omega⟩) := by
  exact View.ld_unit_apply_of _ _ _ _ _ _ fun a => by
    match a with
    | ⟨0, _⟩ => simp
    | ⟨1, _⟩ => simp
theorem left_at (o : Vec Ideal S1024x2048 .f32) (a : Fin 1024) (b : Fin 1024) : View.ld o rL (ix2 a b) = o (ix2 a ⟨b.val, by omega⟩) := by
  exact View.ld_unit_apply_of _ _ _ _ _ _ fun a => by
    match a with
    | ⟨0, _⟩ => simp
    | ⟨1, _⟩ => simp
theorem right_at (o : Vec Ideal S1024x2048 .f32) (a : Fin 1024) (b : Fin 1024) : View.ld o rR (ix2 a b) = o (ix2 a ⟨1024 + b.val, by omega⟩) := by
  exact View.ld_unit_apply_of _ _ _ _ _ _ fun a => by
    match a with
    | ⟨0, _⟩ => simp
    | ⟨1, _⟩ => simp

/-- What a half tile of hidden units, from `off` on, adds to the accumulator. -/
def half (wg wu : Vec Ideal S2048x512 .bf16) (wd : Vec Ideal S512x2048 .bf16) (a : Fin 1024) (d : Fin 2048) (off : ℕ) (hoff : off + 256 ≤ 512) : EReal :=
  ∑ e : Fin 256, glu (∑ k : Fin 2048, h (ix2 a k) * wg (ix2 k ⟨off + e.val, by omega⟩)) (∑ k : Fin 2048, h (ix2 a k) * wu (ix2 k ⟨off + e.val, by omega⟩))
    * wd (ix2 ⟨off + e.val, by omega⟩ d)

theorem half_of (wg wu : Vec Ideal S2048x512 .bf16) (wd : Vec Ideal S512x2048 .bf16) (a : Fin 1024) (d : Fin 2048) (off : ℕ) (hoff : off + 256 ≤ 512)
    (wg' wu' : Vec Ideal S2048x256 .bf16) (wd' : Vec Ideal S256x1024 .bf16) (d' : Fin 1024)
    (hg : ∀ k e, wg' (ix2 k e) = wg (ix2 k ⟨off + e.val, by omega⟩)) (hu : ∀ k e, wu' (ix2 k e) = wu (ix2 k ⟨off + e.val, by omega⟩))
    (hd : ∀ e, wd' (ix2 e d') = wd (ix2 ⟨off + e.val, by omega⟩ d)) :
    ∑ e : Fin 256, glu (∑ k : Fin 2048, h (ix2 a k) * wg' (ix2 k e)) (∑ k : Fin 2048, h (ix2 a k) * wu' (ix2 k e)) * wd' (ix2 e d')
      = half h wg wu wd a d off hoff := by
  simp only [half, hg, hu, hd]

theorem accBlock_at (wg wu : Vec Ideal S2048x512 .bf16) (wd : Vec Ideal S512x2048 .bf16) (o : Vec Ideal S1024x2048 .f32) (a : Fin 1024) (d : Fin 2048) :
    accBlock h wg wu wd o (ix2 a d) = o (ix2 a d) + half h wg wu wd a d 0 (by decide) + half h wg wu wd a d 256 (by decide) := by
  by_cases hd : d.val < 1024
  · refine (dif_pos hd).trans ?_
    show accLeft h wg wu wd o (ix2 a ⟨d.val, hd⟩) = _
    rw [accLeft, secondL, firstL, left_at]
    refine congrArg₂ (· + ·) (congrArg₂ (· + ·) rfl ?_) ?_
    · exact half_of h wg wu wd a d 0 _ _ _ _ _ (wLo_at wg) (wLo_at wu) fun e => d00_at wd e _
    · exact half_of h wg wu wd a d 256 _ _ _ _ _ (wHi_at wg) (wHi_at wu) fun e => d10_at wd e _
  · refine (dif_neg hd).trans ?_
    show accRight h wg wu wd o (ix2 a ⟨d.val - 1024, by omega⟩) = _
    have e : (⟨1024 + (d.val - 1024), by omega⟩ : Fin 2048) = d := Fin.ext (by simp only []; omega)
    rw [accRight, secondR, firstR, right_at]
    refine congrArg₂ (· + ·) (congrArg₂ (· + ·) (congrArg (fun z => o (ix2 a z)) e) ?_) ?_
    · exact half_of h wg wu wd a d 0 _ _ _ _ _ (wLo_at wg) (wLo_at wu) fun j => (d01_at wd j _).trans (congrArg (fun z => wd (ix2 _ z)) e)
    · exact half_of h wg wu wd a d 256 _ _ _ _ _ (wHi_at wg) (wHi_at wu) fun j => (d11_at wd j _).trans (congrArg (fun z => wd (ix2 _ z)) e)
end

/-! ## The blocks each grid point sees -/

theorem idx : ∀ t : Fin cfg0.N,
    win0_0.index t = ![t.val / 11, 0] ∧ win0_1.index t = ![t.val / 44 * 9 + 6, 0, 0] ∧ win0_2.index t = ![t.val / 44 * 9 + 7, 0, 0]
      ∧ win0_3.index t = ![t.val / 44 * 9 + 8, 0, 0] ∧ win0_4.index t = ![0, 0] ∧ win0_5.index t = ![0, t.val % 11] ∧ win0_6.index t = ![0, t.val % 11]
      ∧ win0_7.index t = ![t.val % 11, 0] ∧ win0_8.index t = ![0, 0] ∧ win0_9.index t = ![t.val / 11, 0] ∧ t.val < 176 :=
  (by decide +kernel : ∀ t : Fin grid0.N,
    win0_0.index t = ![t.val / 11, 0] ∧ win0_1.index t = ![t.val / 44 * 9 + 6, 0, 0] ∧ win0_2.index t = ![t.val / 44 * 9 + 7, 0, 0]
      ∧ win0_3.index t = ![t.val / 44 * 9 + 8, 0, 0] ∧ win0_4.index t = ![0, 0] ∧ win0_5.index t = ![0, t.val % 11] ∧ win0_6.index t = ![0, t.val % 11]
      ∧ win0_7.index t = ![t.val % 11, 0] ∧ win0_8.index t = ![0, 0] ∧ win0_9.index t = ![t.val / 11, 0] ∧ t.val < 176)

section
variable (m : (ℓ : Loc nD τ sig) → Buf (Elt Ideal) ℓ) (c : Dev nD) (t : Fin cfg0.N)

theorem x_blk (a : Fin 1024) (k : Fin 2048) :
    iblk m c 0 t (ix2 a k) = m ((c : Thread nD τ).loc main_arg0) (ix2 ⟨t.val / 11 * 1024 + a.val, by have := idx t; omega⟩ k) := by
  blk_ext [iblk, V, idx t]
theorem shift_blk (k : Fin 2048) :
    iblk m c 1 t (ix3 0 0 k) = m ((c : Thread nD τ).loc main_arg1) (ix3 ⟨t.val / 44 * 9 + 6, by have := idx t; omega⟩ 0 k) := by
  blk_ext [iblk, V, idx t]
theorem scale_blk (k : Fin 2048) :
    iblk m c 2 t (ix3 0 0 k) = m ((c : Thread nD τ).loc main_arg1) (ix3 ⟨t.val / 44 * 9 + 7, by have := idx t; omega⟩ 0 k) := by
  blk_ext [iblk, V, idx t]
theorem gate_blk (k : Fin 2048) :
    iblk m c 3 t (ix3 0 0 k) = m ((c : Thread nD τ).loc main_arg1) (ix3 ⟨t.val / 44 * 9 + 8, by have := idx t; omega⟩ 0 k) := by
  blk_ext [iblk, V, idx t]
theorem gain_blk (k : Fin 2048) : iblk m c 4 t (ix2 0 k) = m ((c : Thread nD τ).loc main_arg2) (ix2 0 k) := by
  blk_ext [iblk, V, idx t]
theorem wg_blk (k : Fin 2048) (j : Fin 512) :
    iblk m c 5 t (ix2 k j) = m ((c : Thread nD τ).loc main_arg3) (ix2 k ⟨t.val % 11 * 512 + j.val, by omega⟩) := by
  blk_ext [iblk, V, idx t]
theorem wu_blk (k : Fin 2048) (j : Fin 512) :
    iblk m c 6 t (ix2 k j) = m ((c : Thread nD τ).loc main_arg4) (ix2 k ⟨t.val % 11 * 512 + j.val, by omega⟩) := by
  blk_ext [iblk, V, idx t]
theorem wd_blk (j : Fin 512) (d : Fin 2048) :
    iblk m c 7 t (ix2 j d) = m ((c : Thread nD τ).loc main_arg5) (ix2 ⟨t.val % 11 * 512 + j.val, by omega⟩ d) := by
  blk_ext [iblk, V, idx t]
theorem fin_blk (k : Fin 2048) : iblk m c 8 t (ix2 0 k) = m ((c : Thread nD τ).loc main_arg6) (ix2 0 k) := by
  blk_ext [iblk, V, idx t]
/-! ## The sweep over the tiles of hidden units -/

/-- The row of the array that row `a` of point `t`'s block is. -/
def row (t : Fin cfg0.N) (a : Fin 1024) : Fin 16384 := ⟨t.val / 11 * 1024 + a.val, by have := idx t; omega⟩

theorem row_seq (a : Fin 1024) : (row t a).val / 4096 = t.val / 44 := by
  show (t.val / 11 * 1024 + a.val) / 4096 = t.val / 44
  omega

/-- The normalised, modulated row, read off the argument arrays. -/
abbrev hidM (r : Fin 16384) (k : Fin 2048) : EReal :=
  hid (m ((c : Thread nD τ).loc main_arg0)) (m ((c : Thread nD τ).loc main_arg1)) (m ((c : Thread nD τ).loc main_arg2)) 6 r k

/-- The summands of the down projection. -/
abbrev termM (r : Fin 16384) (d : Fin 2048) (j : Fin 5632) : EReal :=
  act (m ((c : Thread nD τ).loc main_arg0)) (m ((c : Thread nD τ).loc main_arg1)) (m ((c : Thread nD τ).loc main_arg2))
    (m ((c : Thread nD τ).loc main_arg3)) (m ((c : Thread nD τ).loc main_arg4)) 6 r j * m ((c : Thread nD τ).loc main_arg5) (ix2 j d)

theorem shift_row (a : Fin 1024) (k : Fin 2048) : iblk m c 1 t (ix3 0 0 k) = shift (m ((c : Thread nD τ).loc main_arg1)) 6 (row t a) k :=
  (shift_blk m c t k).trans (congrArg (fun z => m ((c : Thread nD τ).loc main_arg1) (ix3 z 0 k)) (Fin.ext (by
    show t.val / 44 * 9 + 6 = (row t a).val / 4096 * 9 + 6
    rw [row_seq])))
theorem scale_row (a : Fin 1024) (k : Fin 2048) : iblk m c 2 t (ix3 0 0 k) = scale (m ((c : Thread nD τ).loc main_arg1)) 6 (row t a) k :=
  (scale_blk m c t k).trans (congrArg (fun z => m ((c : Thread nD τ).loc main_arg1) (ix3 z 0 k)) (Fin.ext (by
    show t.val / 44 * 9 + 7 = (row t a).val / 4096 * 9 + 6 + 1
    rw [row_seq])))
theorem gate_row (a : Fin 1024) (k : Fin 2048) : iblk m c 3 t (ix3 0 0 k) = gate (m ((c : Thread nD τ).loc main_arg1)) 6 (row t a) k :=
  (gate_blk m c t k).trans (congrArg (fun z => m ((c : Thread nD τ).loc main_arg1) (ix3 z 0 k)) (Fin.ext (by
    show t.val / 44 * 9 + 8 = (row t a).val / 4096 * 9 + 6 + 2
    rw [row_seq])))

theorem hAt_at (a : Fin 1024) (k : Fin 2048) : hAt m c t (ix2 a k) = hidM m c (row t a) k := by
  rw [hAt, hBlock_at, shift_row m c t a, scale_row m c t a, gain_blk]
  simp only [x_blk]
  rw [← mul_assoc]
  rfl

/-- Half a tile's contribution is a piece of the down projection's sum. -/
theorem half_at (h : Vec Ideal S1024x2048 .bf16) (a : Fin 1024) (d : Fin 2048) (hh : ∀ k, h (ix2 a k) = hidM m c (row t a) k)
    (off s : ℕ) (hoff : off + 256 ≤ 512) (hs : 256 * s = t.val % 11 * 512 + off) :
    half h (iblk m c 5 t) (iblk m c 6 t) (iblk m c 7 t) a d off hoff = stretch (termM m c (row t a) d) s := by
  have hs' : s < 22 := by omega
  rw [stretch, dif_pos hs', half]
  refine Finset.sum_congr rfl fun e _ => ?_
  have hj : (⟨t.val % 11 * 512 + (off + e.val), by omega⟩ : Fin 5632) = ⟨256 * s + e.val, by omega⟩ := Fin.ext (by simp only []; omega)
  simp only [wg_blk, wu_blk, wd_blk, hh, hj]
  rfl

/-- One step of the sweep. -/
theorem step_at (h : Vec Ideal S1024x2048 .bf16) (o : Vec Ideal S1024x2048 .f32) (a : Fin 1024) (d : Fin 2048)
    (hh : ∀ k, h (ix2 a k) = hidM m c (row t a) k) (ho : o (ix2 a d) = partialSum (termM m c (row t a) d) (t.val % 11)) :
    accBlock h (iblk m c 5 t) (iblk m c 6 t) (iblk m c 7 t) o (ix2 a d) = partialSum (termM m c (row t a) d) (t.val % 11 + 1) := by
  rw [accBlock_at, ho, half_at m c t h a d hh 0 (2 * (t.val % 11)) _ (by omega), half_at m c t h a d hh 256 (2 * (t.val % 11) + 1) _ (by omega)]
  rfl

theorem row_prev (n : ℕ) (hn : n + 1 < cfg0.N) (h0 : ¬ (n + 1) % 11 = 0) (a : Fin 1024) :
    row ⟨n, Nat.lt_of_succ_lt hn⟩ a = row ⟨n + 1, hn⟩ a :=
  Fin.ext (by show n / 11 * 1024 + a.val = (n + 1) / 11 * 1024 + a.val; omega)

/-- The activations kept between points are those of the point's rows. -/
theorem kept (a : Fin 1024) (k : Fin 2048) : ∀ (n : ℕ) (hn : n < cfg0.N), (held m c n hn).2 (ix2 a k) = hidM m c (row ⟨n, hn⟩ a) k := by
  intro n
  induction n with
  | zero => exact fun hn => (congrFun (congrArg Prod.snd (held_first m c ⟨0, hn⟩ rfl)) _).trans (hAt_at m c ⟨0, hn⟩ a k)
  | succ n ih =>
    intro hn
    by_cases h0 : (n + 1) % 11 = 0
    · exact (congrFun (congrArg Prod.snd (held_first m c ⟨n + 1, hn⟩ h0)) _).trans (hAt_at m c ⟨n + 1, hn⟩ a k)
    · have e : (held m c (n + 1) hn).2 = (held m c n (Nat.lt_of_succ_lt hn)).2 := by
        by_cases h1 : (n + 1) % 11 = 10
        · have h := congrArg Prod.snd (held_last m c ⟨n + 1, hn⟩ h0 h1)
          exact h
        · have h := congrArg Prod.snd (held_mid m c ⟨n + 1, hn⟩ h0 h1)
          exact h
      rw [e, ih, row_prev n hn h0]

theorem first_at (a : Fin 1024) (d : Fin 2048) (h0 : t.val % 11 = 0) :
    (held m c t.val t.isLt).1 (ix2 a d) = partialSum (termM m c (row t a) d) (t.val % 11 + 1) := by
  rw [held_first m c t h0]
  refine step_at m c t _ _ a d (hAt_at m c t a) ?_
  rw [zeroBlock_at, h0]
  rfl

/-- Before the last tile the accumulator holds the partial sums. -/
theorem partial_at (a : Fin 1024) (d : Fin 2048) : ∀ (n : ℕ) (hn : n < cfg0.N), n % 11 ≠ 10 →
    (held m c n hn).1 (ix2 a d) = partialSum (termM m c (row ⟨n, hn⟩ a) d) (n % 11 + 1) := by
  intro n
  induction n with
  | zero => exact fun hn _ => first_at m c ⟨0, hn⟩ a d rfl
  | succ n ih =>
    intro hn h1
    by_cases h0 : (n + 1) % 11 = 0
    · exact first_at m c ⟨n + 1, hn⟩ a d h0
    · refine (congrFun (congrArg Prod.fst (held_mid m c ⟨n + 1, hn⟩ h0 h1)) _).trans ?_
      refine step_at m c ⟨n + 1, hn⟩ _ _ a d (fun k => ?_) ?_
      · exact (kept m c a k n (Nat.lt_of_succ_lt hn)).trans (by rw [row_prev n hn h0])
      · refine (ih (Nat.lt_of_succ_lt hn) (by omega)).trans ?_
        rw [row_prev n hn h0]
        show partialSum _ (n % 11 + 1) = partialSum _ ((n + 1) % 11)
        rw [show (n + 1) % 11 = n % 11 + 1 by omega]

/-- The finished block, read off the argument arrays. -/
abbrev outM (r : Fin 16384) (d : Fin 2048) : EReal :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) 6
    (m ((c : Thread nD τ).loc main_arg6)) r d

/-- After the last tile: the result's rows. -/
theorem last_at (a : Fin 1024) (d : Fin 2048) (h1 : t.val % 11 = 10) : (held m c t.val t.isLt).1 (ix2 a d) = outM m c (row t a) d := by
  have h0 : ¬ t.val % 11 = 0 := by omega
  rw [held_last m c t h0 h1]
  have hacc : ∀ d, accBlock (prev m c t).2 (iblk m c 5 t) (iblk m c 6 t) (iblk m c 7 t) (prev m c t).1 (ix2 a d)
      = down (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) 6 (row t a) d := by
    intro d
    obtain ⟨n, hn⟩ := t
    cases n with
    | zero => exact absurd rfl h0
    | succ n =>
      refine (step_at m c ⟨n + 1, hn⟩ _ _ a d (fun k => ?_) ?_).trans ?_
      · exact (kept m c a k n (Nat.lt_of_succ_lt hn)).trans (by rw [row_prev n hn h0])
      · have h1' : (n + 1) % 11 = 10 := h1
        refine (partial_at m c a d n (Nat.lt_of_succ_lt hn) (by omega)).trans ?_
        rw [row_prev n hn h0]
        show partialSum _ (n % 11 + 1) = partialSum _ ((n + 1) % 11)
        rw [show (n + 1) % 11 = n % 11 + 1 by omega]
      · rw [h1]
        exact partialSum_all _
  show epiBlock (iblk m c 3 t) (iblk m c 8 t) (iblk m c 0 t) _ (ix2 a d) = _
  rw [epiBlock_at, fin_blk]
  simp only [hacc, gate_row m c t a, x_blk]
  rfl

/-! ## The result array -/

/-- The result array after the run. -/
theorem result : (dats m 0 c).arrAt 9 cfg0.N = fun i : S16384x2048.Idx => outM m c (i 0) (i 1) := by
  refine (dats m 0 c).arrAt_eq_of_covers 9 _ (by decide +kernel) fun t hf y => ?_
  have e0 : (((cfg0.win 9).blk t).view.emb y 0).val = win0_9.index t 0 * 1024 + (y 0).val := by blk_simp
  have e1 : (((cfg0.win 9).blk t).view.emb y 1).val = win0_9.index t 1 * 2048 + (y 1).val := by blk_simp
  have hi := (idx t).2.2.2.2.2.2.2.2.2.1
  have hy : y = ix2 (y 0) (y 1) := by funext k; match k with | ⟨0, _⟩ => rfl | ⟨1, _⟩ => rfl
  have h := last_at m c t (y 0) (y 1) ((flush0_9 t).mp hf)
  blk_simp
  rw [left9]
  refine (congrArg _ hy).trans (h.trans ?_)
  refine congrArg₂ (outM m c) (Fin.ext ?_) (Fin.ext ?_)
  · exact (by rw [hi]; rfl : t.val / 11 * 1024 + (y 0).val = win0_9.index t 0 * 1024 + (y 0).val).trans e0.symm
  · exact (by rw [hi]; show (y 1).val = 0 * 2048 + (y 1).val; omega : (y 1).val = win0_9.index t 1 * 2048 + (y 1).val).trans e1.symm
end

end Cert.Kernel2Ideal.Ffn

end
-- ==== Proof.FfnReference.lean ====
/-
  The feed-forward reference read element by element, written by hand: its result is `Ffn.out`.
-/
module

public import proofs.«01_k».proof.Proof.FfnSpec
public import proofs.«01_k».proof.Proof.Gen.Reference2Ideal.Read
public import Idealize.ShloMosaic.Lib.Pointwise
public import Idealize.ShloMosaic.Lib.ValueIdx

@[expose] public section

set_option maxRecDepth 16384

noncomputable section

namespace Cert.FfnReference

open Cert.Reference2Ideal Cert.Reference2Ideal.Read Idealize.ShloMosaic Cert.Ffn

variable (x : (⟨S16384x2048, .f32⟩ : BufTy).Contents (Elt Ideal)) (md : (⟨S72x1x2048, .f32⟩ : BufTy).Contents (Elt Ideal))
  (gain : (⟨S1x2048, .f32⟩ : BufTy).Contents (Elt Ideal)) (wg wu : (⟨S2048x5632, .bf16⟩ : BufTy).Contents (Elt Ideal))
  (wd : (⟨S5632x2048, .bf16⟩ : BufTy).Contents (Elt Ideal)) (fin : (⟨S1x2048, .f32⟩ : BufTy).Contents (Elt Ideal))

/-- Row of token `t` of sequence `b`. -/
abbrev tok (b : Fin 4) (t : Fin 4096) : Fin 16384 := ⟨b.val * 4096 + t.val, by omega⟩

theorem x_at (b : Fin 4) (t : Fin 4096) (k : Fin 2048) : val_main_v3 (F := Ideal) x (ix3 b t k) = x (ix2 (tok b t) k) := by
  pointwise [val_main_v3]

theorem shift_at (b : Fin 4) (k : Fin 2048) : val_main_v7 (F := Ideal) md (ix3 b 0 k) = md (ix3 ⟨b.val * 9 + 6, by omega⟩ 0 k) := by
  pointwise [val_main_v7, val_main_v6, val_main_v5]
theorem scale_at (b : Fin 4) (k : Fin 2048) : val_main_v8 (F := Ideal) md (ix3 b 0 k) = md (ix3 ⟨b.val * 9 + 7, by omega⟩ 0 k) := by
  pointwise [val_main_v8, val_main_v6, val_main_v5]
theorem gate_at (b : Fin 4) (k : Fin 2048) : val_main_v9 (F := Ideal) md (ix3 b 0 k) = md (ix3 ⟨b.val * 9 + 8, by omega⟩ 0 k) := by
  pointwise [val_main_v9, val_main_v6, val_main_v5]

theorem tok_seq (b : Fin 4) (t : Fin 4096) : (tok b t).val / 4096 = b.val := by
  show (b.val * 4096 + t.val) / 4096 = b.val
  omega

theorem shift_tok (b : Fin 4) (t : Fin 4096) (k : Fin 2048) : val_main_v7 (F := Ideal) md (ix3 b 0 k) = shift md 6 (tok b t) k :=
  (shift_at md b k).trans (congrArg (fun z => md (ix3 z 0 k)) (Fin.ext (by
    show b.val * 9 + 6 = (tok b t).val / 4096 * 9 + 6
    rw [tok_seq])))
theorem scale_tok (b : Fin 4) (t : Fin 4096) (k : Fin 2048) : val_main_v8 (F := Ideal) md (ix3 b 0 k) = scale md 6 (tok b t) k :=
  (scale_at md b k).trans (congrArg (fun z => md (ix3 z 0 k)) (Fin.ext (by
    show b.val * 9 + 7 = (tok b t).val / 4096 * 9 + 6 + 1
    rw [tok_seq])))
theorem gate_tok (b : Fin 4) (t : Fin 4096) (k : Fin 2048) : val_main_v9 (F := Ideal) md (ix3 b 0 k) = gate md 6 (tok b t) k :=
  (gate_at md b k).trans (congrArg (fun z => md (ix3 z 0 k)) (Fin.ext (by
    show b.val * 9 + 8 = (tok b t).val / 4096 * 9 + 6 + 2
    rw [tok_seq])))

/-- The normalised, modulated row. -/
theorem hid_at (b : Fin 4) (t : Fin 4096) (k : Fin 2048) :
    val_main_v28 (F := Ideal) x md gain (ix3 b t k) = hid x md gain 6 (tok b t) k := by
  have h : val_main_v28 (F := Ideal) x md gain (ix3 b t k)
      = val_main_v3 (F := Ideal) x (ix3 b t k) * rmsInv (fun k => val_main_v3 (F := Ideal) x (ix3 b t k)) * gain (ix2 0 k)
        * (1 + val_main_v8 (F := Ideal) md (ix3 b 0 k)) + val_main_v7 (F := Ideal) md (ix3 b 0 k) := by
    pointwise [val_main_v28, val_main_v27, val_main_v26, val_main_v25, val_main_v24, val_main_v23, val_main_cst_2, val_main_v22, val_main_v21, val_main_v20,
      val_main_v19, val_main_v18, val_main_v17, val_main_v16, val_main_v15, val_main_cst_1, val_main_v14, val_main_v13, val_main_cst_0, val_main_v12, val_main_v11, val_main_cst,
      val_main_v10, val_main_v4, rmsInv]
  rw [h, shift_tok md b t, scale_tok md b t]
  simp only [x_at]
  rfl

theorem gateproj_at (b : Fin 4) (t : Fin 4096) (j : Fin 5632) :
    val_main_v31 (F := Ideal) x md gain wg (ix3 b t j) = ∑ k : Fin 2048, val_main_v28 (F := Ideal) x md gain (ix3 b t k) * wg (ix2 k j) := by
  pointwise [val_main_v31, val_main_v0]

theorem upproj_at (b : Fin 4) (t : Fin 4096) (j : Fin 5632) :
    val_main_v33 (F := Ideal) x md gain wu (ix3 b t j) = ∑ k : Fin 2048, val_main_v28 (F := Ideal) x md gain (ix3 b t k) * wu (ix2 k j) := by
  pointwise [val_main_v33, val_main_v1]

theorem glu_at (b : Fin 4) (t : Fin 4096) (j : Fin 5632) :
    val_main_v34 (F := Ideal) x md gain wg wu (ix3 b t j)
      = glu (val_main_v31 (F := Ideal) x md gain wg (ix3 b t j)) (val_main_v33 (F := Ideal) x md gain wu (ix3 b t j)) := by
  pointwise [val_main_v34, val_main_v32, val_main_call0_v5, val_main_call0_v4, val_main_call0_cst_0, val_main_call0_v3, val_main_call0_v2, val_main_call0_cst,
    val_main_call0_v1, val_main_call0_v0, glu, Ideal.logistic]

theorem act_at (b : Fin 4) (t : Fin 4096) (j : Fin 5632) :
    val_main_v34 (F := Ideal) x md gain wg wu (ix3 b t j) = act x md gain wg wu 6 (tok b t) j := by
  rw [glu_at, gateproj_at, upproj_at]
  simp only [hid_at]
  rfl

theorem down_at (b : Fin 4) (t : Fin 4096) (d : Fin 2048) :
    val_main_v35 (F := Ideal) x md gain wg wu wd (ix3 b t d) = down x md gain wg wu wd 6 (tok b t) d := by
  have h : val_main_v35 (F := Ideal) x md gain wg wu wd (ix3 b t d)
      = ∑ j : Fin 5632, val_main_v34 (F := Ideal) x md gain wg wu (ix3 b t j) * wd (ix2 j d) := by
    pointwise [val_main_v35, val_main_v2]
  rw [h]
  simp only [act_at]
  rfl

theorem res_at (b : Fin 4) (t : Fin 4096) (d : Fin 2048) :
    val_main_v38 (F := Ideal) x md gain wg wu wd (ix3 b t d) = res x md gain wg wu wd 6 (tok b t) d := by
  have h : val_main_v38 (F := Ideal) x md gain wg wu wd (ix3 b t d)
      = val_main_v3 (F := Ideal) x (ix3 b t d)
        + Ideal.ofBits .f32 0x3F000000#32 * val_main_v9 (F := Ideal) md (ix3 b 0 d) * val_main_v35 (F := Ideal) x md gain wg wu wd (ix3 b t d) := by
    pointwise [val_main_v38, val_main_v37, val_main_v36, val_main_v30, val_main_v29, val_main_cst_3]
  rw [h, x_at, gate_tok md b t, down_at]
  rfl

theorem out_at (b : Fin 4) (t : Fin 4096) (d : Fin 2048) :
    val_main_v52 (F := Ideal) x md gain wg wu wd fin (ix3 b t d) = out x md gain wg wu wd 6 fin (tok b t) d := by
  have h : val_main_v52 (F := Ideal) x md gain wg wu wd fin (ix3 b t d)
      = val_main_v38 (F := Ideal) x md gain wg wu wd (ix3 b t d) * rmsInv (fun d => val_main_v38 (F := Ideal) x md gain wg wu wd (ix3 b t d)) * fin (ix2 0 d) := by
    pointwise [val_main_v52, val_main_v51, val_main_v50, val_main_v49, val_main_v48, val_main_v47, val_main_v46, val_main_v45, val_main_cst_6, val_main_v44, val_main_v43,
      val_main_cst_5, val_main_v42, val_main_v41, val_main_cst_4, val_main_v40, val_main_v39, rmsInv]
  rw [h]
  simp only [res_at]
  rfl

/-- The reference's result. -/
theorem result_at (r : Fin 16384) (d : Fin 2048) :
    val_main_v53 (F := Ideal) x md gain wg wu wd fin (ix2 r d) = out x md gain wg wu wd 6 fin r d := by
  have h : val_main_v53 (F := Ideal) x md gain wg wu wd fin (ix2 r d)
      = val_main_v52 (F := Ideal) x md gain wg wu wd fin (ix3 ⟨r.val / 4096, by omega⟩ ⟨r.val % 4096, by omega⟩ d) := by
    pointwise [val_main_v53]
  rw [h, out_at]
  exact congrArg (fun z => out x md gain wg wu wd 6 fin z d) (Fin.ext (by
    show r.val / 4096 * 4096 + r.val % 4096 = r.val
    omega))

end Cert.FfnReference

end
-- ==== Proof.FfnClaim.lean ====
/-
  The feed-forward claim, written by hand: from the two programs' runs, both results named as `Ffn.out` of the arguments.
-/
module

public import proofs.«01_k».proof.Defs
public import proofs.«01_k».proof.Proof.FfnValue
public import proofs.«01_k».proof.Proof.FfnReference
public import proofs.«01_k».proof.Proof.Gen.Reference2Ideal.Run
public import Idealize.ShloMosaic.Lib.Claim

@[expose] public section

set_option maxRecDepth 16384

noncomputable section

namespace Cert.FfnClaim

open Idealize.ShloMosaic Idealize.ShloMosaic.TcCoe Idealize.SL.Sem

theorem algebraic : Cert.algebraic_Kernel2Ideal_Reference2Ideal := by
  intro m g m' g' _ hargs
  refine ⟨fun c => fun i : Cert.Kernel2Ideal.S16384x2048.Idx => Cert.Kernel2Ideal.Ffn.outM m c (i 0) (i 1), ?_, ?_⟩
  · refine (θ_run _ _ _).mono (fun r h c => ?_) (θ_run_and (Cert.Kernel2Ideal.Ffn.run (F := Ideal) m g) (Cert.Kernel2Ideal.Ffn.frame (F := Ideal) m g))
    exact ⟨((h.1 c).1 9).trans (Cert.Kernel2Ideal.Ffn.result m c), h.2.1 c⟩
  · refine (θ_run _ _ _).mono (fun r h c => ?_) (Cert.Reference2Ideal.Value.run m' g')
    refine ⟨(h c).1.trans ?_, (h c).2⟩
    obtain ⟨a0, a1, a2, a3, a4, a5, a6⟩ := hargs c
    rw [Cert.Reference2Ideal.Read.val_main_v53_eq, a0, a1, a2, a3, a4, a5, a6]
    funext i
    have hi : i = ix2 (i 0) (i 1) := by funext k; match k with | ⟨0, _⟩ => rfl | ⟨1, _⟩ => rfl
    rw [hi]
    exact FfnReference.result_at _ _ _ _ _ _ _ _ _

end Cert.FfnClaim

end
-- ==== Proof.HalfLoops.lean ====
/-
The two counted loops of the feed-forward kernel without the final norm, read back.

The first loop normalises and modulates a block of activations 32 rows at a time and clears the accumulator; the
second adds the gated result to the residual, again 32 rows at a time.  Each is
read here as ONE function of whole blocks, row by row.
-/
module

public import proofs.«01_k».proof.Proof.Gen.Kernel3Ideal.Loops
public import proofs.«01_k».proof.Proof.Gen.Kernel3Ideal.Frame
public import Idealize.ShloMosaic.Lib.WritesUnit
public import Idealize.ShloMosaic.Lib.Pointwise

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Chunks of 32 rows -/

/-- Rows `32 q … 32 q + 31` of a block. -/
def chunk {α : Type} (X : S1024x2048.Idx → α) (q : Fin 32) : S32x2048.Idx → α :=
  fun z => X (ix2 (n0 := 1024) (n1 := 2048) ⟨32 * q.val + (z 0).val, by
    have h : (z 0).val < 32 := (z 0).isLt
    omega⟩ ⟨(z 1).val, (z 1).isLt⟩)

/-- The chunk a row of the block lies in. -/
def chunkOf (y : S1024x2048.Idx) : Fin 32 := ⟨(y 0).val / 32, by
  have h : (y 0).val < 1024 := (y 0).isLt
  omega⟩

/-- Where in its chunk an index of the block lies. -/
def inChunk (y : S1024x2048.Idx) : S32x2048.Idx :=
  ix2 (n0 := 32) (n1 := 2048) ⟨(y 0).val % 32, Nat.mod_lt _ (by decide)⟩ ⟨(y 1).val, (y 1).isLt⟩

/-- A load of 32 whole rows reads the chunk. -/
theorem readAt_rows {e : EltTy} {sp : Space} (v : View sig .tc sp S1024x2048 e) (G : v.ty.Contents (Elt F)) {off : Fin 2 → ℕ}
    (inb : ∀ a, off a + S32x2048.size a ≤ S1024x2048.size a) (q : Fin 32) (hoff : off = ![32 * q.val, 0]) :
    v.readAt (Elt F) (Rect.unit (s := S1024x2048) off S32x2048.size inb).toLoadRect G = chunk (v.read (Elt F) G) q := by
  subst hoff
  funext z
  show v.read (Elt F) G _ = v.read (Elt F) G _
  congr 1
  funext a
  match a with
  | ⟨0, _⟩ => exact Fin.ext (by show 32 * q.val + 1 * (z 0).val = 32 * q.val + (z 0).val; omega)
  | ⟨1, _⟩ => exact Fin.ext (by show 0 + 1 * (z 1).val = (z 1).val; omega)

/-- Reading after a store of 32 whole rows: the stored rows in that chunk, what was there before elsewhere. -/
theorem read_store_rows {e : EltTy} {sp : Space} (v : View sig .tc sp S1024x2048 e) (f : v.ty.Contents (Elt F)) {off : Fin 2 → ℕ}
    (inb : ∀ a, off a + S32x2048.size a ≤ S1024x2048.size a) (q : Fin 32) (hoff : off = ![32 * q.val, 0])
    (w : S32x2048.Idx → Elt F e) (L : List (View.Piece (Elt F) S1024x2048 e)) (y : S1024x2048.Idx) :
    v.read (Elt F) (v.writes (Elt F) f ((⟨Rect.unit (s := S1024x2048) off S32x2048.size inb, w⟩ : View.Piece (Elt F) S1024x2048 e) :: L)) y
      = if (y 0).val / 32 = q.val then w (inChunk y) else v.read (Elt F) (v.writes (Elt F) f L) y := by
  by_cases h : (y 0).val / 32 = q.val
  · rw [if_pos h]
    exact View.read_writes_cons_rows_of_mem v f inb w L y (inChunk y) hoff
      (by show (y 0).val = 32 * q.val + (y 0).val % 32; omega) rfl
  · rw [if_neg h]
    exact View.read_writes_cons_rows_of_not_mem v f inb w L y hoff rfl (W := 32) (by omega)

/-! ## The normalised, modulated activations -/

/-- A block of activations normalised row by row and modulated: `gain` the norm's weight, `scale` and `shift` the
    modulation. -/
def hBlock (gain : Vec F S1x2048 .f32) (scale shift : Vec F S1x1x2048 .f32) (x : Vec F S1024x2048 .f32) : Vec F S1024x2048 .bf16 :=
  fun y => k0_pay5 gain scale shift (chunk x (chunkOf y)) (inChunk y)

/-- The cleared accumulator. -/
def zeroBlock : Vec F S1024x2048 .f32 := fun y => (k0_pay6 : FVec F S32x2048 .f32) (inChunk y)

/-- The residual plus half the gate times the accumulated product. -/
def epiBlock (gate : Vec F S1x1x2048 .f32) (x o : Vec F S1024x2048 .f32) : Vec F S1024x2048 .f32 :=
  fun y => k0_pay4 gate (chunk x (chunkOf y)) (chunk o (chunkOf y)) (inChunk y)

section
variable (c : Dev nD) (i : grid0.Coords)
  (arg2 : Memref sig .tc .vmem S1024x2048 .f32) (harg2 : arg2.IsWhole) (arg3 : Memref sig .tc .vmem S1x1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S1x2048 .f32) (harg6 : arg6.IsWhole) (arg7 : Memref sig .tc .vmem S2048x512 .bf16) (harg7 : arg7.IsWhole)
  (arg8 : Memref sig .tc .vmem S2048x512 .bf16) (harg8 : arg8.IsWhole) (arg9 : Memref sig .tc .vmem S512x2048 .bf16) (harg9 : arg9.IsWhole)
  (arg10 : Memref sig .tc .vmem S1x2048 .f32) (harg10 : arg10.IsWhole) (arg11 : Memref sig .tc .vmem S1024x2048 .f32) (harg11 : arg11.IsWhole)
  (arg12 : Memref sig .tc .vmem S1024x2048 .bf16) (harg12 : arg12.IsWhole)

/-- The first loop: after `n` trips the first `32 n` rows hold the modulated activations, the others what they held. -/
theorem read_t1_h (k0_h1 : k0_cond1 i = 1#1) (v47 : Vec F S1x2048 .f32) (v48 v53 : Vec F S1x1x2048 .f32)
    (X : BufTy.Contents (Elt F) arg2.view.ty) (G : BufTy.Contents (Elt F) arg12.view.ty) (y : S1024x2048.Idx) :
    ∀ n : ℕ, n ≤ k0_t1_loop.trips →
      arg12.view.read (Elt F) (arg12.view.writes (Elt F) G
        (pb_k0_t1 (F := F) Variants.none c none i arg2 harg2 arg3 harg3 arg4 harg4 arg5 harg5 arg6 harg6 arg7 harg7 arg8 harg8 arg9 harg9
          arg10 harg10 arg11 harg11 arg12 harg12 k0_h1 v47 v48 v53 X n).2) y
      = if (y 0).val / 32 < n then hBlock v47 v48 v53 (arg2.view.read (Elt F) X) y else arg12.view.read (Elt F) G y
  | 0, _ => by rw [if_neg (Nat.not_lt_zero _)]; rfl
  | n + 1, hn => by
    have ih := read_t1_h k0_h1 v47 v48 v53 X G y n (by omega)
    have hlt : n < 32 := Nat.lt_of_lt_of_le hn k0_t1_abs.2.1
    rw [pb_k0_t1_succ (F := F) Variants.none c none i arg2 harg2 arg3 harg3 arg4 harg4 arg5 harg5 arg6 harg6 arg7 harg7 arg8 harg8 arg9 harg9
          arg10 harg10 arg11 harg11 arg12 harg12 k0_h1 v47 v48 v53 X ⟨n, hn⟩]
    unfold tripL_k0_t1 trip_k0_t1
    dsimp only [List.cons_append, List.nil_append]
    have hoff : k0_off1 ⟨n, hn⟩ = ![32 * (⟨n, hlt⟩ : Fin 32).val, 0] := k0_off1_eq _
    refine (read_store_rows arg12.view G (k0_off1_inb i ⟨n, hn⟩ k0_h1) ⟨n, hlt⟩ hoff _ _ y).trans ?_
    rw [ih]
    by_cases h : (y 0).val / 32 = n
    · rw [if_pos h, if_pos (by omega)]
      show k0_pay5 v47 v48 v53 _ (inChunk y) = _
      rw [readAt_rows arg2.view X (k0_off1_inb i ⟨n, hn⟩ k0_h1) ⟨n, hlt⟩ hoff]
      show _ = k0_pay5 v47 v48 v53 (chunk _ (chunkOf y)) (inChunk y)
      rw [show chunkOf y = ⟨n, hlt⟩ from Fin.ext h]
    · rw [if_neg h]
      by_cases h' : (y 0).val / 32 < n
      · rw [if_pos h', if_pos (by omega)]
      · rw [if_neg h', if_neg (by omega)]

/-- … and the first `32 n` rows of the accumulator are cleared. -/
theorem read_t1_o (k0_h1 : k0_cond1 i = 1#1) (v47 : Vec F S1x2048 .f32) (v48 v53 : Vec F S1x1x2048 .f32)
    (X : BufTy.Contents (Elt F) arg2.view.ty) (G : BufTy.Contents (Elt F) arg11.view.ty) (y : S1024x2048.Idx) :
    ∀ n : ℕ, n ≤ k0_t1_loop.trips →
      arg11.view.read (Elt F) (arg11.view.writes (Elt F) G
        (pb_k0_t1 (F := F) Variants.none c none i arg2 harg2 arg3 harg3 arg4 harg4 arg5 harg5 arg6 harg6 arg7 harg7 arg8 harg8 arg9 harg9
          arg10 harg10 arg11 harg11 arg12 harg12 k0_h1 v47 v48 v53 X n).1) y
      = if (y 0).val / 32 < n then zeroBlock (F := F) y else arg11.view.read (Elt F) G y
  | 0, _ => by rw [if_neg (Nat.not_lt_zero _)]; rfl
  | n + 1, hn => by
    have ih := read_t1_o k0_h1 v47 v48 v53 X G y n (by omega)
    have hlt : n < 32 := Nat.lt_of_lt_of_le hn k0_t1_abs.2.1
    rw [pb_k0_t1_succ (F := F) Variants.none c none i arg2 harg2 arg3 harg3 arg4 harg4 arg5 harg5 arg6 harg6 arg7 harg7 arg8 harg8 arg9 harg9
          arg10 harg10 arg11 harg11 arg12 harg12 k0_h1 v47 v48 v53 X ⟨n, hn⟩]
    unfold tripL_k0_t1 trip_k0_t1
    dsimp only [List.cons_append, List.nil_append]
    have hoff : k0_off1 ⟨n, hn⟩ = ![32 * (⟨n, hlt⟩ : Fin 32).val, 0] := k0_off1_eq _
    refine (read_store_rows arg11.view G (k0_off1_inb i ⟨n, hn⟩ k0_h1) ⟨n, hlt⟩ hoff _ _ y).trans ?_
    rw [ih]
    by_cases h : (y 0).val / 32 = n
    · rw [if_pos h, if_pos (by omega)]; rfl
    · rw [if_neg h]
      by_cases h' : (y 0).val / 32 < n
      · rw [if_pos h', if_pos (by omega)]
      · rw [if_neg h', if_neg (by omega)]

/-- The second loop: after `n` trips the first `32 n` rows hold the result, the others what they held. -/
theorem read_t2 (k0_h2 : k0_cond2 i = 1#1) (v47 : Vec F S1x1x2048 .f32)
    (X : BufTy.Contents (Elt F) arg2.view.ty) (G : BufTy.Contents (Elt F) arg11.view.ty) :
    ∀ n : ℕ, n ≤ k0_t2_loop.trips → ∀ y : S1024x2048.Idx,
      arg11.view.read (Elt F) (arg11.view.writes (Elt F) G
        (pb_k0_t2 (F := F) Variants.none c none i arg2 harg2 arg3 harg3 arg4 harg4 arg5 harg5 arg6 harg6 arg7 harg7 arg8 harg8 arg9 harg9
          arg10 harg10 arg11 harg11 arg12 harg12 k0_h2 v47 X G n)) y
      = if (y 0).val / 32 < n then
          epiBlock v47 (arg2.view.read (Elt F) X) (arg11.view.read (Elt F) G) y
        else arg11.view.read (Elt F) G y
  | 0, _, y => by rw [if_neg (Nat.not_lt_zero _)]; rfl
  | n + 1, hn, y => by
    have ih := read_t2 k0_h2 v47 X G n (by omega)
    have hlt : n < 32 := Nat.lt_of_lt_of_le hn k0_t2_abs.2.1
    rw [pb_k0_t2_succ (F := F) Variants.none c none i arg2 harg2 arg3 harg3 arg4 harg4 arg5 harg5 arg6 harg6 arg7 harg7 arg8 harg8 arg9 harg9
          arg10 harg10 arg11 harg11 arg12 harg12 k0_h2 v47 X G ⟨n, hn⟩]
    -- what the earlier trips left
    generalize hG' : arg11.view.writes (Elt F) G (pb_k0_t2 (F := F) Variants.none c none i arg2 harg2 arg3 harg3 arg4 harg4 arg5 harg5 arg6 harg6
      arg7 harg7 arg8 harg8 arg9 harg9 arg10 harg10 arg11 harg11 arg12 harg12 k0_h2 v47 X G n) = G' at ih
    -- the chunk of this trip, as the earlier trips left it, is as it was at entry
    have hch : chunk (arg11.view.read (Elt F) G') ⟨n, hlt⟩ = chunk (arg11.view.read (Elt F) G) ⟨n, hlt⟩ := by
      funext z
      have hz : (z 0).val < 32 := (z 0).isLt
      refine (ih _).trans (if_neg ?_)
      show ¬ (32 * n + (z 0).val) / 32 < n
      omega
    have hoff : k0_off2 ⟨n, hn⟩ = ![32 * (⟨n, hlt⟩ : Fin 32).val, 0] := k0_off2_eq _
    rw [View.writes_append, hG']
    unfold tripL_k0_t2 trip_k0_t2
    dsimp only
    refine (read_store_rows arg11.view G' (k0_off2_inb i ⟨n, hn⟩ k0_h2) ⟨n, hlt⟩ hoff _ _ y).trans ?_
    by_cases h : (y 0).val / 32 = n
    · rw [if_pos h, if_pos (by omega)]
      show k0_pay4 v47 _ _ (inChunk y) = _
      rw [readAt_rows arg2.view X (k0_off2_inb i ⟨n, hn⟩ k0_h2) ⟨n, hlt⟩ hoff, readAt_rows arg11.view G' (k0_off2_inb i ⟨n, hn⟩ k0_h2) ⟨n, hlt⟩ hoff, hch]
      show _ = k0_pay4 v47 (chunk _ (chunkOf y)) (chunk _ (chunkOf y)) (inChunk y)
      rw [show chunkOf y = ⟨n, hlt⟩ from Fin.ext h]
    · rw [if_neg h]
      refine (ih y).trans ?_
      by_cases h' : (y 0).val / 32 < n
      · rw [if_pos h', if_pos (by omega)]
      · rw [if_neg h', if_neg (by omega)]

end

end Cert.Kernel3Ideal.Ffn
-- ==== Proof.HalfAcc.lean ====
/-
The accumulation of one grid point of the feed-forward kernel: the accumulator's two halves of columns, stored one
after the other, and what they read as afterwards.
-/
module

public import proofs.«01_k».proof.Proof.HalfLoops

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Loads and stores of half the columns -/

theorem readAt_unread {s : Shape} {e : EltTy} {sp : Space} (a : Memref sig .tc sp s e) (h : a.IsWhole) (x : Vec F s e) (r : Rect s) :
    a.view.readAt (Elt F) r.toLoadRect (h.unread x) = View.ld x r := by
  rw [View.readAt_eq_ld, h.read_unread]

theorem ld_whole2 {e : EltTy} (x : Vec F S1024x2048 e) (inb : ∀ a, (![0, 0] : Fin 2 → ℕ) a + (![1024, 2048] : Fin 2 → ℕ) a ≤ S1024x2048.size a) :
    View.ld x (Rect.unit (s := S1024x2048) ![0, 0] ![1024, 2048] inb) = x := by
  funext z
  show x _ = x z
  congr 1
  funext a
  match a with
  | ⟨0, _⟩ => exact Fin.ext (by show 0 + 1 * (z 0).val = (z 0).val; omega)
  | ⟨1, _⟩ => exact Fin.ext (by show 0 + 1 * (z 1).val = (z 1).val; omega)

theorem ld_whole1 {e : EltTy} (x : Vec F S1x2048 e) (inb : ∀ a, (![0, 0] : Fin 2 → ℕ) a + (![1, 2048] : Fin 2 → ℕ) a ≤ S1x2048.size a) :
    View.ld x (Rect.unit (s := S1x2048) ![0, 0] ![1, 2048] inb) = x := by
  funext z
  show x _ = x z
  congr 1
  funext a
  match a with
  | ⟨0, _⟩ => exact Fin.ext (by show 0 + 1 * (z 0).val = (z 0).val; omega)
  | ⟨1, _⟩ => exact Fin.ext (by show 0 + 1 * (z 1).val = (z 1).val; omega)

theorem ld_whole3 {e : EltTy} (x : Vec F S1x1x2048 e) (inb : ∀ a, (![0, 0, 0] : Fin 3 → ℕ) a + (![1, 1, 2048] : Fin 3 → ℕ) a ≤ S1x1x2048.size a) :
    View.ld x (Rect.unit (s := S1x1x2048) ![0, 0, 0] ![1, 1, 2048] inb) = x := by
  funext z
  show x _ = x z
  congr 1
  funext a
  match a with
  | ⟨0, _⟩ => exact Fin.ext (by show 0 + 1 * (z 0).val = (z 0).val; omega)
  | ⟨1, _⟩ => exact Fin.ext (by show 0 + 1 * (z 1).val = (z 1).val; omega)
  | ⟨2, _⟩ => exact Fin.ext (by show 0 + 1 * (z 2).val = (z 2).val; omega)

/-- The left half of the columns, and the right half. -/
abbrev rL : Rect S1024x2048 := Rect.unit (s := S1024x2048) ![0, 0] S1024x1024.size inb_S1024x2048_S1024x1024_0_0
abbrev rR : Rect S1024x2048 := Rect.unit (s := S1024x2048) ![0, 1024] S1024x1024.size inb_S1024x2048_S1024x1024_0_1024

/-- A block put together from its two halves. -/
def halves {α : Type} (A B : S1024x1024.Idx → α) : S1024x2048.Idx → α := fun y =>
  if h : (y 1).val < 1024 then A (ix2 (n0 := 1024) (n1 := 1024) ⟨(y 0).val, (y 0).isLt⟩ ⟨(y 1).val, h⟩)
  else B (ix2 (n0 := 1024) (n1 := 1024) ⟨(y 0).val, (y 0).isLt⟩ ⟨(y 1).val - 1024, by
    have h2 : (y 1).val < 2048 := (y 1).isLt
    omega⟩)

section
variable {sp : Space} (v : View sig .tc sp S1024x2048 .f32) (f : v.ty.Contents (Elt F)) (A B : Vec F S1024x1024 .f32)
  (L : List (View.Piece (Elt F) S1024x2048 .f32))

theorem hit_left (y : S1024x2048.Idx) (h : (y 1).val < 1024) :
    v.read (Elt F) (v.writes (Elt F) f (⟨rL, A⟩ :: L)) y
      = A (ix2 (n0 := 1024) (n1 := 1024) ⟨(y 0).val, (y 0).isLt⟩ ⟨(y 1).val, h⟩) :=
  View.read_writes_cons_unit_of_mem v f _ A L y _ rfl fun a => by
    match a with
    | ⟨0, _⟩ => exact (Nat.zero_add _).symm
    | ⟨1, _⟩ => exact (Nat.zero_add _).symm

theorem hit_right (y : S1024x2048.Idx) (h : ¬ (y 1).val < 1024) :
    v.read (Elt F) (v.writes (Elt F) f (⟨rR, B⟩ :: L)) y
      = B (ix2 (n0 := 1024) (n1 := 1024) ⟨(y 0).val, (y 0).isLt⟩ ⟨(y 1).val - 1024, by
    have h2 : (y 1).val < 2048 := (y 1).isLt
    omega⟩) :=
  View.read_writes_cons_unit_of_mem v f _ B L y _ rfl fun a => by
    match a with
    | ⟨0, _⟩ => exact (Nat.zero_add _).symm
    | ⟨1, _⟩ => show (y 1).val = 1024 + ((y 1).val - 1024); omega

theorem miss_left (y : S1024x2048.Idx) (h : ¬ (y 1).val < 1024) :
    v.read (Elt F) (v.writes (Elt F) f (⟨rL, A⟩ :: L)) y = v.read (Elt F) (v.writes (Elt F) f L) y :=
  View.read_writes_cons_unit_of_not_mem v f _ A L y rfl (1 : Fin 2) (Or.inr (by show 0 + 1024 ≤ (y 1).val; omega))

theorem miss_right (y : S1024x2048.Idx) (h : (y 1).val < 1024) :
    v.read (Elt F) (v.writes (Elt F) f (⟨rR, B⟩ :: L)) y = v.read (Elt F) (v.writes (Elt F) f L) y :=
  View.read_writes_cons_unit_of_not_mem v f _ B L y rfl (1 : Fin 2) (Or.inl (by show (y 1).val < 1024; exact h))

/-- Both halves stored, whatever was stored before: the block reads their union. -/
theorem read_halves : v.read (Elt F) (v.writes (Elt F) f (⟨rR, B⟩ :: ⟨rL, A⟩ :: L)) = halves A B := by
  funext y
  unfold halves
  by_cases h : (y 1).val < 1024
  · rw [dif_pos h]; exact (miss_right v f B _ y h).trans (hit_left v f A L y h)
  · rw [dif_neg h]; exact hit_right v f B _ y h

theorem col_left (z : S1024x1024.Idx) : ((rL.idx z) 1).val < 1024 := by
  show 0 + 1 * (z 1).val < 1024
  have h : (z 1).val < 1024 := (z 1).isLt
  omega
theorem col_right (z : S1024x1024.Idx) : ¬ ((rR.idx z) 1).val < 1024 := by
  show ¬ 1024 + 1 * (z 1).val < 1024
  omega

theorem ix_left (z : S1024x1024.Idx) : (ix2 (n0 := 1024) (n1 := 1024) ⟨((rL.idx z) 0).val, ((rL.idx z) 0).isLt⟩ ⟨((rL.idx z) 1).val, col_left z⟩) = z := by
  funext a
  match a with
  | ⟨0, _⟩ => exact Fin.ext (by show 0 + 1 * (z 0).val = (z 0).val; omega)
  | ⟨1, _⟩ => exact Fin.ext (by show 0 + 1 * (z 1).val = (z 1).val; omega)
theorem ix_right (z : S1024x1024.Idx) (hlt) : (ix2 (n0 := 1024) (n1 := 1024) ⟨((rR.idx z) 0).val, ((rR.idx z) 0).isLt⟩ ⟨((rR.idx z) 1).val - 1024, hlt⟩) = z := by
  funext a
  match a with
  | ⟨0, _⟩ => exact Fin.ext (by show 0 + 1 * (z 0).val = (z 0).val; omega)
  | ⟨1, _⟩ => exact Fin.ext (by show 1024 + 1 * (z 1).val - 1024 = (z 1).val; omega)

/-- The left half read back after the right half was stored over it and beside. -/
theorem cov_left : v.readCov (⟨rR, B⟩ :: ⟨rL, A⟩ :: L) rL.toLoadRect = A := by
  funext z
  show v.read (Elt F) (v.writes (Elt F) v.junk (⟨rR, B⟩ :: ⟨rL, A⟩ :: L)) (rL.idx z) = A z
  refine (miss_right v v.junk B _ _ (col_left z)).trans ((hit_left v v.junk A L _ (col_left z)).trans ?_)
  rw [ix_left]

theorem cov_right (A' : Vec F S1024x1024 .f32) : v.readCov (⟨rL, A'⟩ :: ⟨rR, B⟩ :: L) rR.toLoadRect = B := by
  funext z
  show v.read (Elt F) (v.writes (Elt F) v.junk (⟨rL, A'⟩ :: ⟨rR, B⟩ :: L)) (rR.idx z) = B z
  refine (miss_left v v.junk A' _ _ (col_right z)).trans ((hit_right v v.junk B L _ (col_right z)).trans ?_)
  rw [ix_right]

/-- The right half read after the left half was stored: what was there before. -/
theorem readAt_right : v.readAt (Elt F) rR.toLoadRect (v.writes (Elt F) f (⟨rL, A⟩ :: L)) = View.ld (v.read (Elt F) (v.writes (Elt F) f L)) rR := by
  funext z
  exact miss_left v f A L _ (col_right z)
end

/-! ## One step of the accumulation -/

section
variable (h : Vec F S1024x2048 .bf16) (wg wu : Vec F S2048x512 .bf16) (wd : Vec F S512x2048 .bf16) (o : Vec F S1024x2048 .f32)

/-- Columns `0 … 255` / `256 … 511` of a tile of the gate and up weights, and of the four quarters of the down weights' tile. -/
abbrev wLo (w : Vec F S2048x512 .bf16) : Vec F S2048x256 .bf16 :=
  View.ld w (Rect.unit (s := S2048x512) ![0, 0] S2048x256.size inb_S2048x512_S2048x256_0_0)
abbrev wHi (w : Vec F S2048x512 .bf16) : Vec F S2048x256 .bf16 :=
  View.ld w (Rect.unit (s := S2048x512) ![0, 256] S2048x256.size inb_S2048x512_S2048x256_0_256)
abbrev d00 : Vec F S256x1024 .bf16 := View.ld wd (Rect.unit (s := S512x2048) ![0, 0] S256x1024.size inb_S512x2048_S256x1024_0_0)
abbrev d01 : Vec F S256x1024 .bf16 := View.ld wd (Rect.unit (s := S512x2048) ![0, 1024] S256x1024.size inb_S512x2048_S256x1024_0_1024)
abbrev d10 : Vec F S256x1024 .bf16 := View.ld wd (Rect.unit (s := S512x2048) ![256, 0] S256x1024.size inb_S512x2048_S256x1024_256_0)
abbrev d11 : Vec F S256x1024 .bf16 := View.ld wd (Rect.unit (s := S512x2048) ![256, 1024] S256x1024.size inb_S512x2048_S256x1024_256_1024)

/-- The left columns of the accumulator after one step: both 256-wide halves of the tile, one after the other. -/
def accLeft : Vec F S1024x1024 .f32 :=
  k0_pay2 h (k0_pay10 h (wHi wg)) (wHi wu) (k0_pay8 h (wLo wg) (wLo wu) (View.ld o rL) (d00 wd)) (d10 wd)
/-- The right columns. -/
def accRight : Vec F S1024x1024 .f32 :=
  k0_pay3 h (k0_pay10 h (wHi wg)) (wHi wu) (k0_pay9 h (wLo wg) (wLo wu) (View.ld o rR) (d01 wd)) (d11 wd)

/-- The accumulator after one step. -/
def accBlock : Vec F S1024x2048 .f32 := halves (accLeft h wg wu wd o) (accRight h wg wu wd o)
end

theorem row_lt (y : S1024x2048.Idx) : (y 0).val / 32 < k0_t1_loop.trips := by
  have h : (y 0).val < 1024 := (y 0).isLt
  have h32 : k0_t1_loop.trips = 32 := by decide
  omega

section
variable (c : Dev nD) (i : grid0.Coords)
  (arg2 : Memref sig .tc .vmem S1024x2048 .f32) (harg2 : arg2.IsWhole) (arg3 : Memref sig .tc .vmem S1x1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S1x2048 .f32) (harg6 : arg6.IsWhole) (arg7 : Memref sig .tc .vmem S2048x512 .bf16) (harg7 : arg7.IsWhole)
  (arg8 : Memref sig .tc .vmem S2048x512 .bf16) (harg8 : arg8.IsWhole) (arg9 : Memref sig .tc .vmem S512x2048 .bf16) (harg9 : arg9.IsWhole)
  (arg10 : Memref sig .tc .vmem S1x2048 .f32) (harg10 : arg10.IsWhole) (arg11 : Memref sig .tc .vmem S1024x2048 .f32) (harg11 : arg11.IsWhole)
  (arg12 : Memref sig .tc .vmem S1024x2048 .bf16) (harg12 : arg12.IsWhole)

/-- The whole of the last point's sweep over the accumulator. -/
theorem t2_all (hc1 : k0_cond2 i = 1#1) (x3 : Vec F S1x1x2048 .f32) (x0 o : Vec F S1024x2048 .f32)
    (v47 : Vec F S1x1x2048 .f32) (X : arg2.view.ty.Contents (Elt F)) {G : arg11.view.ty.Contents (Elt F)} {n : ℕ}
    (hn : n = k0_t2_loop.trips) (h3 : v47 = x3) (h0 : arg2.view.read (Elt F) X = x0)
    (hG : arg11.view.read (Elt F) G = o) :
    arg11.view.read (Elt F) (arg11.view.writes (Elt F) G (pb_k0_t2 (F := F) Variants.none c none i arg2 harg2 arg3 harg3 arg4 harg4 arg5 harg5 arg6 harg6 arg7 harg7 arg8 harg8 arg9 harg9 arg10 harg10
      arg11 harg11 arg12 harg12 hc1 v47 X G n)) = epiBlock x3 x0 o := by
  subst hn h3 h0 hG
  funext y
  refine (read_t2 c i arg2 harg2 arg3 harg3 arg4 harg4 arg5 harg5 arg6 harg6 arg7 harg7 arg8 harg8 arg9 harg9 arg10 harg10
      arg11 harg11 arg12 harg12 hc1 _ _ _ k0_t2_loop.trips le_rfl y).trans (if_pos ?_)
  have h : (y 0).val < 1024 := (y 0).isLt
  have h8 : k0_t2_loop.trips = 32 := by decide
  omega

theorem t1_all_h (hc0 : k0_cond1 i = 1#1) (x4 : Vec F S1x2048 .f32) (x2 x1 : Vec F S1x1x2048 .f32) (x0 : Vec F S1024x2048 .f32)
    {v4 : Vec F S1x2048 .f32} {v2 v1 : Vec F S1x1x2048 .f32} {X : arg2.view.ty.Contents (Elt F)} {G : arg12.view.ty.Contents (Elt F)} {n : ℕ}
    (hn : n = k0_t1_loop.trips) (h4 : v4 = x4) (h2 : v2 = x2) (h1 : v1 = x1) (h0 : arg2.view.read (Elt F) X = x0) :
    arg12.view.read (Elt F) (arg12.view.writes (Elt F) G (pb_k0_t1 (F := F) Variants.none c none i arg2 harg2 arg3 harg3 arg4 harg4 arg5 harg5 arg6 harg6 arg7 harg7 arg8 harg8 arg9 harg9 arg10 harg10
      arg11 harg11 arg12 harg12 hc0 v4 v2 v1 X n).2) = hBlock x4 x2 x1 x0 := by
  subst hn h4 h2 h1 h0
  funext y
  exact (read_t1_h c i arg2 harg2 arg3 harg3 arg4 harg4 arg5 harg5 arg6 harg6 arg7 harg7 arg8 harg8 arg9 harg9 arg10 harg10
      arg11 harg11 arg12 harg12 hc0 _ _ _ _ _ y k0_t1_loop.trips le_rfl).trans (if_pos (row_lt y))

theorem t1_all_o (hc0 : k0_cond1 i = 1#1)
    {v4 : Vec F S1x2048 .f32} {v2 v1 : Vec F S1x1x2048 .f32} {X : arg2.view.ty.Contents (Elt F)} {G : arg11.view.ty.Contents (Elt F)} {n : ℕ}
    (hn : n = k0_t1_loop.trips) :
    arg11.view.read (Elt F) (arg11.view.writes (Elt F) G (pb_k0_t1 (F := F) Variants.none c none i arg2 harg2 arg3 harg3 arg4 harg4 arg5 harg5 arg6 harg6 arg7 harg7 arg8 harg8 arg9 harg9 arg10 harg10
      arg11 harg11 arg12 harg12 hc0 v4 v2 v1 X n).1) = zeroBlock (F := F) := by
  subst hn
  funext y
  exact (read_t1_o c i arg2 harg2 arg3 harg3 arg4 harg4 arg5 harg5 arg6 harg6 arg7 harg7 arg8 harg8 arg9 harg9 arg10 harg10
      arg11 harg11 arg12 harg12 hc0 _ _ _ _ _ y k0_t1_loop.trips le_rfl).trans (if_pos (row_lt y))
end

end Cert.Kernel3Ideal.Ffn
-- ==== Proof.HalfFirst.lean ====
/-
What one grid point of the feed-forward kernel leaves in its buffers, in closed form.

A point in the middle of a row block's sweep adds one 512-wide tile of the hidden dimension to the accumulator; the
first point of a sweep normalises and modulates the activations and clears the accumulator first; the last one turns
the accumulator into the normalised result.
-/
module

public import proofs.«01_k».proof.Proof.HalfAcc

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S1024x2048 .f32) (harg2 : arg2.IsWhole) (arg3 : Memref sig .tc .vmem S1x1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S1x2048 .f32) (harg6 : arg6.IsWhole) (arg7 : Memref sig .tc .vmem S2048x512 .bf16) (harg7 : arg7.IsWhole)
  (arg8 : Memref sig .tc .vmem S2048x512 .bf16) (harg8 : arg8.IsWhole) (arg9 : Memref sig .tc .vmem S512x2048 .bf16) (harg9 : arg9.IsWhole)
  (arg10 : Memref sig .tc .vmem S1x2048 .f32) (harg10 : arg10.IsWhole) (arg11 : Memref sig .tc .vmem S1024x2048 .f32) (harg11 : arg11.IsWhole)
  (arg12 : Memref sig .tc .vmem S1024x2048 .bf16) (harg12 : arg12.IsWhole)

set_option maxHeartbeats 1000000 in
/-- The first point of a sweep: what the buffers held before does not matter. -/
theorem body_first (hc0 : k0_cond1 i = 1#1) (hc1 : ¬ k0_cond2 i = 1#1)
    (x0 : Vec F S1024x2048 .f32) (x1 x2 x3 : Vec F S1x1x2048 .f32) (x4 : Vec F S1x2048 .f32) (x5 x6 : Vec F S2048x512 .bf16)
    (x7 : Vec F S512x2048 .bf16) (x8 : Vec F S1x2048 .f32) (xo : Vec F S1024x2048 .f32) (xs : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (accBlock (hBlock x4 x2 x1 x0) x5 x6 x7 (zeroBlock (F := F))) ∗ owns (c : Thread nD τ) arg12 fullShare (hBlock x4 x2 x1 x0)) -∗ K ⟨⟩))
      ⊢ wp frame (wpE (defs₀ (F := F)) Variants.none c none) E (cc0_macaron_ffn i arg2 harg2 arg3 harg3 arg4 harg4 arg5 harg5 arg6 harg6 arg7 harg7 arg8 harg8 arg9 harg9 arg10 harg10 arg11 harg11 arg12 harg12) K := by
  simp only [cc0_macaron_ffn_eq_skeleton]; unfold cc0_macaron_ffn_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo, %hfo, HO⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfo; obtain rfl := harg12.eq_unread hfs
  sl_exec (disch := first | sl_exact hc0 | sl_exact hc1)
  simp only [Prog.bind_assoc]
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HO]
  · iexists _; isplitr
    rotate_left
    · iexact HO
    ipureintro
    sl_unfold_run_names
    refine (read_halves arg11.view _ _ _ _).trans ?_
    dsimp only
    unfold accBlock accLeft accRight
    have h11 := fun G v4 v2 v1 X => t1_all_o (F := F) c i arg2 harg2 arg3 harg3 arg4 harg4 arg5 harg5 arg6 harg6 arg7 harg7 arg8 harg8 arg9 harg9 arg10 harg10
      arg11 harg11 arg12 harg12 hc0 (v4 := v4) (v2 := v2) (v1 := v1) (X := X) (G := G) rfl
    have h12 := fun G => t1_all_h (F := F) c i arg2 harg2 arg3 harg3 arg4 harg4 arg5 harg5 arg6 harg6 arg7 harg7 arg8 harg8 arg9 harg9 arg10 harg10
      arg11 harg11 arg12 harg12 hc0 x4 x2 x1 x0 (G := G) rfl
      (ld_whole1 x4 inb_S1x2048_S1x2048_0_0) (ld_whole3 x2 inb_S1x1x2048_S1x1x2048_0_0_0) (ld_whole3 x1 inb_S1x1x2048_S1x1x2048_0_0_0) (harg2.read_unread x0)
    congr 1
    · rw [cov_left arg11.view]
      simp only [readAt_unread]
      simp only [View.readAt_eq_ld, h11, h12, ld_whole2]
    · rw [cov_right arg11.view, readAt_right arg11.view]
      simp only [readAt_unread]
      simp only [View.readAt_eq_ld, h11, h12, ld_whole2]
  iexists _; isplitr
  rotate_left
  · iexact HS
  ipureintro
  exact t1_all_h c i arg2 harg2 arg3 harg3 arg4 harg4 arg5 harg5 arg6 harg6 arg7 harg7 arg8 harg8 arg9 harg9 arg10 harg10
      arg11 harg11 arg12 harg12 hc0 x4 x2 x1 x0 rfl
    (by rw [readAt_unread, ld_whole1]) (by rw [readAt_unread, ld_whole3]) (by rw [readAt_unread, ld_whole3]) (harg2.read_unread x0)

end Cert.Kernel3Ideal.Ffn
-- ==== Proof.HalfMid.lean ====
/-
What one grid point of the feed-forward kernel leaves in its buffers, in closed form.

A point in the middle of a row block's sweep adds one 512-wide tile of the hidden dimension to the accumulator; the
first point of a sweep normalises and modulates the activations and clears the accumulator first; the last one turns
the accumulator into the normalised result.
-/
module

public import proofs.«01_k».proof.Proof.HalfAcc

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S1024x2048 .f32) (harg2 : arg2.IsWhole) (arg3 : Memref sig .tc .vmem S1x1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S1x2048 .f32) (harg6 : arg6.IsWhole) (arg7 : Memref sig .tc .vmem S2048x512 .bf16) (harg7 : arg7.IsWhole)
  (arg8 : Memref sig .tc .vmem S2048x512 .bf16) (harg8 : arg8.IsWhole) (arg9 : Memref sig .tc .vmem S512x2048 .bf16) (harg9 : arg9.IsWhole)
  (arg10 : Memref sig .tc .vmem S1x2048 .f32) (harg10 : arg10.IsWhole) (arg11 : Memref sig .tc .vmem S1024x2048 .f32) (harg11 : arg11.IsWhole)
  (arg12 : Memref sig .tc .vmem S1024x2048 .bf16) (harg12 : arg12.IsWhole)

set_option maxHeartbeats 1000000 in
/-- A point in the middle of a sweep. -/
theorem body_mid (hc0 : ¬ k0_cond1 i = 1#1) (hc1 : ¬ k0_cond2 i = 1#1)
    (x0 : Vec F S1024x2048 .f32) (x1 x2 x3 : Vec F S1x1x2048 .f32) (x4 : Vec F S1x2048 .f32) (x5 x6 : Vec F S2048x512 .bf16)
    (x7 : Vec F S512x2048 .bf16) (x8 : Vec F S1x2048 .f32) (xo : Vec F S1024x2048 .f32) (xs : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (accBlock xs x5 x6 x7 xo) ∗ owns (c : Thread nD τ) arg12 fullShare xs) -∗ K ⟨⟩))
      ⊢ wp frame (wpE (defs₀ (F := F)) Variants.none c none) E (cc0_macaron_ffn i arg2 harg2 arg3 harg3 arg4 harg4 arg5 harg5 arg6 harg6 arg7 harg7 arg8 harg8 arg9 harg9 arg10 harg10 arg11 harg11 arg12 harg12) K := by
  simp only [cc0_macaron_ffn_eq_skeleton]; unfold cc0_macaron_ffn_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo, %hfo, HO⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfo; obtain rfl := harg12.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HO]
  · iexists _; isplitr
    rotate_left
    · iexact HO
    ipureintro
    sl_unfold_run_names
    refine (read_halves arg11.view _ _ _ _).trans ?_
    dsimp only
    unfold accBlock accLeft accRight
    congr 1
    · rw [cov_left arg11.view]
      simp only [readAt_unread, ld_whole2]
    · rw [cov_right arg11.view]
      simp only [readAt_unread, ld_whole2]
  iexists _; isplitr
  rotate_left
  · iexact HS
  ipureintro
  exact hfs

end Cert.Kernel3Ideal.Ffn
-- ==== Proof.HalfLast.lean ====
/-
What one grid point of the feed-forward kernel leaves in its buffers, in closed form.

A point in the middle of a row block's sweep adds one 512-wide tile of the hidden dimension to the accumulator; the
first point of a sweep normalises and modulates the activations and clears the accumulator first; the last one turns
the accumulator into the normalised result.
-/
module

public import proofs.«01_k».proof.Proof.HalfAcc

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S1024x2048 .f32) (harg2 : arg2.IsWhole) (arg3 : Memref sig .tc .vmem S1x1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S1x2048 .f32) (harg6 : arg6.IsWhole) (arg7 : Memref sig .tc .vmem S2048x512 .bf16) (harg7 : arg7.IsWhole)
  (arg8 : Memref sig .tc .vmem S2048x512 .bf16) (harg8 : arg8.IsWhole) (arg9 : Memref sig .tc .vmem S512x2048 .bf16) (harg9 : arg9.IsWhole)
  (arg10 : Memref sig .tc .vmem S1x2048 .f32) (harg10 : arg10.IsWhole) (arg11 : Memref sig .tc .vmem S1024x2048 .f32) (harg11 : arg11.IsWhole)
  (arg12 : Memref sig .tc .vmem S1024x2048 .bf16) (harg12 : arg12.IsWhole)

set_option maxHeartbeats 1000000 in
/-- The last point of a sweep. -/
theorem body_last (hc0 : ¬ k0_cond1 i = 1#1) (hc1 : k0_cond2 i = 1#1)
    (x0 : Vec F S1024x2048 .f32) (x1 x2 x3 : Vec F S1x1x2048 .f32) (x4 : Vec F S1x2048 .f32) (x5 x6 : Vec F S2048x512 .bf16)
    (x7 : Vec F S512x2048 .bf16) (x8 : Vec F S1x2048 .f32) (xo : Vec F S1024x2048 .f32) (xs : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (epiBlock x3 x0 (accBlock xs x5 x6 x7 xo)) ∗ owns (c : Thread nD τ) arg12 fullShare xs) -∗ K ⟨⟩))
      ⊢ wp frame (wpE (defs₀ (F := F)) Variants.none c none) E (cc0_macaron_ffn i arg2 harg2 arg3 harg3 arg4 harg4 arg5 harg5 arg6 harg6 arg7 harg7 arg8 harg8 arg9 harg9 arg10 harg10 arg11 harg11 arg12 harg12) K := by
  simp only [cc0_macaron_ffn_eq_skeleton]; unfold cc0_macaron_ffn_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo, %hfo, HO⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfo; obtain rfl := harg12.eq_unread hfs
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HO]
  · iexists _; isplitr
    rotate_left
    · iexact HO
    ipureintro
    sl_unfold_run_names
    rw [View.writes_append]
    refine t2_all c i arg2 harg2 arg3 harg3 arg4 harg4 arg5 harg5 arg6 harg6 arg7 harg7 arg8 harg8 arg9 harg9 arg10 harg10
      arg11 harg11 arg12 harg12 hc1 _ _ _ _ _ rfl (by rw [readAt_unread, ld_whole3]) (harg2.read_unread _)
      ?_
    refine (read_halves arg11.view _ _ _ _).trans ?_
    dsimp only
    unfold accBlock accLeft accRight
    congr 1
    · rw [cov_left arg11.view]
      simp only [readAt_unread, ld_whole2]
    · rw [cov_right arg11.view]
      simp only [readAt_unread, ld_whole2]
  iexists _; isplitr
  rotate_left
  · iexact HS
  ipureintro
  exact hfs

end Cert.Kernel3Ideal.Ffn
-- ==== Proof.HalfFrame.lean ====
/-
The feed-forward kernel's run: what the accumulator and the normalised activations hold after every grid point, the
body's obligation at every point, and from it the frame.

The grid sweeps eleven tiles of the hidden dimension for each of sixteen blocks of rows; point `t` is tile `t % 11` of
block `t / 11`.  The output's staging buffer and the scratch buffer carry their contents from one tile to the next.
-/
module

public import proofs.«01_k».proof.Proof.HalfFirst
public import proofs.«01_k».proof.Proof.HalfMid
public import proofs.«01_k».proof.Proof.HalfLast
public import Idealize.ShloMosaic.Lib.Claim

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem tile_first : ∀ t : Fin cfg0.N, k0_cond1 (grid0.coords t) = 1#1 ↔ t.val % 11 = 0 :=
  (fun t => by
    have ht : t.val < 176 := Nat.lt_of_lt_of_eq t.isLt N_0
    have e1 : (grid0.coords t 1).val = t.val / 1 % 11 := Pipeline.Grid.coords_val t 1 (by decide) rfl
    simp only [k0_cond1, e1]
    word_cmp
   : ∀ t : Fin grid0.N, k0_cond1 (grid0.coords t) = 1#1 ↔ t.val % 11 = 0)

theorem tile_last : ∀ t : Fin cfg0.N, k0_cond2 (grid0.coords t) = 1#1 ↔ t.val % 11 = 10 :=
  (fun t => by
    have ht : t.val < 176 := Nat.lt_of_lt_of_eq t.isLt N_0
    have e1 : (grid0.coords t 1).val = t.val / 1 % 11 := Pipeline.Grid.coords_val t 1 (by decide) rfl
    simp only [k0_cond2, e1]
    word_cmp
   : ∀ t : Fin grid0.N, k0_cond2 (grid0.coords t) = 1#1 ↔ t.val % 11 = 10)

/-! ## The buffers the body runs on -/

abbrev stg0 (t : Fin cfg0.N) : Memref sig .tc .vmem S1024x2048 .f32 := win0_0.stage (cfg0.slots t 0)
abbrev stgWhole0 (t : Fin cfg0.N) : (stg0 t).IsWhole := hstage0_0 ((cfg0.slots t 0).cast nbuf0_0)
abbrev stg1 (t : Fin cfg0.N) : Memref sig .tc .vmem S1x1x2048 .f32 := win0_1.stage (cfg0.slots t 1)
abbrev stgWhole1 (t : Fin cfg0.N) : (stg1 t).IsWhole := hstage0_1 ((cfg0.slots t 1).cast nbuf0_1)
abbrev stg2 (t : Fin cfg0.N) : Memref sig .tc .vmem S1x1x2048 .f32 := win0_2.stage (cfg0.slots t 2)
abbrev stgWhole2 (t : Fin cfg0.N) : (stg2 t).IsWhole := hstage0_2 ((cfg0.slots t 2).cast nbuf0_2)
abbrev stg3 (t : Fin cfg0.N) : Memref sig .tc .vmem S1x1x2048 .f32 := win0_3.stage (cfg0.slots t 3)
abbrev stgWhole3 (t : Fin cfg0.N) : (stg3 t).IsWhole := hstage0_3 ((cfg0.slots t 3).cast nbuf0_3)
abbrev stg4 (t : Fin cfg0.N) : Memref sig .tc .vmem S1x2048 .f32 := win0_4.stage (cfg0.slots t 4)
abbrev stgWhole4 (t : Fin cfg0.N) : (stg4 t).IsWhole := hstage0_4 ((cfg0.slots t 4).cast nbuf0_4)
abbrev stg5 (t : Fin cfg0.N) : Memref sig .tc .vmem S2048x512 .bf16 := win0_5.stage (cfg0.slots t 5)
abbrev stgWhole5 (t : Fin cfg0.N) : (stg5 t).IsWhole := hstage0_5 ((cfg0.slots t 5).cast nbuf0_5)
abbrev stg6 (t : Fin cfg0.N) : Memref sig .tc .vmem S2048x512 .bf16 := win0_6.stage (cfg0.slots t 6)
abbrev stgWhole6 (t : Fin cfg0.N) : (stg6 t).IsWhole := hstage0_6 ((cfg0.slots t 6).cast nbuf0_6)
abbrev stg7 (t : Fin cfg0.N) : Memref sig .tc .vmem S512x2048 .bf16 := win0_7.stage (cfg0.slots t 7)
abbrev stgWhole7 (t : Fin cfg0.N) : (stg7 t).IsWhole := hstage0_7 ((cfg0.slots t 7).cast nbuf0_7)
abbrev stg8 (t : Fin cfg0.N) : Memref sig .tc .vmem S1x2048 .f32 := win0_8.stage (cfg0.slots t 8)
abbrev stgWhole8 (t : Fin cfg0.N) : (stg8 t).IsWhole := hstage0_8 ((cfg0.slots t 8).cast nbuf0_8)
abbrev stg9 (t : Fin cfg0.N) : Memref sig .tc .vmem S1024x2048 .f32 := win0_9.stage (cfg0.slots t 9)
abbrev stgWhole9 (t : Fin cfg0.N) : (stg9 t).IsWhole := hstage0_9 ((cfg0.slots t 9).cast nbuf0_9)

/-- The scratch buffer that carries the normalised activations. -/
abbrev scr : Memref sig .tc .vmem S1024x2048 .bf16 := Memref.whole cc0_scratch0

theorem scoped_eq (c : Dev nD) :
    (Pipeline.ΦA spec0 c : sProp 𝕄) = iprop(iprop(∃ d, owns (c : Thread nD τ) scr fullShare d) ∗ (∃ r, prngReg c r)) := by
  unfold Pipeline.ΦA; rw [scopedRest0_eq]; simp only [scr, owns_whole]; try rfl

/-! ## What the buffers hold after each point -/

/-- The normalised activations of point `t`'s block of rows. -/
def hAt (c : Dev nD) (t : Fin cfg0.N) : Vec F S1024x2048 .bf16 := hBlock (iblk m c 4 t) (iblk m c 2 t) (iblk m c 1 t) (iblk m c 0 t)

/-- One point: the accumulator and the activations, from what the point before left. -/
def next (c : Dev nD) (t : Fin cfg0.N) (p : Vec F S1024x2048 .f32 × Vec F S1024x2048 .bf16) : Vec F S1024x2048 .f32 × Vec F S1024x2048 .bf16 :=
  if t.val % 11 = 0 then (accBlock (hAt m c t) (iblk m c 5 t) (iblk m c 6 t) (iblk m c 7 t) (zeroBlock (F := F)), hAt m c t)
  else if t.val % 11 = 10 then
    (epiBlock (iblk m c 3 t) (iblk m c 0 t) (accBlock p.2 (iblk m c 5 t) (iblk m c 6 t) (iblk m c 7 t) p.1), p.2)
  else (accBlock p.2 (iblk m c 5 t) (iblk m c 6 t) (iblk m c 7 t) p.1, p.2)

/-- The accumulator and the activations after point `n`. -/
def held (c : Dev nD) : (n : ℕ) → n < cfg0.N → Vec F S1024x2048 .f32 × Vec F S1024x2048 .bf16
  | 0, hn => next m c ⟨0, hn⟩ (zeroBlock (F := F), hAt m c ⟨0, hn⟩)
  | n + 1, hn => next m c ⟨n + 1, hn⟩ (held c n (Nat.lt_of_succ_lt hn))

/-- What the point before `t` left. -/
abbrev prev (c : Dev nD) (t : Fin cfg0.N) : Vec F S1024x2048 .f32 × Vec F S1024x2048 .bf16 :=
  held m c (t.val - 1) (Nat.lt_of_le_of_lt (Nat.sub_le _ _) t.isLt)

theorem held_first (c : Dev nD) (t : Fin cfg0.N) (h0 : t.val % 11 = 0) :
    held m c t.val t.isLt = (accBlock (hAt m c t) (iblk m c 5 t) (iblk m c 6 t) (iblk m c 7 t) (zeroBlock (F := F)), hAt m c t) := by
  obtain ⟨n, hn⟩ := t
  cases n with
  | zero =>
    show next m c ⟨0, hn⟩ (zeroBlock (F := F), hAt m c ⟨0, hn⟩) = _
    exact if_pos h0
  | succ n => exact if_pos h0

theorem held_mid (c : Dev nD) (t : Fin cfg0.N) (h0 : ¬ t.val % 11 = 0) (h1 : ¬ t.val % 11 = 10) :
    held m c t.val t.isLt = (accBlock (prev m c t).2 (iblk m c 5 t) (iblk m c 6 t) (iblk m c 7 t) (prev m c t).1, (prev m c t).2) := by
  obtain ⟨n, hn⟩ := t
  cases n with
  | zero => exact absurd (Nat.zero_mod _) h0
  | succ n => exact (if_neg h0).trans (if_neg h1)

theorem held_last (c : Dev nD) (t : Fin cfg0.N) (h0 : ¬ t.val % 11 = 0) (h1 : t.val % 11 = 10) :
    held m c t.val t.isLt = (epiBlock (iblk m c 3 t) (iblk m c 0 t)
      (accBlock (prev m c t).2 (iblk m c 5 t) (iblk m c 6 t) (iblk m c 7 t) (prev m c t).1), (prev m c t).2) := by
  obtain ⟨n, hn⟩ := t
  cases n with
  | zero => exact absurd (Nat.zero_mod _) h0
  | succ n => exact (if_neg h0).trans (if_pos h1)

/-- Between points: the scratch buffer at the contents carried, at anything before the first point. -/
def carried (c : Dev nD) : (n : ℕ) → n ≤ cfg0.N → sProp 𝕄
  | 0, _ => Pipeline.ΦA spec0 c
  | n + 1, hn => iprop(owns (c : Thread nD τ) scr fullShare (held m c n hn).2 ∗ (∃ r, prngReg c r))

theorem carried_pos (c : Dev nD) (n : ℕ) (h : n ≤ cfg0.N) (hz : n ≠ 0) :
    carried m c n h = iprop(owns (c : Thread nD τ) scr fullShare (held m c (n - 1) (by omega)).2 ∗ (∃ r, prngReg c r)) := by
  cases n with
  | zero => exact absurd rfl hz
  | succ n => rfl

/-- Whatever the position, the scratch buffer is owned at some contents. -/
theorem carried_some (c : Dev nD) (n : ℕ) (h : n ≤ cfg0.N) :
    carried m c n h ⊢ (iprop(iprop(∃ d, owns (c : Thread nD τ) scr fullShare d) ∗ (∃ r, prngReg c r)) : sProp 𝕄) := by
  cases n with
  | zero =>
    rw [show carried m c 0 h = Pipeline.ΦA spec0 c from rfl, scoped_eq]
  | succ n =>
    rw [carried_pos m c _ h (Nat.succ_ne_zero n)]
    iintro ⟨HS, Hg⟩
    isplitl [HS]
    · iexists _; iexact HS
    iexact Hg

/-! ## The pipeline's data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (held m c t.val t.isLt).1
  Φ t := carried m c t.val (Nat.le_of_lt_succ t.isLt)
  q w := Pipeline.shareOf spec0 w
  owed _ := 0

theorem dats_A (c : Dev nD) (w : Fin cfg0.W) : (dats m 0 c).A w = V m c (Pipeline.arrRef spec0 w) := by dsimp only [dats]
theorem dats_carried (c : Dev nD) (t : Fin cfg0.N) : (dats m 0 c).Φ t.castSucc = carried m c t.val (Nat.le_of_lt t.isLt) := by
  dsimp only [dats]; exact Pipeline.Dat.Φ_castSucc (carried m c) t

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem left6 (c : Dev nD) (t : Fin cfg0.N) : (dats m 0 c).after 6 t = iblk m c 6 t := by dsimp only [dats]
theorem left7 (c : Dev nD) (t : Fin cfg0.N) : (dats m 0 c).after 7 t = iblk m c 7 t := by dsimp only [dats]
theorem left8 (c : Dev nD) (t : Fin cfg0.N) : (dats m 0 c).after 8 t = iblk m c 8 t := by dsimp only [dats]
theorem left9 (c : Dev nD) (t : Fin cfg0.N) : (dats m 0 c).after 9 t = (held m c t.val t.isLt).1 := by dsimp only [dats]

theorem found0 (c : Dev nD) (t : Fin cfg0.N) (d) : (dats m 0 c).before 0 t d = iblk m c 0 t :=
  before0_0_of m (dats m 0 c) (dats_A m c 0) (left0 m c) t d
theorem found1 (c : Dev nD) (t : Fin cfg0.N) (d) : (dats m 0 c).before 1 t d = iblk m c 1 t :=
  before0_1_of m (dats m 0 c) (dats_A m c 1) (left1 m c) t d
theorem found2 (c : Dev nD) (t : Fin cfg0.N) (d) : (dats m 0 c).before 2 t d = iblk m c 2 t :=
  before0_2_of m (dats m 0 c) (dats_A m c 2) (left2 m c) t d
theorem found3 (c : Dev nD) (t : Fin cfg0.N) (d) : (dats m 0 c).before 3 t d = iblk m c 3 t :=
  before0_3_of m (dats m 0 c) (dats_A m c 3) (left3 m c) t d
theorem found4 (c : Dev nD) (t : Fin cfg0.N) (d) : (dats m 0 c).before 4 t d = iblk m c 4 t :=
  before0_4_of m (dats m 0 c) (dats_A m c 4) (left4 m c) t d
theorem found5 (c : Dev nD) (t : Fin cfg0.N) (d) : (dats m 0 c).before 5 t d = iblk m c 5 t :=
  before0_5_of m (dats m 0 c) (dats_A m c 5) (left5 m c) t d
theorem found6 (c : Dev nD) (t : Fin cfg0.N) (d) : (dats m 0 c).before 6 t d = iblk m c 6 t :=
  before0_6_of m (dats m 0 c) (dats_A m c 6) (left6 m c) t d
theorem found7 (c : Dev nD) (t : Fin cfg0.N) (d) : (dats m 0 c).before 7 t d = iblk m c 7 t :=
  before0_7_of m (dats m 0 c) (dats_A m c 7) (left7 m c) t d
theorem found8 (c : Dev nD) (t : Fin cfg0.N) (d) : (dats m 0 c).before 8 t d = iblk m c 8 t :=
  before0_8_of m (dats m 0 c) (dats_A m c 8) (left8 m c) t d
/-- Inside a sweep the output's buffer still holds what the point before left. -/
theorem found9 (c : Dev nD) (t : Fin cfg0.N) (h0 : ¬ t.val % 11 = 0) (d) : (dats m 0 c).before 9 t d = (prev m c t).1 := by
  have hN : t.val < 176 := lt_of_lt_of_eq t.isLt (show cfg0.N = 176 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, found7, found8]
  rw [show (dats m 0 c).owesAt () t.succ = (dats m 0 c).owesAt () t.castSucc from rfl,
    left0, left1, left2, left3, left4, left5, left6, left7, left8, left9]
  rw [show (dats m 0 c).Φ t.succ = iprop(owns (c : Thread nD τ) scr fullShare (held m c t.val t.isLt).2 ∗ (∃ r, prngReg c r)) from rfl,
    dats_carried m c t]
  by_cases h0 : t.val % 11 = 0
  · rw [held_first m c t h0]
    unfold hAt
    dsimp only
    by_cases hz : t.val = 0
    · rw [show carried m c t.val (Nat.le_of_lt t.isLt) = Pipeline.ΦA spec0 c from by simp only [hz]; rfl, scoped_eq]
      iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (body_first c (grid0.coords t) _ _ _ _ _ _ _ _ _ _ _ _ _ _ _ _ _ _ _ _ _ _ ((tile_first t).mpr h0) (fun h => by have := (tile_last t).mp h; omega) (iblk m c 0 t) (iblk m c 1 t) (iblk m c 2 t) (iblk m c 3 t) (iblk m c 4 t) (iblk m c 5 t) (iblk m c 6 t) (iblk m c 7 t) (iblk m c 8 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [carried_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (body_first c (grid0.coords t) _ _ _ _ _ _ _ _ _ _ _ _ _ _ _ _ _ _ _ _ _ _ ((tile_first t).mpr h0) (fun h => by have := (tile_last t).mp h; omega) (iblk m c 0 t) (iblk m c 1 t) (iblk m c 2 t) (iblk m c 3 t) (iblk m c 4 t) (iblk m c 5 t) (iblk m c 6 t) (iblk m c 7 t) (iblk m c 8 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  have hz : t.val ≠ 0 := fun h => h0 (by rw [h])
  rw [carried_pos m c _ _ hz]
  simp only [found9 m c t h0]
  by_cases h1 : t.val % 11 = 10
  · rw [held_last m c t h0 h1]
    dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_last c (grid0.coords t) _ _ _ _ _ _ _ _ _ _ _ _ _ _ _ _ _ _ _ _ _ _ (fun h => h0 ((tile_first t).mp h)) ((tile_last t).mpr h1) (iblk m c 0 t) (iblk m c 1 t) (iblk m c 2 t) (iblk m c 3 t) (iblk m c 4 t) (iblk m c 5 t) (iblk m c 6 t) (iblk m c 7 t) (iblk m c 8 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [held_mid m c t h0 h1]
    dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_mid c (grid0.coords t) _ _ _ _ _ _ _ _ _ _ _ _ _ _ _ _ _ _ _ _ _ _ (fun h => h0 ((tile_first t).mp h)) (fun h => h1 ((tile_last t).mp h)) (iblk m c 0 t) (iblk m c 1 t) (iblk m c 2 t) (iblk m c 3 t) (iblk m c 4 t) (iblk m c 5 t) (iblk m c 6 t) (iblk m c 7 t) (iblk m c 8 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  rw [scoped_eq]
  exact carried_some m c cfg0.N (Nat.le_refl _)

/-! ## The run and the frame -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := dats_A m) (hin := enter m) (hout := leave m)

theorem run : θ_run defs (onTc (τ := τ) (main (F := F))) (s₀ m ρ) (Pipeline.FramePost cfgs (dats m) 0 (V m)) :=
  (θ_run defs _ _).mono (fun _ h => h.1) (run_quiet m ρ)

/-- The frame: every argument array ends unchanged and every semaphore at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (dats_A m) (run m ρ)) ((θ_run defs _ _).mono (fun _ h => h.2) (run_quiet m ρ))

end Cert.Kernel3Ideal.Ffn
-- ==== Proof.HalfValue.lean ====
/-
  The feed-forward kernel's result array, written by hand: the accumulator holds, after each tile of hidden units, the
  partial sums of the down projection, and the block written back after the last tile is the block of `Ffn.res`, the layer without the final norm.
-/
module

public import proofs.«01_k».proof.Proof.FfnSpec
public import proofs.«01_k».proof.Proof.HalfFrame
public import Idealize.ShloMosaic.Lib.Pointwise
public import Idealize.ShloMosaic.Lib.ValueIdx
public import Idealize.ShloMosaic.Lib.Pipeline.Value
public import Idealize.ShloMosaic.Lib.Pipeline.ValueKit

@[expose] public section

set_option maxRecDepth 16384

noncomputable section

namespace Cert.Kernel3Ideal.Ffn

open Cert.Kernel3Ideal Cert.Kernel3Ideal.Gen Idealize.ShloMosaic Idealize.ShloMosaic.TcCoe Cert.Ffn

/-! ## The blocks' arithmetic, element by element -/

theorem chunk_at {α : Type} (X : S1024x2048.Idx → α) (a : Fin 1024) (b k : Fin 2048) :
    chunk X (chunkOf (ix2 a b)) (ix2 (n0 := 32) (n1 := 2048) ⟨a.val % 32, Nat.mod_lt _ (by decide)⟩ k) = X (ix2 a k) := by
  refine congrArg X (congrArg (fun z => ix2 z k) (Fin.ext ?_))
  show 32 * (a.val / 32) + a.val % 32 = a.val
  omega

theorem inChunk_at (a : Fin 1024) (b : Fin 2048) :
    inChunk (ix2 a b) = ix2 (n0 := 32) (n1 := 2048) ⟨a.val % 32, Nat.mod_lt _ (by decide)⟩ b := rfl

section
variable (gain : Vec Ideal S1x2048 .f32) (scale shift gate : Vec Ideal S1x1x2048 .f32)

theorem norm_at (x : Vec Ideal S32x2048 .f32) (a : Fin 32) (b : Fin 2048) :
    k0_pay5 (F := Ideal) gain scale shift x (ix2 a b)
      = x (ix2 a b) * rmsInv (fun k => x (ix2 a k)) * (gain (ix2 0 b) * (1 + scale (ix3 0 0 b))) + shift (ix3 0 0 b) := by
  pointwise [k0_pay5, rmsInv]

theorem close_at (x o : Vec Ideal S32x2048 .f32) (a : Fin 32) (b : Fin 2048) :
    k0_pay4 (F := Ideal) gate x o (ix2 a b) = x (ix2 a b) + Ideal.ofBits .f32 0x3F000000#32 * gate (ix3 0 0 b) * o (ix2 a b) := by
  pointwise [k0_pay4]

theorem zero_piece (a : Fin 32) (b : Fin 2048) : (k0_pay6 (F := Ideal)) (ix2 a b) = 0 := by
  pointwise [k0_pay6]

theorem hBlock_at (x : Vec Ideal S1024x2048 .f32) (a : Fin 1024) (b : Fin 2048) :
    hBlock (F := Ideal) gain scale shift x (ix2 a b)
      = x (ix2 a b) * rmsInv (fun k => x (ix2 a k)) * (gain (ix2 0 b) * (1 + scale (ix3 0 0 b))) + shift (ix3 0 0 b) := by
  have h := norm_at gain scale shift (chunk x (chunkOf (ix2 a b))) ⟨a.val % 32, Nat.mod_lt _ (by decide)⟩ b
  simp only [chunk_at] at h
  exact h

theorem epiBlock_at (x o : Vec Ideal S1024x2048 .f32) (a : Fin 1024) (b : Fin 2048) :
    epiBlock (F := Ideal) gate x o (ix2 a b) = x (ix2 a b) + Ideal.ofBits .f32 0x3F000000#32 * gate (ix3 0 0 b) * o (ix2 a b) := by
  have h := close_at gate (chunk x (chunkOf (ix2 a b))) (chunk o (chunkOf (ix2 a b))) ⟨a.val % 32, Nat.mod_lt _ (by decide)⟩ b
  simp only [chunk_at] at h
  exact h

theorem zeroBlock_at (a : Fin 1024) (b : Fin 2048) : zeroBlock (F := Ideal) (ix2 a b) = 0 :=
  zero_piece ⟨a.val % 32, Nat.mod_lt _ (by decide)⟩ b
end

section
variable (h : Vec Ideal S1024x2048 .bf16)

theorem firstL (wg wu : Vec Ideal S2048x256 .bf16) (o : Vec Ideal S1024x1024 .f32) (wd : Vec Ideal S256x1024 .bf16) (a : Fin 1024) (b : Fin 1024) :
    k0_pay8 (F := Ideal) h wg wu o wd (ix2 a b) = o (ix2 a b) + ∑ e : Fin 256,
      glu (∑ k : Fin 2048, h (ix2 a k) * wg (ix2 k e)) (∑ k : Fin 2048, h (ix2 a k) * wu (ix2 k e)) * wd (ix2 e b) := by
  pointwise [k0_pay8, k0_pay7, glu]
theorem firstR (wg wu : Vec Ideal S2048x256 .bf16) (o : Vec Ideal S1024x1024 .f32) (wd : Vec Ideal S256x1024 .bf16) (a : Fin 1024) (b : Fin 1024) :
    k0_pay9 (F := Ideal) h wg wu o wd (ix2 a b) = o (ix2 a b) + ∑ e : Fin 256,
      glu (∑ k : Fin 2048, h (ix2 a k) * wg (ix2 k e)) (∑ k : Fin 2048, h (ix2 a k) * wu (ix2 k e)) * wd (ix2 e b) := by
  pointwise [k0_pay9, k0_pay7, glu]
theorem secondL (wg wu : Vec Ideal S2048x256 .bf16) (o : Vec Ideal S1024x1024 .f32) (wd : Vec Ideal S256x1024 .bf16) (a : Fin 1024) (b : Fin 1024) :
    k0_pay2 (F := Ideal) h (k0_pay10 h wg) wu o wd (ix2 a b) = o (ix2 a b) + ∑ e : Fin 256,
      glu (∑ k : Fin 2048, h (ix2 a k) * wg (ix2 k e)) (∑ k : Fin 2048, h (ix2 a k) * wu (ix2 k e)) * wd (ix2 e b) := by
  pointwise [k0_pay2, k0_pay10, k0_pay1, glu]
theorem secondR (wg wu : Vec Ideal S2048x256 .bf16) (o : Vec Ideal S1024x1024 .f32) (wd : Vec Ideal S256x1024 .bf16) (a : Fin 1024) (b : Fin 1024) :
    k0_pay3 (F := Ideal) h (k0_pay10 h wg) wu o wd (ix2 a b) = o (ix2 a b) + ∑ e : Fin 256,
      glu (∑ k : Fin 2048, h (ix2 a k) * wg (ix2 k e)) (∑ k : Fin 2048, h (ix2 a k) * wu (ix2 k e)) * wd (ix2 e b) := by
  pointwise [k0_pay3, k0_pay10, k0_pay1, glu]

theorem wLo_at (w : Vec Ideal S2048x512 .bf16) (k : Fin 2048) (e : Fin 256) : wLo w (ix2 k e) = w (ix2 k ⟨0 + e.val, by omega⟩) := by
  exact View.ld_unit_apply_of _ _ _ _ _ _ fun a => by
    match a with
    | ⟨0, _⟩ => simp
    | ⟨1, _⟩ => simp
theorem wHi_at (w : Vec Ideal S2048x512 .bf16) (k : Fin 2048) (e : Fin 256) : wHi w (ix2 k e) = w (ix2 k ⟨256 + e.val, by omega⟩) := by
  exact View.ld_unit_apply_of _ _ _ _ _ _ fun a => by
    match a with
    | ⟨0, _⟩ => simp
    | ⟨1, _⟩ => simp
theorem d00_at (w : Vec Ideal S512x2048 .bf16) (e : Fin 256) (b : Fin 1024) : d00 w (ix2 e b) = w (ix2 ⟨0 + e.val, by omega⟩ ⟨b.val, by omega⟩) := by
  exact View.ld_unit_apply_of _ _ _ _ _ _ fun a => by
    match a with
    | ⟨0, _⟩ => simp
    | ⟨1, _⟩ => simp
theorem d01_at (w : Vec Ideal S512x2048 .bf16) (e : Fin 256) (b : Fin 1024) : d01 w (ix2 e b) = w (ix2 ⟨0 + e.val, by omega⟩ ⟨1024 + b.val, by omega⟩) := by
  exact View.ld_unit_apply_of _ _ _ _ _ _ fun a => by
    match a with
    | ⟨0, _⟩ => simp
    | ⟨1, _⟩ => simp
theorem d10_at (w : Vec Ideal S512x2048 .bf16) (e : Fin 256) (b : Fin 1024) : d10 w (ix2 e b) = w (ix2 ⟨256 + e.val, by omega⟩ ⟨b.val, by omega⟩) := by
  exact View.ld_unit_apply_of _ _ _ _ _ _ fun a => by
    match a with
    | ⟨0, _⟩ => simp
    | ⟨1, _⟩ => simp
theorem d11_at (w : Vec Ideal S512x2048 .bf16) (e : Fin 256) (b : Fin 1024) : d11 w (ix2 e b) = w (ix2 ⟨256 + e.val, by omega⟩ ⟨1024 + b.val, by omega⟩) := by
  exact View.ld_unit_apply_of _ _ _ _ _ _ fun a => by
    match a with
    | ⟨0, _⟩ => simp
    | ⟨1, _⟩ => simp
theorem left_at (o : Vec Ideal S1024x2048 .f32) (a : Fin 1024) (b : Fin 1024) : View.ld o rL (ix2 a b) = o (ix2 a ⟨b.val, by omega⟩) := by
  exact View.ld_unit_apply_of _ _ _ _ _ _ fun a => by
    match a with
    | ⟨0, _⟩ => simp
    | ⟨1, _⟩ => simp
theorem right_at (o : Vec Ideal S1024x2048 .f32) (a : Fin 1024) (b : Fin 1024) : View.ld o rR (ix2 a b) = o (ix2 a ⟨1024 + b.val, by omega⟩) := by
  exact View.ld_unit_apply_of _ _ _ _ _ _ fun a => by
    match a with
    | ⟨0, _⟩ => simp
    | ⟨1, _⟩ => simp

/-- What a half tile of hidden units, from `off` on, adds to the accumulator. -/
def half (wg wu : Vec Ideal S2048x512 .bf16) (wd : Vec Ideal S512x2048 .bf16) (a : Fin 1024) (d : Fin 2048) (off : ℕ) (hoff : off + 256 ≤ 512) : EReal :=
  ∑ e : Fin 256, glu (∑ k : Fin 2048, h (ix2 a k) * wg (ix2 k ⟨off + e.val, by omega⟩)) (∑ k : Fin 2048, h (ix2 a k) * wu (ix2 k ⟨off + e.val, by omega⟩))
    * wd (ix2 ⟨off + e.val, by omega⟩ d)

theorem half_of (wg wu : Vec Ideal S2048x512 .bf16) (wd : Vec Ideal S512x2048 .bf16) (a : Fin 1024) (d : Fin 2048) (off : ℕ) (hoff : off + 256 ≤ 512)
    (wg' wu' : Vec Ideal S2048x256 .bf16) (wd' : Vec Ideal S256x1024 .bf16) (d' : Fin 1024)
    (hg : ∀ k e, wg' (ix2 k e) = wg (ix2 k ⟨off + e.val, by omega⟩)) (hu : ∀ k e, wu' (ix2 k e) = wu (ix2 k ⟨off + e.val, by omega⟩))
    (hd : ∀ e, wd' (ix2 e d') = wd (ix2 ⟨off + e.val, by omega⟩ d)) :
    ∑ e : Fin 256, glu (∑ k : Fin 2048, h (ix2 a k) * wg' (ix2 k e)) (∑ k : Fin 2048, h (ix2 a k) * wu' (ix2 k e)) * wd' (ix2 e d')
      = half h wg wu wd a d off hoff := by
  simp only [half, hg, hu, hd]

theorem accBlock_at (wg wu : Vec Ideal S2048x512 .bf16) (wd : Vec Ideal S512x2048 .bf16) (o : Vec Ideal S1024x2048 .f32) (a : Fin 1024) (d : Fin 2048) :
    accBlock h wg wu wd o (ix2 a d) = o (ix2 a d) + half h wg wu wd a d 0 (by decide) + half h wg wu wd a d 256 (by decide) := by
  by_cases hd : d.val < 1024
  · refine (dif_pos hd).trans ?_
    show accLeft h wg wu wd o (ix2 a ⟨d.val, hd⟩) = _
    rw [accLeft, secondL, firstL, left_at]
    refine congrArg₂ (· + ·) (congrArg₂ (· + ·) rfl ?_) ?_
    · exact half_of h wg wu wd a d 0 _ _ _ _ _ (wLo_at wg) (wLo_at wu) fun e => d00_at wd e _
    · exact half_of h wg wu wd a d 256 _ _ _ _ _ (wHi_at wg) (wHi_at wu) fun e => d10_at wd e _
  · refine (dif_neg hd).trans ?_
    show accRight h wg wu wd o (ix2 a ⟨d.val - 1024, by omega⟩) = _
    have e : (⟨1024 + (d.val - 1024), by omega⟩ : Fin 2048) = d := Fin.ext (by simp only []; omega)
    rw [accRight, secondR, firstR, right_at]
    refine congrArg₂ (· + ·) (congrArg₂ (· + ·) (congrArg (fun z => o (ix2 a z)) e) ?_) ?_
    · exact half_of h wg wu wd a d 0 _ _ _ _ _ (wLo_at wg) (wLo_at wu) fun j => (d01_at wd j _).trans (congrArg (fun z => wd (ix2 _ z)) e)
    · exact half_of h wg wu wd a d 256 _ _ _ _ _ (wHi_at wg) (wHi_at wu) fun j => (d11_at wd j _).trans (congrArg (fun z => wd (ix2 _ z)) e)
end

/-! ## The blocks each grid point sees -/

theorem idx : ∀ t : Fin cfg0.N,
    win0_0.index t = ![t.val / 11, 0] ∧ win0_1.index t = ![t.val / 44 * 9 + 0, 0, 0] ∧ win0_2.index t = ![t.val / 44 * 9 + 1, 0, 0]
      ∧ win0_3.index t = ![t.val / 44 * 9 + 2, 0, 0] ∧ win0_4.index t = ![0, 0] ∧ win0_5.index t = ![0, t.val % 11] ∧ win0_6.index t = ![0, t.val % 11]
      ∧ win0_7.index t = ![t.val % 11, 0] ∧ win0_8.index t = ![0, 0] ∧ win0_9.index t = ![t.val / 11, 0] ∧ t.val < 176 :=
  (by decide +kernel : ∀ t : Fin grid0.N,
    win0_0.index t = ![t.val / 11, 0] ∧ win0_1.index t = ![t.val / 44 * 9 + 0, 0, 0] ∧ win0_2.index t = ![t.val / 44 * 9 + 1, 0, 0]
      ∧ win0_3.index t = ![t.val / 44 * 9 + 2, 0, 0] ∧ win0_4.index t = ![0, 0] ∧ win0_5.index t = ![0, t.val % 11] ∧ win0_6.index t = ![0, t.val % 11]
      ∧ win0_7.index t = ![t.val % 11, 0] ∧ win0_8.index t = ![0, 0] ∧ win0_9.index t = ![t.val / 11, 0] ∧ t.val < 176)

section
variable (m : (ℓ : Loc nD τ sig) → Buf (Elt Ideal) ℓ) (c : Dev nD) (t : Fin cfg0.N)

theorem x_blk (a : Fin 1024) (k : Fin 2048) :
    iblk m c 0 t (ix2 a k) = m ((c : Thread nD τ).loc main_arg0) (ix2 ⟨t.val / 11 * 1024 + a.val, by have := idx t; omega⟩ k) := by
  blk_ext [iblk, V, idx t]
theorem shift_blk (k : Fin 2048) :
    iblk m c 1 t (ix3 0 0 k) = m ((c : Thread nD τ).loc main_arg1) (ix3 ⟨t.val / 44 * 9 + 0, by have := idx t; omega⟩ 0 k) := by
  blk_ext [iblk, V, idx t]
theorem scale_blk (k : Fin 2048) :
    iblk m c 2 t (ix3 0 0 k) = m ((c : Thread nD τ).loc main_arg1) (ix3 ⟨t.val / 44 * 9 + 1, by have := idx t; omega⟩ 0 k) := by
  blk_ext [iblk, V, idx t]
theorem gate_blk (k : Fin 2048) :
    iblk m c 3 t (ix3 0 0 k) = m ((c : Thread nD τ).loc main_arg1) (ix3 ⟨t.val / 44 * 9 + 2, by have := idx t; omega⟩ 0 k) := by
  blk_ext [iblk, V, idx t]
theorem gain_blk (k : Fin 2048) : iblk m c 4 t (ix2 0 k) = m ((c : Thread nD τ).loc main_arg2) (ix2 0 k) := by
  blk_ext [iblk, V, idx t]
theorem wg_blk (k : Fin 2048) (j : Fin 512) :
    iblk m c 5 t (ix2 k j) = m ((c : Thread nD τ).loc main_arg3) (ix2 k ⟨t.val % 11 * 512 + j.val, by omega⟩) := by
  blk_ext [iblk, V, idx t]
theorem wu_blk (k : Fin 2048) (j : Fin 512) :
    iblk m c 6 t (ix2 k j) = m ((c : Thread nD τ).loc main_arg4) (ix2 k ⟨t.val % 11 * 512 + j.val, by omega⟩) := by
  blk_ext [iblk, V, idx t]
theorem wd_blk (j : Fin 512) (d : Fin 2048) :
    iblk m c 7 t (ix2 j d) = m ((c : Thread nD τ).loc main_arg5) (ix2 ⟨t.val % 11 * 512 + j.val, by omega⟩ d) := by
  blk_ext [iblk, V, idx t]

/-! ## The sweep over the tiles of hidden units -/

/-- The row of the array that row `a` of point `t`'s block is. -/
def row (t : Fin cfg0.N) (a : Fin 1024) : Fin 16384 := ⟨t.val / 11 * 1024 + a.val, by have := idx t; omega⟩

theorem row_seq (a : Fin 1024) : (row t a).val / 4096 = t.val / 44 := by
  show (t.val / 11 * 1024 + a.val) / 4096 = t.val / 44
  omega

/-- The normalised, modulated row, read off the argument arrays. -/
abbrev hidM (r : Fin 16384) (k : Fin 2048) : EReal :=
  hid (m ((c : Thread nD τ).loc main_arg0)) (m ((c : Thread nD τ).loc main_arg1)) (m ((c : Thread nD τ).loc main_arg2)) 0 r k

/-- The summands of the down projection. -/
abbrev termM (r : Fin 16384) (d : Fin 2048) (j : Fin 5632) : EReal :=
  act (m ((c : Thread nD τ).loc main_arg0)) (m ((c : Thread nD τ).loc main_arg1)) (m ((c : Thread nD τ).loc main_arg2))
    (m ((c : Thread nD τ).loc main_arg3)) (m ((c : Thread nD τ).loc main_arg4)) 0 r j * m ((c : Thread nD τ).loc main_arg5) (ix2 j d)

theorem shift_row (a : Fin 1024) (k : Fin 2048) : iblk m c 1 t (ix3 0 0 k) = shift (m ((c : Thread nD τ).loc main_arg1)) 0 (row t a) k :=
  (shift_blk m c t k).trans (congrArg (fun z => m ((c : Thread nD τ).loc main_arg1) (ix3 z 0 k)) (Fin.ext (by
    show t.val / 44 * 9 + 0 = (row t a).val / 4096 * 9 + 0
    rw [row_seq])))
theorem scale_row (a : Fin 1024) (k : Fin 2048) : iblk m c 2 t (ix3 0 0 k) = scale (m ((c : Thread nD τ).loc main_arg1)) 0 (row t a) k :=
  (scale_blk m c t k).trans (congrArg (fun z => m ((c : Thread nD τ).loc main_arg1) (ix3 z 0 k)) (Fin.ext (by
    show t.val / 44 * 9 + 1 = (row t a).val / 4096 * 9 + 0 + 1
    rw [row_seq])))
theorem gate_row (a : Fin 1024) (k : Fin 2048) : iblk m c 3 t (ix3 0 0 k) = gate (m ((c : Thread nD τ).loc main_arg1)) 0 (row t a) k :=
  (gate_blk m c t k).trans (congrArg (fun z => m ((c : Thread nD τ).loc main_arg1) (ix3 z 0 k)) (Fin.ext (by
    show t.val / 44 * 9 + 2 = (row t a).val / 4096 * 9 + 0 + 2
    rw [row_seq])))

theorem hAt_at (a : Fin 1024) (k : Fin 2048) : hAt m c t (ix2 a k) = hidM m c (row t a) k := by
  rw [hAt, hBlock_at, shift_row m c t a, scale_row m c t a, gain_blk]
  simp only [x_blk]
  rw [← mul_assoc]
  rfl

/-- Half a tile's contribution is a piece of the down projection's sum. -/
theorem half_at (h : Vec Ideal S1024x2048 .bf16) (a : Fin 1024) (d : Fin 2048) (hh : ∀ k, h (ix2 a k) = hidM m c (row t a) k)
    (off s : ℕ) (hoff : off + 256 ≤ 512) (hs : 256 * s = t.val % 11 * 512 + off) :
    half h (iblk m c 5 t) (iblk m c 6 t) (iblk m c 7 t) a d off hoff = stretch (termM m c (row t a) d) s := by
  have hs' : s < 22 := by omega
  rw [stretch, dif_pos hs', half]
  refine Finset.sum_congr rfl fun e _ => ?_
  have hj : (⟨t.val % 11 * 512 + (off + e.val), by omega⟩ : Fin 5632) = ⟨256 * s + e.val, by omega⟩ := Fin.ext (by simp only []; omega)
  simp only [wg_blk, wu_blk, wd_blk, hh, hj]
  rfl

/-- One step of the sweep. -/
theorem step_at (h : Vec Ideal S1024x2048 .bf16) (o : Vec Ideal S1024x2048 .f32) (a : Fin 1024) (d : Fin 2048)
    (hh : ∀ k, h (ix2 a k) = hidM m c (row t a) k) (ho : o (ix2 a d) = partialSum (termM m c (row t a) d) (t.val % 11)) :
    accBlock h (iblk m c 5 t) (iblk m c 6 t) (iblk m c 7 t) o (ix2 a d) = partialSum (termM m c (row t a) d) (t.val % 11 + 1) := by
  rw [accBlock_at, ho, half_at m c t h a d hh 0 (2 * (t.val % 11)) _ (by omega), half_at m c t h a d hh 256 (2 * (t.val % 11) + 1) _ (by omega)]
  rfl

theorem row_prev (n : ℕ) (hn : n + 1 < cfg0.N) (h0 : ¬ (n + 1) % 11 = 0) (a : Fin 1024) :
    row ⟨n, Nat.lt_of_succ_lt hn⟩ a = row ⟨n + 1, hn⟩ a :=
  Fin.ext (by show n / 11 * 1024 + a.val = (n + 1) / 11 * 1024 + a.val; omega)

/-- The activations kept between points are those of the point's rows. -/
theorem kept (a : Fin 1024) (k : Fin 2048) : ∀ (n : ℕ) (hn : n < cfg0.N), (held m c n hn).2 (ix2 a k) = hidM m c (row ⟨n, hn⟩ a) k := by
  intro n
  induction n with
  | zero => exact fun hn => (congrFun (congrArg Prod.snd (held_first m c ⟨0, hn⟩ rfl)) _).trans (hAt_at m c ⟨0, hn⟩ a k)
  | succ n ih =>
    intro hn
    by_cases h0 : (n + 1) % 11 = 0
    · exact (congrFun (congrArg Prod.snd (held_first m c ⟨n + 1, hn⟩ h0)) _).trans (hAt_at m c ⟨n + 1, hn⟩ a k)
    · have e : (held m c (n + 1) hn).2 = (held m c n (Nat.lt_of_succ_lt hn)).2 := by
        by_cases h1 : (n + 1) % 11 = 10
        · have h := congrArg Prod.snd (held_last m c ⟨n + 1, hn⟩ h0 h1)
          exact h
        · have h := congrArg Prod.snd (held_mid m c ⟨n + 1, hn⟩ h0 h1)
          exact h
      rw [e, ih, row_prev n hn h0]

theorem first_at (a : Fin 1024) (d : Fin 2048) (h0 : t.val % 11 = 0) :
    (held m c t.val t.isLt).1 (ix2 a d) = partialSum (termM m c (row t a) d) (t.val % 11 + 1) := by
  rw [held_first m c t h0]
  refine step_at m c t _ _ a d (hAt_at m c t a) ?_
  rw [zeroBlock_at, h0]
  rfl

/-- Before the last tile the accumulator holds the partial sums. -/
theorem partial_at (a : Fin 1024) (d : Fin 2048) : ∀ (n : ℕ) (hn : n < cfg0.N), n % 11 ≠ 10 →
    (held m c n hn).1 (ix2 a d) = partialSum (termM m c (row ⟨n, hn⟩ a) d) (n % 11 + 1) := by
  intro n
  induction n with
  | zero => exact fun hn _ => first_at m c ⟨0, hn⟩ a d rfl
  | succ n ih =>
    intro hn h1
    by_cases h0 : (n + 1) % 11 = 0
    · exact first_at m c ⟨n + 1, hn⟩ a d h0
    · refine (congrFun (congrArg Prod.fst (held_mid m c ⟨n + 1, hn⟩ h0 h1)) _).trans ?_
      refine step_at m c ⟨n + 1, hn⟩ _ _ a d (fun k => ?_) ?_
      · exact (kept m c a k n (Nat.lt_of_succ_lt hn)).trans (by rw [row_prev n hn h0])
      · refine (ih (Nat.lt_of_succ_lt hn) (by omega)).trans ?_
        rw [row_prev n hn h0]
        show partialSum _ (n % 11 + 1) = partialSum _ ((n + 1) % 11)
        rw [show (n + 1) % 11 = n % 11 + 1 by omega]

/-- The finished block, read off the argument arrays. -/
abbrev outM (r : Fin 16384) (d : Fin 2048) : EReal :=
  res (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) 0 r d

/-- After the last tile: the result's rows. -/
theorem last_at (a : Fin 1024) (d : Fin 2048) (h1 : t.val % 11 = 10) : (held m c t.val t.isLt).1 (ix2 a d) = outM m c (row t a) d := by
  have h0 : ¬ t.val % 11 = 0 := by omega
  rw [held_last m c t h0 h1]
  have hacc : ∀ d, accBlock (prev m c t).2 (iblk m c 5 t) (iblk m c 6 t) (iblk m c 7 t) (prev m c t).1 (ix2 a d)
      = down (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) 0 (row t a) d := by
    intro d
    obtain ⟨n, hn⟩ := t
    cases n with
    | zero => exact absurd rfl h0
    | succ n =>
      refine (step_at m c ⟨n + 1, hn⟩ _ _ a d (fun k => ?_) ?_).trans ?_
      · exact (kept m c a k n (Nat.lt_of_succ_lt hn)).trans (by rw [row_prev n hn h0])
      · have h1' : (n + 1) % 11 = 10 := h1
        refine (partial_at m c a d n (Nat.lt_of_succ_lt hn) (by omega)).trans ?_
        rw [row_prev n hn h0]
        show partialSum _ (n % 11 + 1) = partialSum _ ((n + 1) % 11)
        rw [show (n + 1) % 11 = n % 11 + 1 by omega]
      · rw [h1]
        exact partialSum_all _
  show epiBlock (iblk m c 3 t) (iblk m c 0 t) _ (ix2 a d) = _
  rw [epiBlock_at]
  simp only [hacc, gate_row m c t a, x_blk]
  rfl

/-! ## The result array -/

/-- The result array after the run. -/
theorem result : (dats m 0 c).arrAt 9 cfg0.N = fun i : S16384x2048.Idx => outM m c (i 0) (i 1) := by
  refine (dats m 0 c).arrAt_eq_of_covers 9 _ (by decide +kernel) fun t hf y => ?_
  have e0 : (((cfg0.win 9).blk t).view.emb y 0).val = win0_9.index t 0 * 1024 + (y 0).val := by blk_simp
  have e1 : (((cfg0.win 9).blk t).view.emb y 1).val = win0_9.index t 1 * 2048 + (y 1).val := by blk_simp
  have hi := (idx t).2.2.2.2.2.2.2.2.2.1
  have hy : y = ix2 (y 0) (y 1) := by funext k; match k with | ⟨0, _⟩ => rfl | ⟨1, _⟩ => rfl
  have h := last_at m c t (y 0) (y 1) ((flush0_9 t).mp hf)
  blk_simp
  rw [left9]
  refine (congrArg _ hy).trans (h.trans ?_)
  refine congrArg₂ (outM m c) (Fin.ext ?_) (Fin.ext ?_)
  · exact (by rw [hi]; rfl : t.val / 11 * 1024 + (y 0).val = win0_9.index t 0 * 1024 + (y 0).val).trans e0.symm
  · exact (by rw [hi]; show (y 1).val = 0 * 2048 + (y 1).val; omega : (y 1).val = win0_9.index t 1 * 2048 + (y 1).val).trans e1.symm
end

end Cert.Kernel3Ideal.Ffn

end
-- ==== Proof.HalfReference.lean ====
/-
  The reference of the feed-forward without the final norm, read element by element: its result is `Ffn.res`.
-/
module

public import proofs.«01_k».proof.Proof.FfnSpec
public import proofs.«01_k».proof.Proof.Gen.Reference3Ideal.Read
public import Idealize.ShloMosaic.Lib.Pointwise
public import Idealize.ShloMosaic.Lib.ValueIdx

@[expose] public section

set_option maxRecDepth 16384

noncomputable section

namespace Cert.HalfReference

open Cert.Reference3Ideal Cert.Reference3Ideal.Read Idealize.ShloMosaic Cert.Ffn

variable (x : (⟨S16384x2048, .f32⟩ : BufTy).Contents (Elt Ideal)) (md : (⟨S72x1x2048, .f32⟩ : BufTy).Contents (Elt Ideal))
  (gain : (⟨S1x2048, .f32⟩ : BufTy).Contents (Elt Ideal)) (wg wu : (⟨S2048x5632, .bf16⟩ : BufTy).Contents (Elt Ideal))
  (wd : (⟨S5632x2048, .bf16⟩ : BufTy).Contents (Elt Ideal))

/-- Row of token `t` of sequence `b`. -/
abbrev tok (b : Fin 4) (t : Fin 4096) : Fin 16384 := ⟨b.val * 4096 + t.val, by omega⟩

theorem x_at (b : Fin 4) (t : Fin 4096) (k : Fin 2048) : val_main_v3 (F := Ideal) x (ix3 b t k) = x (ix2 (tok b t) k) := by
  pointwise [val_main_v3]

theorem shift_at (b : Fin 4) (k : Fin 2048) : val_main_v7 (F := Ideal) md (ix3 b 0 k) = md (ix3 ⟨b.val * 9 + 0, by omega⟩ 0 k) := by
  pointwise [val_main_v7, val_main_v6, val_main_v5]
theorem scale_at (b : Fin 4) (k : Fin 2048) : val_main_v8 (F := Ideal) md (ix3 b 0 k) = md (ix3 ⟨b.val * 9 + 1, by omega⟩ 0 k) := by
  pointwise [val_main_v8, val_main_v6, val_main_v5]
theorem gate_at (b : Fin 4) (k : Fin 2048) : val_main_v9 (F := Ideal) md (ix3 b 0 k) = md (ix3 ⟨b.val * 9 + 2, by omega⟩ 0 k) := by
  pointwise [val_main_v9, val_main_v6, val_main_v5]

theorem tok_seq (b : Fin 4) (t : Fin 4096) : (tok b t).val / 4096 = b.val := by
  show (b.val * 4096 + t.val) / 4096 = b.val
  omega

theorem shift_tok (b : Fin 4) (t : Fin 4096) (k : Fin 2048) : val_main_v7 (F := Ideal) md (ix3 b 0 k) = shift md 0 (tok b t) k :=
  (shift_at md b k).trans (congrArg (fun z => md (ix3 z 0 k)) (Fin.ext (by
    show b.val * 9 + 0 = (tok b t).val / 4096 * 9 + 0
    rw [tok_seq])))
theorem scale_tok (b : Fin 4) (t : Fin 4096) (k : Fin 2048) : val_main_v8 (F := Ideal) md (ix3 b 0 k) = scale md 0 (tok b t) k :=
  (scale_at md b k).trans (congrArg (fun z => md (ix3 z 0 k)) (Fin.ext (by
    show b.val * 9 + 1 = (tok b t).val / 4096 * 9 + 0 + 1
    rw [tok_seq])))
theorem gate_tok (b : Fin 4) (t : Fin 4096) (k : Fin 2048) : val_main_v9 (F := Ideal) md (ix3 b 0 k) = gate md 0 (tok b t) k :=
  (gate_at md b k).trans (congrArg (fun z => md (ix3 z 0 k)) (Fin.ext (by
    show b.val * 9 + 2 = (tok b t).val / 4096 * 9 + 0 + 2
    rw [tok_seq])))

/-- The normalised, modulated row. -/
theorem hid_at (b : Fin 4) (t : Fin 4096) (k : Fin 2048) :
    val_main_v28 (F := Ideal) x md gain (ix3 b t k) = hid x md gain 0 (tok b t) k := by
  have h : val_main_v28 (F := Ideal) x md gain (ix3 b t k)
      = val_main_v3 (F := Ideal) x (ix3 b t k) * rmsInv (fun k => val_main_v3 (F := Ideal) x (ix3 b t k)) * gain (ix2 0 k)
        * (1 + val_main_v8 (F := Ideal) md (ix3 b 0 k)) + val_main_v7 (F := Ideal) md (ix3 b 0 k) := by
    pointwise [val_main_v28, val_main_v27, val_main_v26, val_main_v25, val_main_v24, val_main_v23, val_main_cst_2, val_main_v22, val_main_v21, val_main_v20,
      val_main_v19, val_main_v18, val_main_v17, val_main_v16, val_main_v15, val_main_cst_1, val_main_v14, val_main_v13, val_main_cst_0, val_main_v12, val_main_v11, val_main_cst,
      val_main_v10, val_main_v4, rmsInv]
  rw [h, shift_tok md b t, scale_tok md b t]
  simp only [x_at]
  rfl

theorem gateproj_at (b : Fin 4) (t : Fin 4096) (j : Fin 5632) :
    val_main_v31 (F := Ideal) x md gain wg (ix3 b t j) = ∑ k : Fin 2048, val_main_v28 (F := Ideal) x md gain (ix3 b t k) * wg (ix2 k j) := by
  pointwise [val_main_v31, val_main_v0]

theorem upproj_at (b : Fin 4) (t : Fin 4096) (j : Fin 5632) :
    val_main_v33 (F := Ideal) x md gain wu (ix3 b t j) = ∑ k : Fin 2048, val_main_v28 (F := Ideal) x md gain (ix3 b t k) * wu (ix2 k j) := by
  pointwise [val_main_v33, val_main_v1]

theorem glu_at (b : Fin 4) (t : Fin 4096) (j : Fin 5632) :
    val_main_v34 (F := Ideal) x md gain wg wu (ix3 b t j)
      = glu (val_main_v31 (F := Ideal) x md gain wg (ix3 b t j)) (val_main_v33 (F := Ideal) x md gain wu (ix3 b t j)) := by
  pointwise [val_main_v34, val_main_v32, val_main_call0_v5, val_main_call0_v4, val_main_call0_cst_0, val_main_call0_v3, val_main_call0_v2, val_main_call0_cst,
    val_main_call0_v1, val_main_call0_v0, glu, Ideal.logistic]

theorem act_at (b : Fin 4) (t : Fin 4096) (j : Fin 5632) :
    val_main_v34 (F := Ideal) x md gain wg wu (ix3 b t j) = act x md gain wg wu 0 (tok b t) j := by
  rw [glu_at, gateproj_at, upproj_at]
  simp only [hid_at]
  rfl

theorem down_at (b : Fin 4) (t : Fin 4096) (d : Fin 2048) :
    val_main_v35 (F := Ideal) x md gain wg wu wd (ix3 b t d) = down x md gain wg wu wd 0 (tok b t) d := by
  have h : val_main_v35 (F := Ideal) x md gain wg wu wd (ix3 b t d)
      = ∑ j : Fin 5632, val_main_v34 (F := Ideal) x md gain wg wu (ix3 b t j) * wd (ix2 j d) := by
    pointwise [val_main_v35, val_main_v2]
  rw [h]
  simp only [act_at]
  rfl

theorem res_at (b : Fin 4) (t : Fin 4096) (d : Fin 2048) :
    val_main_v38 (F := Ideal) x md gain wg wu wd (ix3 b t d) = res x md gain wg wu wd 0 (tok b t) d := by
  have h : val_main_v38 (F := Ideal) x md gain wg wu wd (ix3 b t d)
      = val_main_v3 (F := Ideal) x (ix3 b t d)
        + Ideal.ofBits .f32 0x3F000000#32 * val_main_v9 (F := Ideal) md (ix3 b 0 d) * val_main_v35 (F := Ideal) x md gain wg wu wd (ix3 b t d) := by
    pointwise [val_main_v38, val_main_v37, val_main_v36, val_main_v30, val_main_v29, val_main_cst_3]
  rw [h, x_at, gate_tok md b t, down_at]
  rfl

/-- The reference's result. -/
theorem result_at (r : Fin 16384) (d : Fin 2048) :
    val_main_v39 (F := Ideal) x md gain wg wu wd (ix2 r d) = res x md gain wg wu wd 0 r d := by
  have h : val_main_v39 (F := Ideal) x md gain wg wu wd (ix2 r d)
      = val_main_v38 (F := Ideal) x md gain wg wu wd (ix3 ⟨r.val / 4096, by omega⟩ ⟨r.val % 4096, by omega⟩ d) := by
    pointwise [val_main_v39]
  rw [h, res_at]
  exact congrArg (fun z => res x md gain wg wu wd 0 z d) (Fin.ext (by
    show r.val / 4096 * 4096 + r.val % 4096 = r.val
    omega))

end Cert.HalfReference

end
-- ==== Proof.HalfClaim.lean ====
/-
  The claim about the feed-forward without the final norm, written by hand: from the two programs' runs, both results named as `Ffn.res` of the arguments.
-/
module

public import proofs.«01_k».proof.Defs
public import proofs.«01_k».proof.Proof.HalfValue
public import proofs.«01_k».proof.Proof.HalfReference
public import proofs.«01_k».proof.Proof.Gen.Reference3Ideal.Run
public import Idealize.ShloMosaic.Lib.Claim

@[expose] public section

set_option maxRecDepth 16384

noncomputable section

namespace Cert.HalfClaim

open Idealize.ShloMosaic Idealize.ShloMosaic.TcCoe Idealize.SL.Sem

theorem algebraic : Cert.algebraic_Kernel3Ideal_Reference3Ideal := by
  intro m g m' g' _ hargs
  refine ⟨fun c => fun i : Cert.Kernel3Ideal.S16384x2048.Idx => Cert.Kernel3Ideal.Ffn.outM m c (i 0) (i 1), ?_, ?_⟩
  · refine (θ_run _ _ _).mono (fun r h c => ?_) (θ_run_and (Cert.Kernel3Ideal.Ffn.run (F := Ideal) m g) (Cert.Kernel3Ideal.Ffn.frame (F := Ideal) m g))
    exact ⟨((h.1 c).1 9).trans (Cert.Kernel3Ideal.Ffn.result m c), h.2.1 c⟩
  · refine (θ_run _ _ _).mono (fun r h c => ?_) (Cert.Reference3Ideal.Value.run m' g')
    refine ⟨(h c).1.trans ?_, (h c).2⟩
    obtain ⟨a0, a1, a2, a3, a4, a5, _⟩ := hargs c
    rw [Cert.Reference3Ideal.Read.val_main_v39_eq, a0, a1, a2, a3, a4, a5]
    funext i
    have hi : i = ix2 (i 0) (i 1) := by funext k; match k with | ⟨0, _⟩ => rfl | ⟨1, _⟩ => rfl
    rw [hi]
    exact HalfReference.result_at _ _ _ _ _ _ _ _

end Cert.HalfClaim

end
-- ==== Proof.OutProj.lean ====
/-
  The output projection, written by hand: the spec, the kernel's blocks and the reference's array, both read element by
  element, and the claim. The kernel multiplies the three mixers' columns by their rows of the weight one after the other;
  the reference puts the columns side by side and takes one product.
-/
module

public import proofs.«01_k».proof.Defs
public import proofs.«01_k».proof.Proof.Gen.Kernel4Ideal.Value
public import proofs.«01_k».proof.Proof.Gen.Reference4Ideal.Read
public import proofs.«01_k».proof.Proof.Gen.Reference4Ideal.Run
public import Idealize.ShloMosaic.Lib.Claim
public import Idealize.ShloMosaic.Lib.Pointwise
public import Idealize.ShloMosaic.Lib.ValueIdx
public import Idealize.ShloMosaic.Lib.Pipeline.Value
public import Idealize.ShloMosaic.Lib.Pipeline.ValueKit

@[expose] public section

set_option maxRecDepth 16384

noncomputable section

namespace Cert.OutProj

open Idealize.ShloMosaic Idealize.ShloMosaic.TcCoe Idealize.SL.Sem

/-! ## The spec -/

section
variable (x : (⟨2, ![16384, 2048]⟩ : Shape).Idx → EReal) (md : (⟨3, ![72, 1, 2048]⟩ : Shape).Idx → EReal)
  (ya yb : (⟨2, ![16384, 512]⟩ : Shape).Idx → EReal) (yc : (⟨2, ![16384, 1024]⟩ : Shape).Idx → EReal)
  (w : (⟨2, ![2048, 2048]⟩ : Shape).Idx → EReal)

/-- The three mixers' columns side by side. -/
def mixed (r : Fin 16384) (e : Fin 2048) : EReal :=
  if h : e.val < 512 then ya (ix2 r ⟨e.val, h⟩)
  else if h' : e.val < 1024 then yb (ix2 r ⟨e.val - 512, by omega⟩)
  else yc (ix2 r ⟨e.val - 1024, by omega⟩)

/-- The tokens plus the sequence's gate times the projected mixers. -/
def projected (r : Fin 16384) (d : Fin 2048) : EReal :=
  x (ix2 r d) + md (ix3 ⟨r.val / 4096 * 9 + 5, by omega⟩ 0 d) * ∑ e : Fin 2048, mixed ya yb yc r e * w (ix2 e d)

/-- A sum over the columns, mixer by mixer. -/
theorem sum_mixers (f : Fin 2048 → EReal) :
    ∑ e : Fin 2048, f e = ∑ e : Fin 512, f ⟨e.val, by omega⟩ + ∑ e : Fin 512, f ⟨512 + e.val, by omega⟩ + ∑ e : Fin 1024, f ⟨1024 + e.val, by omega⟩ := by
  have h1 := Fin.sum_univ_add (a := 1024) (b := 1024) f
  have h2 := Fin.sum_univ_add (a := 512) (b := 512) fun e : Fin 1024 => f (Fin.castAdd 1024 e)
  exact h1.trans (congrArg₂ (· + ·) h2 rfl)

/-- The product of the columns side by side is the sum of the three products. -/
theorem mixed_sum (r : Fin 16384) (d : Fin 2048) :
    ∑ e : Fin 2048, mixed ya yb yc r e * w (ix2 e d)
      = ∑ e : Fin 512, ya (ix2 r e) * w (ix2 ⟨e.val, by omega⟩ d) + ∑ e : Fin 512, yb (ix2 r e) * w (ix2 ⟨512 + e.val, by omega⟩ d)
        + ∑ e : Fin 1024, yc (ix2 r e) * w (ix2 ⟨1024 + e.val, by omega⟩ d) := by
  rw [sum_mixers]
  refine congrArg₂ (· + ·) (congrArg₂ (· + ·) (Finset.sum_congr rfl fun e _ => ?_) (Finset.sum_congr rfl fun e _ => ?_)) (Finset.sum_congr rfl fun e _ => ?_)
  · rw [mixed, dif_pos e.isLt]
  · rw [mixed, dif_neg (by simp only []; omega), dif_pos (by simp only []; omega)]
    congr 3; exact Fin.ext (by simp only []; omega)
  · rw [mixed, dif_neg (by simp only []; omega), dif_neg (by simp only []; omega)]
    congr 3; exact Fin.ext (by simp only []; omega)
end

/-! ## The kernel -/

section
open Cert.Kernel4Ideal Cert.Kernel4Ideal.Gen

variable (x0 : Vec Ideal S512x2048 .f32) (x1 : Vec Ideal S1x1x2048 .f32) (x2 x3 : Vec Ideal S512x512 .bf16) (x4 : Vec Ideal S512x1024 .bf16)
  (x5 : Vec Ideal S2048x2048 .bf16)

theorem w_a (e : Fin 512) (d : Fin 2048) : View.ld x5 r0_1 (ix2 e d) = x5 (ix2 ⟨e.val, by omega⟩ d) := by
  exact View.ld_unit_apply_of _ _ _ _ _ _ fun a => by
    match a with
    | ⟨0, _⟩ => simp
    | ⟨1, _⟩ => simp
theorem w_b (e : Fin 512) (d : Fin 2048) : View.ld x5 r0_2 (ix2 e d) = x5 (ix2 ⟨512 + e.val, by omega⟩ d) := by
  exact View.ld_unit_apply_of _ _ _ _ _ _ fun a => by
    match a with
    | ⟨0, _⟩ => simp
    | ⟨1, _⟩ => simp
theorem w_c (e : Fin 1024) (d : Fin 2048) : View.ld x5 r0_4 (ix2 e d) = x5 (ix2 ⟨1024 + e.val, by omega⟩ d) := by
  exact View.ld_unit_apply_of _ _ _ _ _ _ fun a => by
    match a with
    | ⟨0, _⟩ => simp
    | ⟨1, _⟩ => simp
theorem ab_whole (y : Vec Ideal S512x512 .bf16) (a e : Fin 512) : View.ld y r0_0 (ix2 a e) = y (ix2 a e) := by
  exact View.ld_unit_apply_of _ _ _ _ _ _ fun a => by
    match a with
    | ⟨0, _⟩ => simp
    | ⟨1, _⟩ => simp
theorem c_whole (a : Fin 512) (e : Fin 1024) : View.ld x4 r0_3 (ix2 a e) = x4 (ix2 a e) := by
  exact View.ld_unit_apply_of _ _ _ _ _ _ fun a => by
    match a with
    | ⟨0, _⟩ => simp
    | ⟨1, _⟩ => simp
theorem x_whole (a : Fin 512) (d : Fin 2048) : View.ld x0 r0_5 (ix2 a d) = x0 (ix2 a d) := by
  exact View.ld_unit_apply_of _ _ _ _ _ _ fun a => by
    match a with
    | ⟨0, _⟩ => simp
    | ⟨1, _⟩ => simp
theorem g_whole (d : Fin 2048) : View.ld x1 r0_6 (ix3 0 0 d) = x1 (ix3 0 0 d) := by
  exact View.ld_unit_apply_of _ _ _ _ _ _ fun a => by
    match a with
    | ⟨0, _⟩ => simp
    | ⟨1, _⟩ => simp
    | ⟨2, _⟩ => simp

theorem pay_at (ya : Vec Ideal S512x512 .bf16) (wa : Vec Ideal S512x2048 .bf16) (yb : Vec Ideal S512x512 .bf16) (wb : Vec Ideal S512x2048 .bf16)
    (yc : Vec Ideal S512x1024 .bf16) (wc : Vec Ideal S1024x2048 .bf16) (x : Vec Ideal S512x2048 .f32) (g : Vec Ideal S1x1x2048 .f32) (a : Fin 512) (d : Fin 2048) :
    k0_pay1 (F := Ideal) ya wa yb wb yc wc x g (ix2 a d)
      = x (ix2 a d) + g (ix3 0 0 d) * (∑ e : Fin 512, ya (ix2 a e) * wa (ix2 e d) + ∑ e : Fin 512, yb (ix2 a e) * wb (ix2 e d)
          + ∑ e : Fin 1024, yc (ix2 a e) * wc (ix2 e d)) := by
  pointwise [k0_pay1]

/-- The stored block at an index. -/
theorem block_at (a : Fin 512) (d : Fin 2048) :
    out0_6 (F := Ideal) x0 x1 x2 x3 x4 x5 (ix2 a d)
      = x0 (ix2 a d) + x1 (ix3 0 0 d) * (∑ e : Fin 512, x2 (ix2 a e) * x5 (ix2 ⟨e.val, by omega⟩ d)
          + ∑ e : Fin 512, x3 (ix2 a e) * x5 (ix2 ⟨512 + e.val, by omega⟩ d) + ∑ e : Fin 1024, x4 (ix2 a e) * x5 (ix2 ⟨1024 + e.val, by omega⟩ d)) := by
  have h : out0_6 (F := Ideal) x0 x1 x2 x3 x4 x5 (ix2 a d)
      = k0_pay1 (F := Ideal) (View.ld x2 r0_0) (View.ld x5 r0_1) (View.ld x3 r0_0) (View.ld x5 r0_2) (View.ld x4 r0_3) (View.ld x5 r0_4)
          (View.ld x0 r0_5) (View.ld x1 r0_6) (ix2 a d) := by
    unfold out0_6
    exact congrFun (View.canon_unit_zero (by funext a; match a with | ⟨0, _⟩ => rfl | ⟨1, _⟩ => rfl) _ _) _
  rw [h, pay_at, x_whole, g_whole]
  exact congrArg₂ (· + ·) rfl (congrArg₂ (· * ·) rfl (congrArg₂ (· + ·) (congrArg₂ (· + ·)
    (Finset.sum_congr rfl fun e _ => congrArg₂ (· * ·) (ab_whole _ _ _) (w_a _ _ _))
    (Finset.sum_congr rfl fun e _ => congrArg₂ (· * ·) (ab_whole _ _ _) (w_b _ _ _)))
    (Finset.sum_congr rfl fun e _ => congrArg₂ (· * ·) (c_whole _ _ _) (w_c _ _ _))))

theorem idx : ∀ t : Fin cfg0.N,
    win0_0.index t = ![t.val, 0] ∧ win0_1.index t = ![t.val / 8 * 9 + 5, 0, 0] ∧ win0_2.index t = ![t.val, 0] ∧ win0_3.index t = ![t.val, 0]
      ∧ win0_4.index t = ![t.val, 0] ∧ win0_5.index t = ![0, 0] ∧ win0_6.index t = ![t.val, 0] ∧ t.val < 32 :=
  (by decide +kernel : ∀ t : Fin grid0.N,
    win0_0.index t = ![t.val, 0] ∧ win0_1.index t = ![t.val / 8 * 9 + 5, 0, 0] ∧ win0_2.index t = ![t.val, 0] ∧ win0_3.index t = ![t.val, 0]
      ∧ win0_4.index t = ![t.val, 0] ∧ win0_5.index t = ![0, 0] ∧ win0_6.index t = ![t.val, 0] ∧ t.val < 32)

variable (m : (ℓ : Loc nD τ sig) → Buf (Elt Ideal) ℓ) (c : Dev nD) (t : Fin cfg0.N)

/-- The row of the arrays that row `a` of point `t`'s blocks is. -/
def row (a : Fin 512) : Fin 16384 := ⟨t.val * 512 + a.val, by have := idx t; omega⟩

theorem x_blk (a : Fin 512) (d : Fin 2048) : iblk m c 0 t (ix2 a d) = m ((c : Thread nD τ).loc main_arg0) (ix2 (row t a) d) := by
  unfold row
  blk_ext [iblk, V, idx t]
theorem g_blk (d : Fin 2048) :
    iblk m c 1 t (ix3 0 0 d) = m ((c : Thread nD τ).loc main_arg1) (ix3 ⟨t.val / 8 * 9 + 5, by have := idx t; omega⟩ 0 d) := by
  blk_ext [iblk, V, idx t]
theorem ya_blk (a e : Fin 512) : iblk m c 2 t (ix2 a e) = m ((c : Thread nD τ).loc main_arg2) (ix2 (row t a) e) := by
  unfold row
  blk_ext [iblk, V, idx t]
theorem yb_blk (a e : Fin 512) : iblk m c 3 t (ix2 a e) = m ((c : Thread nD τ).loc main_arg3) (ix2 (row t a) e) := by
  unfold row
  blk_ext [iblk, V, idx t]
theorem yc_blk (a : Fin 512) (e : Fin 1024) : iblk m c 4 t (ix2 a e) = m ((c : Thread nD τ).loc main_arg4) (ix2 (row t a) e) := by
  unfold row
  blk_ext [iblk, V, idx t]
theorem w_blk (e d : Fin 2048) : iblk m c 5 t (ix2 e d) = m ((c : Thread nD τ).loc main_arg5) (ix2 e d) := by
  blk_ext [iblk, V, idx t]

/-- The projection, read off the argument arrays. -/
abbrev projM (r : Fin 16384) (d : Fin 2048) : EReal :=
  projected (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r d

theorem row_eq (a : Fin 512) (d : Fin 2048) :
    out0_6 (F := Ideal) (iblk m c 0 t) (iblk m c 1 t) (iblk m c 2 t) (iblk m c 3 t) (iblk m c 4 t) (iblk m c 5 t) (ix2 a d) = projM m c (row t a) d := by
  have hg : (⟨t.val / 8 * 9 + 5, by have := idx t; omega⟩ : Fin 72) = ⟨(row t a).val / 4096 * 9 + 5, by omega⟩ := Fin.ext (by
    show t.val / 8 * 9 + 5 = (t.val * 512 + a.val) / 4096 * 9 + 5
    omega)
  rw [block_at, projM, projected, mixed_sum, x_blk, g_blk, hg]
  simp only [ya_blk, yb_blk, yc_blk, w_blk]

/-- The result array after the run. -/
theorem result : (dats m 0 c).arrAt 6 cfg0.N = fun i : S16384x2048.Idx => projM m c (i 0) (i 1) := by
  refine (dats m 0 c).arrAt_eq_of_covers 6 _ (by decide +kernel) fun t _ y => ?_
  have e0 : (((cfg0.win 6).blk t).view.emb y 0).val = win0_6.index t 0 * 512 + (y 0).val := by blk_simp
  have e1 : (((cfg0.win 6).blk t).view.emb y 1).val = win0_6.index t 1 * 2048 + (y 1).val := by blk_simp
  have hi := (idx t).2.2.2.2.2.2.1
  have hy : y = ix2 (y 0) (y 1) := by funext k; match k with | ⟨0, _⟩ => rfl | ⟨1, _⟩ => rfl
  have h := row_eq m c t (y 0) (y 1)
  blk_simp
  rw [after0_6]
  refine (congrArg _ hy).trans (h.trans ?_)
  refine congrArg₂ (projM m c) (Fin.ext ?_) (Fin.ext ?_)
  · exact (by rw [hi]; rfl : t.val * 512 + (y 0).val = win0_6.index t 0 * 512 + (y 0).val).trans e0.symm
  · exact (by rw [hi]; show (y 1).val = 0 * 2048 + (y 1).val; omega : (y 1).val = win0_6.index t 1 * 2048 + (y 1).val).trans e1.symm
end

/-! ## The reference -/

section
open Cert.Reference4Ideal Cert.Reference4Ideal.Read

variable (x : (⟨S16384x2048, .f32⟩ : BufTy).Contents (Elt Ideal)) (md : (⟨S72x1x2048, .f32⟩ : BufTy).Contents (Elt Ideal))
  (ya yb : (⟨S16384x512, .bf16⟩ : BufTy).Contents (Elt Ideal)) (yc : (⟨S16384x1024, .bf16⟩ : BufTy).Contents (Elt Ideal))
  (w : (⟨S2048x2048, .bf16⟩ : BufTy).Contents (Elt Ideal))

/-- Row of token `t` of sequence `b`. -/
abbrev tok (b : Fin 4) (t : Fin 4096) : Fin 16384 := ⟨b.val * 4096 + t.val, by omega⟩

theorem mixed_at (b : Fin 4) (t : Fin 4096) (e : Fin 2048) : val_main_v6 (F := Ideal) ya yb yc (ix3 b t e) = mixed ya yb yc (tok b t) e := by
  pointwise [val_main_v6, val_main_v5, val_main_v4, val_main_v3, val_main_v2, val_main_v1, val_main_v0]
  unfold mixed
  split
  · rfl
  · split
    · rw [dif_pos (by omega)]
    · rw [dif_neg (by omega)]
      congr 2

theorem gate_at (b : Fin 4) (d : Fin 2048) : val_main_v8 (F := Ideal) md (ix3 b 0 d) = md (ix3 ⟨b.val * 9 + 5, by omega⟩ 0 d) := by
  pointwise [val_main_v8, val_main_v7]

theorem x_at (b : Fin 4) (t : Fin 4096) (d : Fin 2048) : val_main_v9 (F := Ideal) x (ix3 b t d) = x (ix2 (tok b t) d) := by
  pointwise [val_main_v9]

theorem sum_at (b : Fin 4) (t : Fin 4096) (d : Fin 2048) :
    val_main_v14 (F := Ideal) x md ya yb yc w (ix3 b t d) = projected x md ya yb yc w (tok b t) d := by
  have h : val_main_v14 (F := Ideal) x md ya yb yc w (ix3 b t d)
      = val_main_v9 (F := Ideal) x (ix3 b t d) + val_main_v8 (F := Ideal) md (ix3 b 0 d)
          * ∑ e : Fin 2048, val_main_v6 (F := Ideal) ya yb yc (ix3 b t e) * w (ix2 e d) := by
    pointwise [val_main_v14, val_main_v13, val_main_v12, val_main_v11, val_main_v10]
  have hg : (⟨b.val * 9 + 5, by omega⟩ : Fin 72) = ⟨(tok b t).val / 4096 * 9 + 5, by omega⟩ := Fin.ext (by
    show b.val * 9 + 5 = (b.val * 4096 + t.val) / 4096 * 9 + 5
    omega)
  rw [h, x_at, gate_at, projected, hg]
  simp only [mixed_at]

/-- The reference's result. -/
theorem result_at (r : Fin 16384) (d : Fin 2048) : val_main_v15 (F := Ideal) x md ya yb yc w (ix2 r d) = projected x md ya yb yc w r d := by
  have h : val_main_v15 (F := Ideal) x md ya yb yc w (ix2 r d)
      = val_main_v14 (F := Ideal) x md ya yb yc w (ix3 ⟨r.val / 4096, by omega⟩ ⟨r.val % 4096, by omega⟩ d) := by
    pointwise [val_main_v15]
  rw [h, sum_at]
  exact congrArg (fun z => projected x md ya yb yc w z d) (Fin.ext (by
    show r.val / 4096 * 4096 + r.val % 4096 = r.val
    omega))
end

/-! ## The claim -/

theorem algebraic : Cert.algebraic_Kernel4Ideal_Reference4Ideal := by
  intro m g m' g' _ hargs
  refine ⟨fun c => fun i : Cert.Kernel4Ideal.S16384x2048.Idx => projM m c (i 0) (i 1), ?_, ?_⟩
  · refine (θ_run _ _ _).mono (fun r h c => ?_) (Cert.Kernel4Ideal.Value.run_blocks m g)
    exact ⟨(h c).1.trans (result m c), (h c).2⟩
  · refine (θ_run _ _ _).mono (fun r h c => ?_) (Cert.Reference4Ideal.Value.run m' g')
    refine ⟨(h c).1.trans ?_, (h c).2⟩
    obtain ⟨a0, a1, a2, a3, a4, a5⟩ := hargs c
    rw [Cert.Reference4Ideal.Read.val_main_v15_eq, a0, a1, a2, a3, a4, a5]
    funext i
    have hi : i = ix2 (i 0) (i 1) := by funext k; match k with | ⟨0, _⟩ => rfl | ⟨1, _⟩ => rfl
    rw [hi]
    exact result_at _ _ _ _ _ _ _ _

end Cert.OutProj

end
-- ==== Proof.InProjSpec.lean ====
/-
  The input projections as functions of the argument arrays, written by hand: the functions both programs are shown to
  compute. A row is normalised and modulated as in `FfnSpec`; its projection has 6656 columns, which come in 52 groups of
  128. Groups 12 to 15 are the attention's queries and groups 16 and 17 its keys: these are normalised and rotated by the
  angles of the token's place, and the queries are scaled.
-/
module

public import proofs.«01_k».proof.Proof.FfnSpec

@[expose] public section

noncomputable section

namespace Cert.InProj

open Idealize.ShloMosaic Cert.Ffn

/-- One over the root mean square of 128 numbers, a small constant added under the root. -/
def headInv (f : Fin 128 → EReal) : EReal :=
  Ideal.rsqrt (Ideal.div (∑ k : Fin 128, f k * f k) (Ideal.ofBits .f32 0x43000000#32) + Ideal.ofBits .f32 0x358637BD#32)

/-- A head normalised, with a weight. -/
def normed (g : (⟨2, ![1, 128]⟩ : Shape).Idx → EReal) (f : Fin 128 → EReal) (d : Fin 128) : EReal := f d * headInv f * g (ix2 0 d)

/-- The partner of a column in the rotation: the two quarters of each half change places, one of them negated. -/
def partner (n : Fin 128 → EReal) (d : Fin 128) : EReal :=
  if d.val % 64 < 32 then -(n ⟨(d.val + 32) % 128, by omega⟩) else n ⟨(d.val + 96) % 128, by omega⟩

/-- The partner read off the two halves. -/
theorem partner_halves (n : Fin 128 → EReal) (d : Fin 128) :
    (if h1 : d.val < 64 then if h2 : d.val < 32 then -(n ⟨32 + d.val, by omega⟩) else n ⟨d.val - 32, by omega⟩
      else if h2 : d.val - 64 < 32 then -(n ⟨64 + (32 + (d.val - 64)), by omega⟩) else n ⟨64 + (d.val - 64 - 32), by omega⟩) = partner n d := by
  have hd := d.isLt
  unfold partner
  split
  · split
    · rw [if_pos (by omega)]
      exact congrArg (fun z => -(n z)) (Fin.ext (by simp only []; omega))
    · rw [if_neg (by omega)]
      exact congrArg n (Fin.ext (by simp only []; omega))
  · split
    · rw [if_pos (by omega)]
      exact congrArg (fun z => -(n z)) (Fin.ext (by simp only []; omega))
    · rw [if_neg (by omega)]
      exact congrArg n (Fin.ext (by simp only []; omega))

/-- A head rotated by the angles whose cosine and sine are given. -/
def turned (co si n : Fin 128 → EReal) (d : Fin 128) : EReal := n d * co d + partner n d * si d

section
variable (x : (⟨2, ![16384, 2048]⟩ : Shape).Idx → EReal) (md : (⟨3, ![72, 1, 2048]⟩ : Shape).Idx → EReal)
  (gain : (⟨2, ![1, 2048]⟩ : Shape).Idx → EReal) (w : (⟨2, ![6656, 2048]⟩ : Shape).Idx → EReal)
  (wg : (⟨2, ![32, 2048]⟩ : Shape).Idx → EReal) (qg kg : (⟨2, ![1, 128]⟩ : Shape).Idx → EReal)
  (co si : (⟨2, ![4096, 128]⟩ : Shape).Idx → EReal)

/-- A row's projection. -/
def proj (r : Fin 16384) (e : Fin 6656) : EReal := ∑ k : Fin 2048, hid x md gain 3 r k * w (ix2 e k)

/-- Group `q` of a row's projection. -/
def group (r : Fin 16384) (q : Fin 52) (d : Fin 128) : EReal := proj x md gain w r ⟨q.val * 128 + d.val, by omega⟩

/-- Group `q`, normalised and rotated by the angles of the row's token. -/
def head (g : (⟨2, ![1, 128]⟩ : Shape).Idx → EReal) (r : Fin 16384) (q : Fin 52) (d : Fin 128) : EReal :=
  turned (fun d => co (ix2 ⟨r.val % 4096, by omega⟩ d)) (fun d => si (ix2 ⟨r.val % 4096, by omega⟩ d)) (normed g (group x md gain w r q)) d

/-- The first result: column `d` of group `q` of a row. -/
def cols (r : Fin 16384) (q : Fin 52) (d : Fin 128) : EReal :=
  if q.val < 12 then group x md gain w r q d
  else if q.val < 16 then head x md gain w co si qg r q d * Ideal.ofBits .f32 0x3DB504F3#32
  else if q.val < 18 then head x md gain w co si kg r q d
  else group x md gain w r q d

/-- The second result: the gates of a row. -/
def gates (j : Fin 32) (r : Fin 16384) : EReal := ∑ k : Fin 2048, hid x md gain 3 r k * wg (ix2 j k)

end

end Cert.InProj

end
-- ==== Proof.InProjBody.lean ====
/-
What one grid point of the input projections' kernel leaves in its buffers.

The first point of a row block normalises and modulates the rows, keeps them in the scratch buffer, stores the gates'
projections, and stores the first half of the columns, with the queries' and keys' columns normalised and rotated; the
second point projects the kept rows on the second half of the columns.
-/
module

public import proofs.«01_k».proof.Proof.Gen.Kernel5Ideal.Frame
public import proofs.«01_k».proof.Proof.Gen.Kernel5Ideal.Skeleton
public import Idealize.ShloMosaic.Lib.Claim

@[expose] public section

set_option maxRecDepth 16384

noncomputable section

namespace Cert.Kernel5Ideal.InProj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The rectangles loaded and stored -/

abbrev wX : Rect S512x2048 := Rect.unit (s := S512x2048) ![0, 0] S512x2048.size inb_S512x2048_S512x2048_0_0
abbrev wM : Rect S1x1x2048 := Rect.unit (s := S1x1x2048) ![0, 0, 0] S1x1x2048.size inb_S1x1x2048_S1x1x2048_0_0_0
abbrev wN : Rect S1x2048 := Rect.unit (s := S1x2048) ![0, 0] S1x2048.size inb_S1x2048_S1x2048_0_0
abbrev wW : Rect S3328x2048 := Rect.unit (s := S3328x2048) ![0, 0] S3328x2048.size inb_S3328x2048_S3328x2048_0_0
abbrev wG : Rect S32x2048 := Rect.unit (s := S32x2048) ![0, 0] S32x2048.size inb_S32x2048_S32x2048_0_0
abbrev wV : Rect S1x128 := Rect.unit (s := S1x128) ![0, 0] S1x128.size inb_S1x128_S1x128_0_0
abbrev wT : Rect S512x128 := Rect.unit (s := S512x128) ![0, 0] S512x128.size inb_S512x128_S512x128_0_0
abbrev wO : Rect S32x512 := Rect.unit (s := S32x512) ![0, 0] S32x512.size inb_S32x512_S32x512_0_0
abbrev wP : Rect S512x3328 := Rect.unit (s := S512x3328) ![0, 0] S512x3328.size inb_S512x3328_S512x3328_0_0
abbrev c0 : Rect S512x3328 := Rect.unit (s := S512x3328) ![0, 0] S512x1536.size inb_S512x3328_S512x1536_0_0
abbrev c1 : Rect S512x3328 := Rect.unit (s := S512x3328) ![0, 1536] S512x128.size inb_S512x3328_S512x128_0_1536
abbrev c2 : Rect S512x3328 := Rect.unit (s := S512x3328) ![0, 1664] S512x128.size inb_S512x3328_S512x128_0_1664
abbrev c3 : Rect S512x3328 := Rect.unit (s := S512x3328) ![0, 1792] S512x128.size inb_S512x3328_S512x128_0_1792
abbrev c4 : Rect S512x3328 := Rect.unit (s := S512x3328) ![0, 1920] S512x128.size inb_S512x3328_S512x128_0_1920
abbrev c5 : Rect S512x3328 := Rect.unit (s := S512x3328) ![0, 2048] S512x128.size inb_S512x3328_S512x128_0_2048
abbrev c6 : Rect S512x3328 := Rect.unit (s := S512x3328) ![0, 2176] S512x128.size inb_S512x3328_S512x128_0_2176
abbrev c7 : Rect S512x3328 := Rect.unit (s := S512x3328) ![0, 2304] S512x1024.size inb_S512x3328_S512x1024_0_2304

/-! ## The blocks left -/

/-- The rows projected on the first half of the columns. -/
def accBlock (x0 : Vec F S512x2048 .f32) (x1 x2 : Vec F S1x1x2048 .f32) (x3 : Vec F S1x2048 .f32) (x4 : Vec F S3328x2048 .bf16) : FVec F S512x3328 .f32 :=
  k0_pay7 (View.ld x0 wX) (View.ld x3 wN) (View.ld x2 wM) (View.ld x1 wM) (View.ld x4 wW)

/-- The rows normalised and modulated. -/
def rowsBlock (x0 : Vec F S512x2048 .f32) (x1 x2 : Vec F S1x1x2048 .f32) (x3 : Vec F S1x2048 .f32) : Vec F S512x2048 .bf16 :=
  View.canon [⟨wX, k0_pay5 (View.ld x0 wX) (View.ld x3 wN) (View.ld x2 wM) (View.ld x1 wM)⟩]

/-- The gates of the rows. -/
def gatesBlock (x0 : Vec F S512x2048 .f32) (x1 x2 : Vec F S1x1x2048 .f32) (x3 : Vec F S1x2048 .f32) (x5 : Vec F S32x2048 .f32) : Vec F S32x512 .f32 :=
  View.canon [⟨wO, k0_pay6 (View.ld x0 wX) (View.ld x3 wN) (View.ld x2 wM) (View.ld x1 wM) (View.ld x5 wG)⟩]

/-- The first half of the columns from the projected rows `a`: four query heads and two key heads normalised and rotated. -/
def firstHalf (a : FVec F S512x3328 .f32) (x6 x7 : Vec F S1x128 .f32) (x8 x9 x10 : Vec F S512x128 .f32) : Vec F S512x3328 .bf16 :=
  View.canon [⟨c7, k0_pay2 a⟩,
    ⟨c6, k0_pay1 a (View.ld x7 wV) (View.ld x8 wT) (View.ld x9 wT) (View.ld x10 wT)⟩,
    ⟨c5, k0_pay20 a (View.ld x7 wV) (View.ld x8 wT) (View.ld x9 wT) (View.ld x10 wT)⟩,
    ⟨c4, k0_pay19 (k0_pay16 a (View.ld x6 wV)) (k0_pay17 (View.ld x8 wT)) (k0_pay18 (View.ld x9 wT)) (View.ld x10 wT)⟩,
    ⟨c3, k0_pay15 (k0_pay13 a) (k0_pay14 (View.ld x6 wV)) (View.ld x8 wT) (View.ld x9 wT) (View.ld x10 wT)⟩,
    ⟨c2, k0_pay12 (k0_pay10 a) (View.ld x6 wV) (k0_pay11 a) (View.ld x8 wT) (View.ld x9 wT) (View.ld x10 wT)⟩,
    ⟨c1, k0_pay9 a (View.ld x6 wV) (View.ld x8 wT) (View.ld x9 wT) (View.ld x10 wT)⟩,
    ⟨c0, k0_pay8 a⟩]

/-- The second half of the columns from the kept rows. -/
def secondHalf (xs : Vec F S512x2048 .bf16) (x4 : Vec F S3328x2048 .bf16) : Vec F S512x3328 .bf16 :=
  View.canon [⟨wP, k0_pay3 (View.ld xs wX) (View.ld x4 wW)⟩]

theorem cover_first (p7 : Vec F S512x1024 .bf16) (p6 p5 p4 p3 p2 p1 : Vec F S512x128 .bf16) (p0 : Vec F S512x1536 .bf16) (y : S512x3328.Idx) :
    ∃ pc ∈ ([⟨c7, p7⟩, ⟨c6, p6⟩, ⟨c5, p5⟩, ⟨c4, p4⟩, ⟨c3, p3⟩, ⟨c2, p2⟩, ⟨c1, p1⟩, ⟨c0, p0⟩] : List (View.Piece (Elt F) S512x3328 .bf16)), y ∈ pc.1.set :=
  View.cover_of_tiledBy [⟨c7, p7⟩, ⟨c6, p6⟩, ⟨c5, p5⟩, ⟨c4, p4⟩, ⟨c3, p3⟩, ⟨c2, p2⟩, ⟨c1, p1⟩, ⟨c0, p0⟩] ![512, 128] (by sl_kernel_rfl) y
theorem cover_rows (p : Vec F S512x2048 .bf16) (y : S512x2048.Idx) : ∃ pc ∈ ([⟨wX, p⟩] : List (View.Piece (Elt F) S512x2048 .bf16)), y ∈ pc.1.set :=
  View.cover_of_tiled [⟨wX, p⟩] S512x2048.size (by rfl) y
theorem cover_gates (p : Vec F S32x512 .f32) (y : S32x512.Idx) : ∃ pc ∈ ([⟨wO, p⟩] : List (View.Piece (Elt F) S32x512 .f32)), y ∈ pc.1.set :=
  View.cover_of_tiled [⟨wO, p⟩] S32x512.size (by rfl) y
theorem cover_second (p : Vec F S512x3328 .bf16) (y : S512x3328.Idx) : ∃ pc ∈ ([⟨wP, p⟩] : List (View.Piece (Elt F) S512x3328 .bf16)), y ∈ pc.1.set :=
  View.cover_of_tiled [⟨wP, p⟩] S512x3328.size (by rfl) y

/-! ## The two points -/

variable (c : Dev nD) (i : grid0.Coords)
  (arg2 : Memref sig .tc .vmem S512x2048 .f32) (harg2 : arg2.IsWhole) (arg3 : Memref sig .tc .vmem S1x1x2048 .f32) (harg3 : arg3.IsWhole) (arg4 :
  Memref sig .tc .vmem S1x1x2048 .f32) (harg4 : arg4.IsWhole) (arg5 : Memref sig .tc .vmem S1x2048 .f32) (harg5 : arg5.IsWhole) (arg6 : Memref sig .tc
  .vmem S3328x2048 .bf16) (harg6 : arg6.IsWhole) (arg7 : Memref sig .tc .vmem S32x2048 .f32) (harg7 : arg7.IsWhole) (arg8 : Memref sig .tc .vmem
  S1x128 .f32) (harg8 : arg8.IsWhole) (arg9 : Memref sig .tc .vmem S1x128 .f32) (harg9 : arg9.IsWhole) (arg10 : Memref sig .tc .vmem S512x128 .f32)
  (harg10 : arg10.IsWhole) (arg11 : Memref sig .tc .vmem S512x128 .f32) (harg11 : arg11.IsWhole) (arg12 : Memref sig .tc .vmem S512x128 .f32) (harg12
  : arg12.IsWhole) (arg13 : Memref sig .tc .vmem S512x3328 .bf16) (harg13 : arg13.IsWhole) (arg14 : Memref sig .tc .vmem S32x512 .f32) (harg14 :
  arg14.IsWhole) (arg15 : Memref sig .tc .vmem S512x2048 .bf16) (harg15 : arg15.IsWhole)

set_option maxHeartbeats 2000000 in
/-- The first point of a row block: what the buffers held before does not matter. -/
theorem body_first (hc0 : k0_cond1 i = 1#1) (hc1 : ¬ k0_cond2 i = 1#1)
    (x0 : Vec F S512x2048 .f32) (x1 : Vec F S1x1x2048 .f32) (x2 : Vec F S1x1x2048 .f32) (x3 : Vec F S1x2048 .f32) (x4 : Vec F S3328x2048 .bf16) (x5 :
    Vec F S32x2048 .f32) (x6 : Vec F S1x128 .f32) (x7 : Vec F S1x128 .f32) (x8 : Vec F S512x128 .f32) (x9 : Vec F S512x128 .f32) (x10 : Vec F S512x128
    .f32) (xp : Vec F S512x3328 .bf16) (xg : Vec F S32x512 .f32) (xs : Vec F S512x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xp ∗ owns (c : Thread nD τ) arg14 fullShare xg ∗ owns (c : Thread nD τ) arg15 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (firstHalf (accBlock x0 x1 x2 x3 x4) x6 x7 x8 x9 x10) ∗ owns (c : Thread nD τ) arg14 fullShare (gatesBlock x0 x1 x2 x3 x5) ∗ owns (c : Thread nD τ) arg15 fullShare (rowsBlock x0 x1 x2 x3)) -∗ K ⟨⟩))
      ⊢ wp frame (wpE (defs₀ (F := F)) Variants.none c none) E (cc0_mixer_in_proj i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_mixer_in_proj_eq_skeleton]; unfold cc0_mixer_in_proj_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fp, %hfp, HP⟩, ⟨%fg, %hfg, HG⟩, ⟨%fs, %hfs, HS⟩, Hk⟩
  subst hf0 hf1 hf2 hf3 hf4 hf5 hf6 hf7 hf8 hf9 hf10 hfp hfg hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [HP]
  · iexists _; isplitr
    swap; · iexact HP
    ipureintro
    refine (View.read_writes_eq_canon _ _ _ (cover_first _ _ _ _ _ _ _ _)).trans ?_
    rfl
  isplitl [HG]
  · iexists _; isplitr
    swap; · iexact HG
    ipureintro
    refine (View.read_writes_eq_canon _ _ _ (cover_gates _)).trans ?_
    rfl
  iexists _; isplitr
  swap; · iexact HS
  ipureintro
  refine (View.read_writes_eq_canon _ _ _ (cover_rows _)).trans ?_
  rfl

set_option maxHeartbeats 2000000 in
/-- The second point: the gates and the kept rows stay. -/
theorem body_second (hc0 : ¬ k0_cond1 i = 1#1) (hc1 : k0_cond2 i = 1#1)
    (x0 : Vec F S512x2048 .f32) (x1 : Vec F S1x1x2048 .f32) (x2 : Vec F S1x1x2048 .f32) (x3 : Vec F S1x2048 .f32) (x4 : Vec F S3328x2048 .bf16) (x5 :
    Vec F S32x2048 .f32) (x6 : Vec F S1x128 .f32) (x7 : Vec F S1x128 .f32) (x8 : Vec F S512x128 .f32) (x9 : Vec F S512x128 .f32) (x10 : Vec F S512x128
    .f32) (xp : Vec F S512x3328 .bf16) (xg : Vec F S32x512 .f32) (xs : Vec F S512x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xp ∗ owns (c : Thread nD τ) arg14 fullShare xg ∗ owns (c : Thread nD τ) arg15 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (secondHalf xs x4) ∗ owns (c : Thread nD τ) arg14 fullShare xg ∗ owns (c : Thread nD τ) arg15 fullShare xs) -∗ K ⟨⟩))
      ⊢ wp frame (wpE (defs₀ (F := F)) Variants.none c none) E (cc0_mixer_in_proj i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_mixer_in_proj_eq_skeleton]; unfold cc0_mixer_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fp, %hfp, HP⟩, ⟨%fg, %hfg, HG⟩, ⟨%fs, %hfs, HS⟩, Hk⟩
  subst hf0 hf1 hf2 hf3 hf4 hf5 hf6 hf7 hf8 hf9 hf10 hfp hfg hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [HP]
  · iexists _; isplitr
    swap; · iexact HP
    ipureintro
    refine (View.read_writes_eq_canon _ _ _ (cover_second _)).trans ?_
    rfl
  isplitl [HG]
  · iexists fg; isplitr; · ipureintro; rfl
    iexact HG
  iexists fs; isplitr; · ipureintro; rfl
  iexact HS

end Cert.Kernel5Ideal.InProj
-- ==== Proof.InProjArith.lean ====
/-
  The arithmetic of the input projections' kernel, element by element: what one grid point stores, in the words of
  `InProjSpec`.
-/
module

public import proofs.«01_k».proof.Proof.InProjSpec
public import proofs.«01_k».proof.Proof.InProjBody
public import Idealize.ShloMosaic.Lib.Pointwise
public import Idealize.ShloMosaic.Lib.ValueIdx
public import Idealize.ShloMosaic.Lib.Pipeline.Value
public import Idealize.ShloMosaic.Lib.Pipeline.ValueKit

@[expose] public section

set_option maxRecDepth 16384

noncomputable section

namespace Cert.Kernel5Ideal.InProj

open Cert.Kernel5Ideal Cert.Kernel5Ideal.Gen Idealize.ShloMosaic Idealize.ShloMosaic.TcCoe Cert.Ffn Cert.InProj

/-! ## A head -/

/-- A head rotated as the kernel does it: two turned copies, each with its own table. -/
def rolled (co lo hi n : Fin 128 → EReal) (d : Fin 128) : EReal :=
  n d * co d + n ⟨(d.val + 128 - 96) % 128, by omega⟩ * lo d + n ⟨(d.val + 128 - 32) % 128, by omega⟩ * hi d

/-- One of the two tables is zero, so the sum is the rotation. -/
theorem rolled_eq (co si lo hi n : Fin 128 → EReal) (d : Fin 128)
    (hlo : lo d = if d.val % 64 < 32 then -(si d) else 0) (hhi : hi d = if d.val % 64 < 32 then 0 else si d) :
    rolled co lo hi n d = turned co si n d := by
  unfold rolled turned partner
  have e1 : d.val + 128 - 96 = d.val + 32 := by omega
  have e2 : d.val + 128 - 32 = d.val + 96 := by omega
  simp only [e1, e2, hlo, hhi]
  split
  · rw [mul_zero, add_zero, mul_neg, neg_mul]
  · rw [mul_zero, add_zero]

section
variable (a : FVec Ideal S512x3328 .f32) (g : Vec Ideal S1x128 .f32) (co lo hi : Vec Ideal S512x128 .f32)

/-- The 128 columns of row `y` from `o` on. -/
def lanes (y : Fin 512) (o : ℕ) (ho : o + 128 ≤ 3328) (d : Fin 128) : EReal := a (ix2 y ⟨o + d.val, by omega⟩)

/-- Those columns normalised and rotated. -/
def rope (y : Fin 512) (o : ℕ) (ho : o + 128 ≤ 3328) (d : Fin 128) : EReal :=
  rolled (fun d => co (ix2 y d)) (fun d => lo (ix2 y d)) (fun d => hi (ix2 y d)) (normed g (lanes a y o ho)) d

theorem rope_congr (y : Fin 512) (o o' : ℕ) (ho : o + 128 ≤ 3328) (ho' : o' + 128 ≤ 3328) (h : o = o') (d : Fin 128) :
    rope a g co lo hi y o ho d = rope a g co lo hi y o' ho' d := by
  subst h
  rfl

theorem head1 (y : Fin 512) (d : Fin 128) :
    k0_pay9 (F := Ideal) a g co lo hi (ix2 y d) = rope a g co lo hi y 1536 (by decide) d * Ideal.ofBits .f32 0x3DB504F3#32 := by
  pointwise [k0_pay9, rope, rolled, normed, headInv, lanes]

theorem head2 (y : Fin 512) (d : Fin 128) :
    k0_pay12 (F := Ideal) (k0_pay10 a) g (k0_pay11 a) co lo hi (ix2 y d) = rope a g co lo hi y 1664 (by decide) d * Ideal.ofBits .f32 0x3DB504F3#32 := by
  pointwise [k0_pay12, k0_pay10, k0_pay11, rope, rolled, normed, headInv, lanes]

theorem head3 (y : Fin 512) (d : Fin 128) :
    k0_pay15 (F := Ideal) (k0_pay13 a) (k0_pay14 g) co lo hi (ix2 y d) = rope a g co lo hi y 1792 (by decide) d * Ideal.ofBits .f32 0x3DB504F3#32 := by
  pointwise [k0_pay15, k0_pay13, k0_pay14, rope, rolled, normed, headInv, lanes]

theorem head4 (y : Fin 512) (d : Fin 128) :
    k0_pay19 (F := Ideal) (k0_pay16 a g) (k0_pay17 co) (k0_pay18 lo) hi (ix2 y d) = rope a g co lo hi y 1920 (by decide) d * Ideal.ofBits .f32 0x3DB504F3#32 := by
  pointwise [k0_pay19, k0_pay16, k0_pay17, k0_pay18, rope, rolled, normed, headInv, lanes]

theorem head5 (y : Fin 512) (d : Fin 128) :
    k0_pay20 (F := Ideal) a g co lo hi (ix2 y d) = rope a g co lo hi y 2048 (by decide) d := by
  pointwise [k0_pay20, rope, rolled, normed, headInv, lanes]

theorem head6 (y : Fin 512) (d : Fin 128) :
    k0_pay1 (F := Ideal) a g co lo hi (ix2 y d) = rope a g co lo hi y 2176 (by decide) d := by
  pointwise [k0_pay1, rope, rolled, normed, headInv, lanes]

theorem plain_low (y : Fin 512) (e : Fin 1536) : k0_pay8 (F := Ideal) a (ix2 y e) = a (ix2 y ⟨e.val, by omega⟩) := by
  pointwise [k0_pay8]
theorem plain_high (y : Fin 512) (e : Fin 1024) : k0_pay2 (F := Ideal) a (ix2 y e) = a (ix2 y ⟨2304 + e.val, by omega⟩) := by
  pointwise [k0_pay2]
end

/-! ## Rows, projections and gates -/

section
variable (x : Vec Ideal S512x2048 .f32) (gain : Vec Ideal S1x2048 .f32) (sc sh : Vec Ideal S1x1x2048 .f32)

/-- A row of the block, normalised and modulated. -/
def rowOf (y : Fin 512) (k : Fin 2048) : EReal :=
  x (ix2 y k) * rmsInv (fun k => x (ix2 y k)) * gain (ix2 0 k) * (1 + sc (ix3 0 0 k)) + sh (ix3 0 0 k)

theorem row_at (y : Fin 512) (k : Fin 2048) : k0_pay4 (F := Ideal) x gain sc sh (ix2 y k) = rowOf x gain sc sh y k := by
  pointwise [k0_pay4, rowOf, rmsInv]
theorem kept_at (y : Fin 512) (k : Fin 2048) : k0_pay5 (F := Ideal) x gain sc sh (ix2 y k) = rowOf x gain sc sh y k := by
  rw [← row_at]
  pointwise [k0_pay5]
theorem acc_at (w : Vec Ideal S3328x2048 .bf16) (y : Fin 512) (e : Fin 3328) :
    k0_pay7 (F := Ideal) x gain sc sh w (ix2 y e) = ∑ k : Fin 2048, rowOf x gain sc sh y k * w (ix2 e k) := by
  simp only [← row_at]
  pointwise [k0_pay7]
theorem gate_at (wg : Vec Ideal S32x2048 .f32) (j : Fin 32) (y : Fin 512) :
    k0_pay6 (F := Ideal) x gain sc sh wg (ix2 j y) = ∑ k : Fin 2048, rowOf x gain sc sh y k * wg (ix2 j k) := by
  have h : k0_pay6 (F := Ideal) x gain sc sh wg (ix2 j y) = ∑ k : Fin 2048, wg (ix2 j k) * k0_pay4 (F := Ideal) x gain sc sh (ix2 y k) := by
    pointwise [k0_pay6]
  rw [h]
  exact Finset.sum_congr rfl fun k _ => (mul_comm _ _).trans (congrArg (· * wg (ix2 j k)) (row_at x gain sc sh y k))
theorem second_at (h : Vec Ideal S512x2048 .bf16) (w : Vec Ideal S3328x2048 .bf16) (y : Fin 512) (e : Fin 3328) :
    k0_pay3 (F := Ideal) h w (ix2 y e) = ∑ k : Fin 2048, h (ix2 y k) * w (ix2 e k) := by
  pointwise [k0_pay3]
end

/-! ## Whole-buffer loads and stores -/

theorem loadX (v : Vec Ideal S512x2048 .f32) : View.ld v wX = v := View.ld_unit_zero (by funext a; match a with | ⟨0, _⟩ => rfl | ⟨1, _⟩ => rfl) _ _
theorem loadN (v : Vec Ideal S1x2048 .f32) : View.ld v wN = v := View.ld_unit_zero (by funext a; match a with | ⟨0, _⟩ => rfl | ⟨1, _⟩ => rfl) _ _
theorem loadG (v : Vec Ideal S32x2048 .f32) : View.ld v wG = v := View.ld_unit_zero (by funext a; match a with | ⟨0, _⟩ => rfl | ⟨1, _⟩ => rfl) _ _
theorem loadW (v : Vec Ideal S3328x2048 .bf16) : View.ld v wW = v := View.ld_unit_zero (by funext a; match a with | ⟨0, _⟩ => rfl | ⟨1, _⟩ => rfl) _ _
theorem loadV (v : Vec Ideal S1x128 .f32) : View.ld v wV = v := View.ld_unit_zero (by funext a; match a with | ⟨0, _⟩ => rfl | ⟨1, _⟩ => rfl) _ _
theorem loadT (v : Vec Ideal S512x128 .f32) : View.ld v wT = v := View.ld_unit_zero (by funext a; match a with | ⟨0, _⟩ => rfl | ⟨1, _⟩ => rfl) _ _
theorem loadK (v : Vec Ideal S512x2048 .bf16) : View.ld v wX = v := View.ld_unit_zero (by funext a; match a with | ⟨0, _⟩ => rfl | ⟨1, _⟩ => rfl) _ _
theorem loadM (v : Vec Ideal S1x1x2048 .f32) : View.ld v wM = v :=
  View.ld_unit_zero (by funext a; match a with | ⟨0, _⟩ => rfl | ⟨1, _⟩ => rfl | ⟨2, _⟩ => rfl) _ _

/-! ## The blocks -/

section
variable (x0 : Vec Ideal S512x2048 .f32) (x1 x2 : Vec Ideal S1x1x2048 .f32) (x3 : Vec Ideal S1x2048 .f32)

theorem accBlock_at (x4 : Vec Ideal S3328x2048 .bf16) (y : Fin 512) (e : Fin 3328) :
    accBlock (F := Ideal) x0 x1 x2 x3 x4 (ix2 y e) = ∑ k : Fin 2048, rowOf x0 x3 x2 x1 y k * x4 (ix2 e k) := by
  unfold accBlock
  rw [loadX, loadN, loadM, loadM, loadW, acc_at]

theorem rowsBlock_at (y : Fin 512) (k : Fin 2048) : rowsBlock (F := Ideal) x0 x1 x2 x3 (ix2 y k) = rowOf x0 x3 x2 x1 y k := by
  unfold rowsBlock
  refine (congrFun (View.canon_unit_zero (by funext a; match a with | ⟨0, _⟩ => rfl | ⟨1, _⟩ => rfl) _ _) _).trans ?_
  rw [loadX, loadN, loadM, loadM, kept_at]

theorem gatesBlock_at (x5 : Vec Ideal S32x2048 .f32) (j : Fin 32) (y : Fin 512) :
    gatesBlock (F := Ideal) x0 x1 x2 x3 x5 (ix2 j y) = ∑ k : Fin 2048, rowOf x0 x3 x2 x1 y k * x5 (ix2 j k) := by
  unfold gatesBlock
  refine (congrFun (View.canon_unit_zero (by funext a; match a with | ⟨0, _⟩ => rfl | ⟨1, _⟩ => rfl) _ _) _).trans ?_
  rw [loadX, loadN, loadM, loadM, loadG, gate_at]

theorem secondHalf_at (xs : Vec Ideal S512x2048 .bf16) (x4 : Vec Ideal S3328x2048 .bf16) (y : Fin 512) (e : Fin 3328) :
    secondHalf (F := Ideal) xs x4 (ix2 y e) = ∑ k : Fin 2048, xs (ix2 y k) * x4 (ix2 e k) := by
  unfold secondHalf
  refine (congrFun (View.canon_unit_zero (by funext a; match a with | ⟨0, _⟩ => rfl | ⟨1, _⟩ => rfl) _ _) _).trans ?_
  rw [loadK, loadW, second_at]
end

/-- Column `d` of group `q` of the first half. -/
theorem firstHalf_at (a : FVec Ideal S512x3328 .f32) (x6 x7 : Vec Ideal S1x128 .f32) (x8 x9 x10 : Vec Ideal S512x128 .f32)
    (y : Fin 512) (q : Fin 26) (d : Fin 128) :
    firstHalf (F := Ideal) a x6 x7 x8 x9 x10 (ix2 y ⟨q.val * 128 + d.val, by omega⟩)
      = if q.val < 12 then a (ix2 y ⟨q.val * 128 + d.val, by omega⟩)
        else if q.val < 16 then rope a x6 x8 x9 x10 y (q.val * 128) (by omega) d * Ideal.ofBits .f32 0x3DB504F3#32
        else if q.val < 18 then rope a x7 x8 x9 x10 y (q.val * 128) (by omega) d
        else a (ix2 y ⟨q.val * 128 + d.val, by omega⟩) := by
  unfold firstHalf
  simp only [loadV, loadT]
  canon_tiles x h using cover_first _ _ _ _ _ _ _ _ _
  · have h0 : y.val = (x 0).val := h0
    have h1 : q.val * 128 + d.val = 2304 + (x 1).val := h1
    obtain ⟨r, e, rfl⟩ : ∃ r e, x = ix2 r e := ⟨x 0, x 1, by funext k; match k with | ⟨0, _⟩ => rfl | ⟨1, _⟩ => rfl⟩
    have h1 : q.val * 128 + d.val = 2304 + e.val := h1
    obtain rfl : y = r := Fin.ext h0
    have hd := d.isLt
    have he := e.isLt
    rw [plain_high, if_neg (by omega), if_neg (by omega), if_neg (by omega)]
    exact congrArg (fun z => a (ix2 y z)) (Fin.ext h1.symm)
  · have h0 : y.val = (x 0).val := h0
    have h1 : q.val * 128 + d.val = 2176 + (x 1).val := h1
    obtain ⟨r, e, rfl⟩ : ∃ r e, x = ix2 r e := ⟨x 0, x 1, by funext k; match k with | ⟨0, _⟩ => rfl | ⟨1, _⟩ => rfl⟩
    have h1 : q.val * 128 + d.val = 2176 + e.val := h1
    obtain rfl : y = r := Fin.ext h0
    have hd := d.isLt
    have he := e.isLt
    obtain rfl : d = e := Fin.ext (by omega)
    rw [head6, if_neg (by omega), if_neg (by omega), if_pos (by omega)]
    exact rope_congr a x7 x8 x9 x10 y _ _ _ _ (by omega) d
  · have h0 : y.val = (x 0).val := h0
    have h1 : q.val * 128 + d.val = 2048 + (x 1).val := h1
    obtain ⟨r, e, rfl⟩ : ∃ r e, x = ix2 r e := ⟨x 0, x 1, by funext k; match k with | ⟨0, _⟩ => rfl | ⟨1, _⟩ => rfl⟩
    have h1 : q.val * 128 + d.val = 2048 + e.val := h1
    obtain rfl : y = r := Fin.ext h0
    have hd := d.isLt
    have he := e.isLt
    obtain rfl : d = e := Fin.ext (by omega)
    rw [head5, if_neg (by omega), if_neg (by omega), if_pos (by omega)]
    exact rope_congr a x7 x8 x9 x10 y _ _ _ _ (by omega) d
  · have h0 : y.val = (x 0).val := h0
    have h1 : q.val * 128 + d.val = 1920 + (x 1).val := h1
    obtain ⟨r, e, rfl⟩ : ∃ r e, x = ix2 r e := ⟨x 0, x 1, by funext k; match k with | ⟨0, _⟩ => rfl | ⟨1, _⟩ => rfl⟩
    have h1 : q.val * 128 + d.val = 1920 + e.val := h1
    obtain rfl : y = r := Fin.ext h0
    have hd := d.isLt
    have he := e.isLt
    obtain rfl : d = e := Fin.ext (by omega)
    rw [head4, if_neg (by omega), if_pos (by omega)]
    exact congrArg (· * Ideal.ofBits .f32 0x3DB504F3#32) (rope_congr a x6 x8 x9 x10 y _ _ _ _ (by omega) d)
  · have h0 : y.val = (x 0).val := h0
    have h1 : q.val * 128 + d.val = 1792 + (x 1).val := h1
    obtain ⟨r, e, rfl⟩ : ∃ r e, x = ix2 r e := ⟨x 0, x 1, by funext k; match k with | ⟨0, _⟩ => rfl | ⟨1, _⟩ => rfl⟩
    have h1 : q.val * 128 + d.val = 1792 + e.val := h1
    obtain rfl : y = r := Fin.ext h0
    have hd := d.isLt
    have he := e.isLt
    obtain rfl : d = e := Fin.ext (by omega)
    rw [head3, if_neg (by omega), if_pos (by omega)]
    exact congrArg (· * Ideal.ofBits .f32 0x3DB504F3#32) (rope_congr a x6 x8 x9 x10 y _ _ _ _ (by omega) d)
  · have h0 : y.val = (x 0).val := h0
    have h1 : q.val * 128 + d.val = 1664 + (x 1).val := h1
    obtain ⟨r, e, rfl⟩ : ∃ r e, x = ix2 r e := ⟨x 0, x 1, by funext k; match k with | ⟨0, _⟩ => rfl | ⟨1, _⟩ => rfl⟩
    have h1 : q.val * 128 + d.val = 1664 + e.val := h1
    obtain rfl : y = r := Fin.ext h0
    have hd := d.isLt
    have he := e.isLt
    obtain rfl : d = e := Fin.ext (by omega)
    rw [head2, if_neg (by omega), if_pos (by omega)]
    exact congrArg (· * Ideal.ofBits .f32 0x3DB504F3#32) (rope_congr a x6 x8 x9 x10 y _ _ _ _ (by omega) d)
  · have h0 : y.val = (x 0).val := h0
    have h1 : q.val * 128 + d.val = 1536 + (x 1).val := h1
    obtain ⟨r, e, rfl⟩ : ∃ r e, x = ix2 r e := ⟨x 0, x 1, by funext k; match k with | ⟨0, _⟩ => rfl | ⟨1, _⟩ => rfl⟩
    have h1 : q.val * 128 + d.val = 1536 + e.val := h1
    obtain rfl : y = r := Fin.ext h0
    have hd := d.isLt
    have he := e.isLt
    obtain rfl : d = e := Fin.ext (by omega)
    rw [head1, if_neg (by omega), if_pos (by omega)]
    exact congrArg (· * Ideal.ofBits .f32 0x3DB504F3#32) (rope_congr a x6 x8 x9 x10 y _ _ _ _ (by omega) d)
  · have h0 : y.val = (x 0).val := h0
    have h1 : q.val * 128 + d.val = (x 1).val := h1
    obtain ⟨r, e, rfl⟩ : ∃ r e, x = ix2 r e := ⟨x 0, x 1, by funext k; match k with | ⟨0, _⟩ => rfl | ⟨1, _⟩ => rfl⟩
    have h1 : q.val * 128 + d.val = e.val := h1
    obtain rfl : y = r := Fin.ext h0
    have hd := d.isLt
    have he := e.isLt
    rw [plain_low, if_pos (by omega)]
    exact congrArg (fun z => a (ix2 y z)) (Fin.ext h1.symm)

end Cert.Kernel5Ideal.InProj

end
-- ==== Proof.InProjFrame.lean ====
/-
The run of the input projections' kernel: what the two results' blocks and the kept rows hold after every grid point, the
body's obligation at every point, and from it the frame.

Point `t` is half `t % 2` of the columns for block `t / 2` of the rows.
-/
module

public import proofs.«01_k».proof.Proof.InProjBody

@[expose] public section

set_option maxRecDepth 16384

noncomputable section

namespace Cert.Kernel5Ideal.InProj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem half_first : ∀ t : Fin cfg0.N, k0_cond1 (grid0.coords t) = 1#1 ↔ t.val % 2 = 0 :=
  (by decide +kernel : ∀ t : Fin grid0.N, k0_cond1 (grid0.coords t) = 1#1 ↔ t.val % 2 = 0)

theorem half_second : ∀ t : Fin cfg0.N, k0_cond2 (grid0.coords t) = 1#1 ↔ ¬ t.val % 2 = 0 :=
  (by decide +kernel : ∀ t : Fin grid0.N, k0_cond2 (grid0.coords t) = 1#1 ↔ ¬ t.val % 2 = 0)

/-- Every point writes its columns; -/
theorem cols_written : ∀ t : Fin cfg0.N, cfg0.idle 11 (cfg0.grid.coords t) = false :=
  (by decide +kernel : ∀ t : Fin grid0.N, idle0 11 (grid0.coords t) = false)

/-- the gates are written at the first of a pair of points, -/
theorem gates_written : ∀ t : Fin cfg0.N, t.val % 2 = 0 → cfg0.idle 12 (cfg0.grid.coords t) = false :=
  (by decide +kernel : ∀ t : Fin grid0.N, t.val % 2 = 0 → idle0 12 (grid0.coords t) = false)

/-- and nothing of theirs at the second. -/
theorem gates_kept : ∀ t : Fin cfg0.N, ¬ t.val % 2 = 0 → cfg0.idle 12 (cfg0.grid.coords t) = true :=
  (by decide +kernel : ∀ t : Fin grid0.N, ¬ t.val % 2 = 0 → idle0 12 (grid0.coords t) = true)

/-! ## The buffers the body runs on -/

abbrev stg0 (t : Fin cfg0.N) : Memref sig .tc .vmem S512x2048 .f32 := win0_0.stage (cfg0.slots t 0)
abbrev stg1 (t : Fin cfg0.N) : Memref sig .tc .vmem S1x1x2048 .f32 := win0_1.stage (cfg0.slots t 1)
abbrev stg2 (t : Fin cfg0.N) : Memref sig .tc .vmem S1x1x2048 .f32 := win0_2.stage (cfg0.slots t 2)
abbrev stg3 (t : Fin cfg0.N) : Memref sig .tc .vmem S1x2048 .f32 := win0_3.stage (cfg0.slots t 3)
abbrev stg4 (t : Fin cfg0.N) : Memref sig .tc .vmem S3328x2048 .bf16 := win0_4.stage (cfg0.slots t 4)
abbrev stg5 (t : Fin cfg0.N) : Memref sig .tc .vmem S32x2048 .f32 := win0_5.stage (cfg0.slots t 5)
abbrev stg6 (t : Fin cfg0.N) : Memref sig .tc .vmem S1x128 .f32 := win0_6.stage (cfg0.slots t 6)
abbrev stg7 (t : Fin cfg0.N) : Memref sig .tc .vmem S1x128 .f32 := win0_7.stage (cfg0.slots t 7)
abbrev stg8 (t : Fin cfg0.N) : Memref sig .tc .vmem S512x128 .f32 := win0_8.stage (cfg0.slots t 8)
abbrev stg9 (t : Fin cfg0.N) : Memref sig .tc .vmem S512x128 .f32 := win0_9.stage (cfg0.slots t 9)
abbrev stg10 (t : Fin cfg0.N) : Memref sig .tc .vmem S512x128 .f32 := win0_10.stage (cfg0.slots t 10)
abbrev stg11 (t : Fin cfg0.N) : Memref sig .tc .vmem S512x3328 .bf16 := win0_11.stage (cfg0.slots t 11)
abbrev stg12 (t : Fin cfg0.N) : Memref sig .tc .vmem S32x512 .f32 := win0_12.stage (cfg0.slots t 12)

/-- The scratch buffer that keeps the normalised rows. -/
abbrev scr : Memref sig .tc .vmem S512x2048 .bf16 := Memref.whole cc0_scratch0

theorem scoped_eq (c : Dev nD) :
    (Pipeline.ΦA spec0 c : sProp 𝕄) = iprop(iprop(∃ d, owns (c : Thread nD τ) scr fullShare d) ∗ (∃ r, prngReg c r)) := by
  unfold Pipeline.ΦA; rw [scopedRest0_eq]; simp only [scr, owns_whole]; try rfl

/-! ## What the buffers hold after each point -/

/-- The three contents carried: the columns' block, the gates' block, the kept rows. -/
structure Held (F : FTy → Type) [FloatOps F] where
  cols : Vec F S512x3328 .bf16
  gates : Vec F S32x512 .f32
  rows : Vec F S512x2048 .bf16

/-- What the first point of a row block leaves. -/
def fresh (c : Dev nD) (t : Fin cfg0.N) : Held F :=
  ⟨firstHalf (accBlock (iblk m c 0 t) (iblk m c 1 t) (iblk m c 2 t) (iblk m c 3 t) (iblk m c 4 t)) (iblk m c 6 t) (iblk m c 7 t) (iblk m c 8 t) (iblk m c 9 t) (iblk m c 10 t),
    gatesBlock (iblk m c 0 t) (iblk m c 1 t) (iblk m c 2 t) (iblk m c 3 t) (iblk m c 5 t),
    rowsBlock (iblk m c 0 t) (iblk m c 1 t) (iblk m c 2 t) (iblk m c 3 t)⟩

/-- One point, from what the point before left. -/
def next (c : Dev nD) (t : Fin cfg0.N) (p : Held F) : Held F :=
  if t.val % 2 = 0 then fresh m c t else ⟨secondHalf p.rows (iblk m c 4 t), p.gates, p.rows⟩

/-- What the buffers hold after point `n`. -/
def held (c : Dev nD) : (n : ℕ) → n < cfg0.N → Held F
  | 0, hn => fresh m c ⟨0, hn⟩
  | n + 1, hn => next m c ⟨n + 1, hn⟩ (held c n (Nat.lt_of_succ_lt hn))

/-- What the point before `t` left. -/
abbrev prev (c : Dev nD) (t : Fin cfg0.N) : Held F :=
  held m c (t.val - 1) (Nat.lt_of_le_of_lt (Nat.sub_le _ _) t.isLt)

theorem held_first (c : Dev nD) (t : Fin cfg0.N) (h0 : t.val % 2 = 0) : held m c t.val t.isLt = fresh m c t := by
  obtain ⟨n, hn⟩ := t
  cases n with
  | zero => rfl
  | succ n => exact if_pos h0

theorem held_second (c : Dev nD) (t : Fin cfg0.N) (h0 : ¬ t.val % 2 = 0) :
    held m c t.val t.isLt = ⟨secondHalf (prev m c t).rows (iblk m c 4 t), (prev m c t).gates, (prev m c t).rows⟩ := by
  obtain ⟨n, hn⟩ := t
  cases n with
  | zero => exact absurd (Nat.zero_mod _) h0
  | succ n => exact if_neg h0

/-- Between points: the scratch buffer at the rows kept, at anything before the first point. -/
def carried (c : Dev nD) : (n : ℕ) → n ≤ cfg0.N → sProp 𝕄
  | 0, _ => Pipeline.ΦA spec0 c
  | n + 1, hn => iprop(owns (c : Thread nD τ) scr fullShare (held m c n hn).rows ∗ (∃ r, prngReg c r))

theorem carried_pos (c : Dev nD) (n : ℕ) (h : n ≤ cfg0.N) (hz : n ≠ 0) :
    carried m c n h = iprop(owns (c : Thread nD τ) scr fullShare (held m c (n - 1) (by omega)).rows ∗ (∃ r, prngReg c r)) := by
  cases n with
  | zero => exact absurd rfl hz
  | succ n => rfl

/-- Whatever the position, the scratch buffer is owned at some contents. -/
theorem carried_some (c : Dev nD) (n : ℕ) (h : n ≤ cfg0.N) :
    carried m c n h ⊢ (iprop(iprop(∃ d, owns (c : Thread nD τ) scr fullShare d) ∗ (∃ r, prngReg c r)) : sProp 𝕄) := by
  cases n with
  | zero =>
    rw [show carried m c 0 h = Pipeline.ΦA spec0 c from rfl, scoped_eq]
  | succ n =>
    rw [carried_pos m c _ h (Nat.succ_ne_zero n)]
    iintro ⟨HS, Hg⟩
    isplitl [HS]
    · iexists _; iexact HS
    iexact Hg

/-! ## The pipeline's data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (held m c t.val t.isLt).cols
    | ⟨12, _⟩ => (held m c t.val t.isLt).gates
  Φ t := carried m c t.val (Nat.le_of_lt_succ t.isLt)
  q w := Pipeline.shareOf spec0 w
  owed _ := 0

theorem dats_A (c : Dev nD) (w : Fin cfg0.W) : (dats m 0 c).A w = V m c (Pipeline.arrRef spec0 w) := by dsimp only [dats]
theorem dats_carried (c : Dev nD) (t : Fin cfg0.N) : (dats m 0 c).Φ t.castSucc = carried m c t.val (Nat.le_of_lt t.isLt) := by
  dsimp only [dats]; exact Pipeline.Dat.Φ_castSucc (carried m c) t

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem left6 (c : Dev nD) (t : Fin cfg0.N) : (dats m 0 c).after 6 t = iblk m c 6 t := by dsimp only [dats]
theorem left7 (c : Dev nD) (t : Fin cfg0.N) : (dats m 0 c).after 7 t = iblk m c 7 t := by dsimp only [dats]
theorem left8 (c : Dev nD) (t : Fin cfg0.N) : (dats m 0 c).after 8 t = iblk m c 8 t := by dsimp only [dats]
theorem left9 (c : Dev nD) (t : Fin cfg0.N) : (dats m 0 c).after 9 t = iblk m c 9 t := by dsimp only [dats]
theorem left10 (c : Dev nD) (t : Fin cfg0.N) : (dats m 0 c).after 10 t = iblk m c 10 t := by dsimp only [dats]
theorem left11 (c : Dev nD) (t : Fin cfg0.N) : (dats m 0 c).after 11 t = (held m c t.val t.isLt).cols := by dsimp only [dats]
theorem left12 (c : Dev nD) (t : Fin cfg0.N) : (dats m 0 c).after 12 t = (held m c t.val t.isLt).gates := by dsimp only [dats]

theorem found0 (c : Dev nD) (t : Fin cfg0.N) (d) : (dats m 0 c).before 0 t d = iblk m c 0 t :=
  before0_0_of m (dats m 0 c) (dats_A m c 0) (left0 m c) t d
theorem found1 (c : Dev nD) (t : Fin cfg0.N) (d) : (dats m 0 c).before 1 t d = iblk m c 1 t :=
  before0_1_of m (dats m 0 c) (dats_A m c 1) (left1 m c) t d
theorem found2 (c : Dev nD) (t : Fin cfg0.N) (d) : (dats m 0 c).before 2 t d = iblk m c 2 t :=
  before0_2_of m (dats m 0 c) (dats_A m c 2) (left2 m c) t d
theorem found3 (c : Dev nD) (t : Fin cfg0.N) (d) : (dats m 0 c).before 3 t d = iblk m c 3 t :=
  before0_3_of m (dats m 0 c) (dats_A m c 3) (left3 m c) t d
theorem found4 (c : Dev nD) (t : Fin cfg0.N) (d) : (dats m 0 c).before 4 t d = iblk m c 4 t :=
  before0_4_of m (dats m 0 c) (dats_A m c 4) (left4 m c) t d
theorem found5 (c : Dev nD) (t : Fin cfg0.N) (d) : (dats m 0 c).before 5 t d = iblk m c 5 t :=
  before0_5_of m (dats m 0 c) (dats_A m c 5) (left5 m c) t d
theorem found6 (c : Dev nD) (t : Fin cfg0.N) (d) : (dats m 0 c).before 6 t d = iblk m c 6 t :=
  before0_6_of m (dats m 0 c) (dats_A m c 6) (left6 m c) t d
theorem found7 (c : Dev nD) (t : Fin cfg0.N) (d) : (dats m 0 c).before 7 t d = iblk m c 7 t :=
  before0_7_of m (dats m 0 c) (dats_A m c 7) (left7 m c) t d
theorem found8 (c : Dev nD) (t : Fin cfg0.N) (d) : (dats m 0 c).before 8 t d = iblk m c 8 t :=
  before0_8_of m (dats m 0 c) (dats_A m c 8) (left8 m c) t d
theorem found9 (c : Dev nD) (t : Fin cfg0.N) (d) : (dats m 0 c).before 9 t d = iblk m c 9 t :=
  before0_9_of m (dats m 0 c) (dats_A m c 9) (left9 m c) t d
theorem found10 (c : Dev nD) (t : Fin cfg0.N) (d) : (dats m 0 c).before 10 t d = iblk m c 10 t :=
  before0_10_of m (dats m 0 c) (dats_A m c 10) (left10 m c) t d
/-- At the second point the gates' buffer still holds what the first left. -/
theorem found12 (c : Dev nD) (t : Fin cfg0.N) (h0 : ¬ t.val % 2 = 0) (d) : (dats m 0 c).before 12 t d = (prev m c t).gates := by
  have hN : t.val < 64 := lt_of_lt_of_eq t.isLt (show cfg0.N = 64 from N_0)
  have ht : t.val ≠ 0 := by omega
  have hfl : (cfg0.win 12).flush ⟨t.val - 1, Nat.lt_of_le_of_lt (Nat.sub_le _ _) t.isLt⟩ = false :=
    Bool.eq_false_iff.mpr fun h => by have := (flush0_12 _).mp h; dsimp only at this; omega
  have hi : cfg0.idle 12 (cfg0.grid.coords ⟨t.val - 1, Nat.lt_of_le_of_lt (Nat.sub_le _ _) t.isLt⟩) = false :=
    gates_written _ (by dsimp only; omega)
  rw [(dats m 0 c).before_of_pos 12 t ht ((cfg0.win 12).fetch_out rfl t) d, hfl, if_neg Bool.false_ne_true]
  unfold Dat.left
  rw [hi]
  show (dats m 0 c).kept 12 _ d = _
  unfold Dat.kept
  rw [Pipeline.fill_of_clip_none 12 _ (fun _ => rfl) d ((dats m 0 c).after 12 _), Pipeline.Window.fill_cut]
  dsimp only [dats]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t)
    ∗ owns (c : Thread nD τ) (stg12 t) fullShare ((dats m 0 c).after 12 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, found7, found8, found9, found10]
  rw [show (dats m 0 c).owesAt () t.succ = (dats m 0 c).owesAt () t.castSucc from rfl,
    left0, left1, left2, left3, left4, left5, left6, left7, left8, left9, left10, left11, left12]
  rw [show (dats m 0 c).Φ t.succ = iprop(owns (c : Thread nD τ) scr fullShare (held m c t.val t.isLt).rows ∗ (∃ r, prngReg c r)) from rfl,
    dats_carried m c t]
  by_cases h0 : t.val % 2 = 0
  · rw [held_first m c t h0]
    unfold fresh
    dsimp only
    by_cases hz : t.val = 0
    · rw [show carried m c t.val (Nat.le_of_lt t.isLt) = Pipeline.ΦA spec0 c from by simp only [hz]; rfl, scoped_eq]
      iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body_first c (grid0.coords t) _ _ _ _ _ _ _ _ _ _ _ _ _ _ _ _ _ _ _ _ _ _ _ _ _ _ _ _ ((half_first t).mpr h0) (fun h => (half_second t).mp h h0) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS]; · iexact HS
      iintro ⟨H0, H1, H2, H3, H4, H5, H6, H7, H8, H9, H10, H11, H12, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [carried_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body_first c (grid0.coords t) _ _ _ _ _ _ _ _ _ _ _ _ _ _ _ _ _ _ _ _ _ _ _ _ _ _ _ _ ((half_first t).mpr h0) (fun h => (half_second t).mp h h0) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS]; · iexact HS
      iintro ⟨H0, H1, H2, H3, H4, H5, H6, H7, H8, H9, H10, H11, H12, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
  · have hz : t.val ≠ 0 := fun h => h0 (by rw [h])
    rw [carried_pos m c _ _ hz, held_second m c t h0]
    simp only [found12 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body_second c (grid0.coords t) _ _ _ _ _ _ _ _ _ _ _ _ _ _ _ _ _ _ _ _ _ _ _ _ _ _ _ _ (fun h => h0 ((half_first t).mp h)) ((half_second t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS]; · iexact HS
    iintro ⟨H0, H1, H2, H3, H4, H5, H6, H7, H8, H9, H10, H11, H12, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row, cols_written t]
  by_cases h0 : t.val % 2 = 0
  · rw [gates_written t h0]
    exact triple_restated (sound_body m c t) rfl .rfl fun _ => .rfl
  · rw [gates_kept t h0, (flush0_12 t).mpr (by omega)]
    exact triple_restated (sound_body m c t) rfl .rfl fun _ => .rfl

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  rw [scoped_eq]
  exact carried_some m c cfg0.N (Nat.le_refl _)

/-! ## The run and the frame -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := dats_A m) (hin := enter m) (hout := leave m)

theorem run : θ_run defs (onTc (τ := τ) (main (F := F))) (s₀ m ρ) (Pipeline.FramePost cfgs (dats m) 0 (V m)) :=
  (θ_run defs _ _).mono (fun _ h => h.1) (run_quiet m ρ)

/-- The frame: every argument array ends unchanged and every semaphore at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (dats_A m) (run m ρ)) ((θ_run defs _ _).mono (fun _ h => h.2) (run_quiet m ρ))

end Cert.Kernel5Ideal.InProj
-- ==== Proof.InProjTables.lean ====
/-
The tables of the rotary embedding that the host prepares for the input projections' kernel: the cosines and the sines
of the reference's angles, the sines negated and kept in the lower half of each pair of halves, or kept in the upper.
-/
module

public import proofs.«01_k».proof.Proof.Gen.Kernel5Ideal.Frame
public import proofs.«01_k».proof.Proof.Gen.Reference5Ideal.Read
public import Idealize.ShloMosaic.Lib.StableHlo.Run
public import proofs.«01_k».proof.Proof.Gen.Reference5Ideal.Run
public import Idealize.ShloMosaic.Lib.Pointwise
public import Idealize.ShloMosaic.Lib.ValueIdx

@[expose] public section

set_option maxRecDepth 16384

noncomputable section

namespace Cert.Kernel5Ideal.InProj

open Cert.Kernel5Ideal Cert.Kernel5Ideal.Gen
open Idealize.ShloMosaic Idealize.ShloMosaic.TcCoe Idealize.SL.Sem Idealize.ShloMosaic.StableHlo

variable (V0 : Valuation τ sig (Elt Ideal))

/-- The contents after the operations up to the row numbers' quotients, -/
def tab1 : Valuation τ sig (Elt Ideal) := after (hostOps0_1 (F := Ideal)) (after (hostOps0 (F := Ideal)) V0)
/-- up to their remainders, -/
def tab2 : Valuation τ sig (Elt Ideal) := after (hostOps0_3 (F := Ideal)) (after (hostOps0_2 (F := Ideal)) (tab1 V0))
/-- up to the cosines and sines, -/
def tab3 : Valuation τ sig (Elt Ideal) := after (hostOps0_4 (F := Ideal)) (tab2 V0)
/-- up to the columns' remainders, -/
def tab4 : Valuation τ sig (Elt Ideal) := after (hostOps0_5 (F := Ideal)) (tab3 V0)
/-- and to the end. -/
def tab5 : Valuation τ sig (Elt Ideal) :=
  after (hostOps0_9 (F := Ideal)) (after (hostOps0_8 (F := Ideal)) (after (hostOps0_7 (F := Ideal)) (after (hostOps0_6 (F := Ideal)) (tab4 V0))))

theorem tabs (m : (ℓ : Loc nD τ sig) → Buf (Elt Ideal) ℓ) (c : Dev nD) (b : Ref sig .tc) :
    V m c b = tab5 (fun b => m (c, b)) (Proc.devRef .tc b) := by
  show after _ _ _ = _
  unfold tab5 tab4 tab3 tab2 tab1
  simp only [List.flatten_cons, List.flatten_nil, List.append_nil, after_append]

theorem quotients : tab1 V0 (no_index (Proc.devRef .tc main_v1)) = Cert.Reference5Ideal.Read.val_main_v36 (F := Ideal) := by
  unfold tab1
  simp only [hostOps0, hostOps0_1]
  after_results_simp
  rfl

theorem numbers : tab1 V0 (no_index (Proc.devRef .tc main_v0)) = Cert.Reference5Ideal.Read.val_main_v35 (F := Ideal) := by
  unfold tab1
  simp only [hostOps0, hostOps0_1]
  after_results_simp
  rfl

theorem remainders : tab2 V0 (no_index (Proc.devRef .tc main_v3)) = Cert.Reference5Ideal.Read.val_main_v38 (F := Ideal) := by
  unfold tab2
  simp only [hostOps0_2, hostOps0_3]
  after_results_simp
  simp only [numbers]
  rfl

theorem rows : tab2 V0 (no_index (Proc.devRef .tc main_v2)) = Cert.Reference5Ideal.Read.val_main_v37 (F := Ideal) := by
  unfold tab2
  simp only [hostOps0_2, hostOps0_3]
  after_results_simp
  simp only [quotients]
  rfl

/-- The contents after the operations up to the two sets of angles. -/
def tabAngles : Valuation τ sig (Elt Ideal) := after ((hostOps0_4 (F := Ideal)).take 27) (tab2 V0)

theorem tab3_eq : tab3 V0 = after ((hostOps0_4 (F := Ideal)).drop 27) (tabAngles V0) := by
  unfold tab3 tabAngles
  rw [← after_append, List.take_append_drop]

theorem row_angles : tabAngles V0 (no_index (Proc.devRef .tc main_v20)) = Cert.Reference5Ideal.Read.val_main_v55 (F := Ideal) := by
  unfold tabAngles
  simp only [hostOps0_4, List.take_succ_cons, List.take_zero]
  after_results_simp
  simp only [rows]
  rfl

theorem column_angles : tabAngles V0 (no_index (Proc.devRef .tc main_v25)) = Cert.Reference5Ideal.Read.val_main_v60 (F := Ideal) := by
  unfold tabAngles
  simp only [hostOps0_4, List.take_succ_cons, List.take_zero]
  after_results_simp
  simp only [remainders]
  rfl

/-- Row and column angles side by side, each twice. -/
def angles (a b : (⟨S4096x32, .f32⟩ : BufTy).Contents (Elt Ideal)) : FVec Ideal S4096x128 .f32 := Cert.Reference5Ideal.Value.fn_main_v61 (F := Ideal) a a b b

theorem cosines : tab3 V0 (no_index (Proc.devRef .tc main_v27)) = Cert.Reference5Ideal.Read.val_main_v62 (F := Ideal) := by
  rw [tab3_eq]
  simp only [hostOps0_4, List.drop_succ_cons, List.drop_zero]
  after_results_simp
  show Host.cos (angles (tabAngles V0 (Proc.devRef .tc main_v20)) (tabAngles V0 (Proc.devRef .tc main_v25))) = _
  rw [row_angles, column_angles]
  rfl

theorem sines : tab3 V0 (no_index (Proc.devRef .tc main_v28)) = Cert.Reference5Ideal.Read.val_main_v63 (F := Ideal) := by
  rw [tab3_eq]
  simp only [hostOps0_4, List.drop_succ_cons, List.drop_zero]
  after_results_simp
  show Host.sin (angles (tabAngles V0 (Proc.devRef .tc main_v20)) (tabAngles V0 (Proc.devRef .tc main_v25))) = _
  rw [row_angles, column_angles]
  rfl

theorem column_numbers : tab3 V0 (no_index (Proc.devRef .tc main_v29)) = iotaInDim S128 32 0 := by
  rw [tab3_eq]
  simp only [hostOps0_4, List.drop_succ_cons, List.drop_zero]
  after_results_simp

theorem column_halves : tab3 V0 (no_index (Proc.devRef .tc main_c_5)) = constantI S_ 32 64#32 := by
  rw [tab3_eq]
  simp only [hostOps0_4, List.drop_succ_cons, List.drop_zero]
  after_results_simp

/-- The number of a column within its half. -/
theorem within_half (d : Fin 128) : tab4 V0 (Proc.devRef .tc main_v30) (ix1 d) = BitVec.ofNat 32 (d.val % 64) := by
  unfold tab4
  simp only [hostOps0_5]
  after_results_simp
  simp only [column_numbers, column_halves]
  revert d
  decide +kernel

theorem sines_kept : tab4 V0 (no_index (Proc.devRef .tc main_v28)) = Cert.Reference5Ideal.Read.val_main_v63 (F := Ideal) := by
  unfold tab4
  simp only [hostOps0_5]
  after_results_simp
  simp only [sines]

/-- Whether a column is in the lower half of its half. -/
def lower : (⟨S128, .i1⟩ : BufTy).Contents (Elt Ideal) :=
  cmpi .slt (tab4 V0 (Proc.devRef .tc main_v30) : (⟨S128, .i32⟩ : BufTy).Contents (Elt Ideal)) (broadcastInDim S128 ![] bcast_S_S128 (constantI S_ 32 32#32))

theorem lower_at (d : Fin 128) : lower V0 (ix1 d) = if d.val % 64 < 32 then 1#1 else 0#1 := by
  have h : lower V0 (ix1 d) = BitVec.ofBool ((tab4 V0 (Proc.devRef .tc main_v30) (ix1 d)).slt 32#32) := rfl
  rw [h, within_half]
  clear h
  revert d
  decide +kernel

/-- The three tables as the kernel is handed them. -/
theorem table_cos (m : (ℓ : Loc nD τ sig) → Buf (Elt Ideal) ℓ) (c : Dev nD) :
    V m c main_v27 = Cert.Reference5Ideal.Read.val_main_v62 (F := Ideal) := by
  rw [tabs]
  unfold tab5 tab4
  simp only [hostOps0_5, hostOps0_6, hostOps0_7, hostOps0_8, hostOps0_9]
  after_results_simp
  simp only [cosines]

theorem table_lo (m : (ℓ : Loc nD τ sig) → Buf (Elt Ideal) ℓ) (c : Dev nD) :
    V m c main_v34 = select (broadcastInDim S4096x128 ![1] bcast_S128_S4096x128_1 (lower fun b => m (c, b)))
      (Host.negf (Cert.Reference5Ideal.Read.val_main_v63 (F := Ideal))) (broadcastInDim S4096x128 ![] bcast_S_S4096x128 (constant (F := Ideal) S_ .f32 0x00000000#32)) := by
  rw [tabs]
  unfold tab5
  simp only [hostOps0_6, hostOps0_7, hostOps0_8, hostOps0_9]
  after_results_simp
  simp only [sines_kept, lower, TRef.toBuf, TRef.ofBuf, cast_eq, id_eq]

theorem table_hi (m : (ℓ : Loc nD τ sig) → Buf (Elt Ideal) ℓ) (c : Dev nD) :
    V m c main_v35 = select (broadcastInDim S4096x128 ![1] bcast_S128_S4096x128_1 (lower fun b => m (c, b)))
      (broadcastInDim S4096x128 ![] bcast_S_S4096x128 (constant (F := Ideal) S_ .f32 0x00000000#32)) (Cert.Reference5Ideal.Read.val_main_v63 (F := Ideal)) := by
  rw [tabs]
  unfold tab5
  simp only [hostOps0_6, hostOps0_7, hostOps0_8, hostOps0_9]
  after_results_simp
  simp only [sines_kept, lower, TRef.toBuf, TRef.ofBuf, cast_eq, id_eq]

theorem lo_at (m : (ℓ : Loc nD τ sig) → Buf (Elt Ideal) ℓ) (c : Dev nD) (t : Fin 4096) (d : Fin 128) :
    V m c main_v34 (ix2 t d) = if d.val % 64 < 32 then -(Cert.Reference5Ideal.Read.val_main_v63 (F := Ideal) (ix2 t d)) else 0 := by
  rw [table_lo]
  pointwise []
  rw [lower_at]
  by_cases h : d.val % 64 < 32
  · simp [h, Scalar.select]
  · simp [h, Scalar.select]

theorem hi_at (m : (ℓ : Loc nD τ sig) → Buf (Elt Ideal) ℓ) (c : Dev nD) (t : Fin 4096) (d : Fin 128) :
    V m c main_v35 (ix2 t d) = if d.val % 64 < 32 then 0 else Cert.Reference5Ideal.Read.val_main_v63 (F := Ideal) (ix2 t d) := by
  rw [table_hi]
  pointwise []
  rw [lower_at]
  by_cases h : d.val % 64 < 32
  · simp [h, Scalar.select]
  · simp [h, Scalar.select]

end Cert.Kernel5Ideal.InProj

end
-- ==== Proof.InProjValue.lean ====
/-
  The result arrays of the input projections' kernel, written by hand: every block written back is the block of
  `InProj.cols` or of `InProj.gates` of the argument arrays.
-/
module

public import proofs.«01_k».proof.Proof.InProjArith
public import proofs.«01_k».proof.Proof.InProjFrame
public import proofs.«01_k».proof.Proof.InProjTables

@[expose] public section

set_option maxRecDepth 16384

noncomputable section

namespace Cert.Kernel5Ideal.InProj

open Cert.Kernel5Ideal Cert.Kernel5Ideal.Gen Idealize.ShloMosaic Idealize.ShloMosaic.TcCoe Cert.Ffn Cert.InProj

/-- A rotated head of a block is the rotated head of what the block's rows are. -/
theorem rope_head (a : FVec Ideal S512x3328 .f32) (g : Vec Ideal S1x128 .f32) (co lo hi : Vec Ideal S512x128 .f32) (y : Fin 512) (o : ℕ)
    (ho : o + 128 ≤ 3328) (d : Fin 128) (g' : Vec Ideal S1x128 .f32) (co' si f : Fin 128 → EReal)
    (hg : ∀ d, g (ix2 0 d) = g' (ix2 0 d)) (hf : ∀ d, lanes a y o ho d = f d) (hco : ∀ d, co (ix2 y d) = co' d)
    (hlo : ∀ d, lo (ix2 y d) = if d.val % 64 < 32 then -(si d) else 0) (hhi : ∀ d, hi (ix2 y d) = if d.val % 64 < 32 then 0 else si d) :
    rope a g co lo hi y o ho d = turned co' si (normed g' f) d := by
  unfold rope
  rw [rolled_eq _ si _ _ _ d (hlo d) (hhi d)]
  have e1 : lanes a y o ho = f := funext hf
  have e2 : (fun d => co (ix2 y d)) = co' := funext hco
  have e3 : normed g f = normed g' f := by
    funext d
    unfold normed
    rw [hg]
  rw [e1, e2, e3]

/-! ## The blocks each grid point sees -/

theorem idx : ∀ t : Fin cfg0.N,
    win0_0.index t = ![t.val / 2, 0] ∧ win0_1.index t = ![t.val / 16 * 9 + 3, 0, 0] ∧ win0_2.index t = ![t.val / 16 * 9 + 4, 0, 0]
      ∧ win0_3.index t = ![0, 0] ∧ win0_4.index t = ![t.val % 2, 0] ∧ win0_5.index t = ![0, 0] ∧ win0_6.index t = ![0, 0] ∧ win0_7.index t = ![0, 0]
      ∧ win0_8.index t = ![t.val / 2 % 8, 0] ∧ win0_9.index t = ![t.val / 2 % 8, 0] ∧ win0_10.index t = ![t.val / 2 % 8, 0]
      ∧ win0_11.index t = ![t.val / 2, t.val % 2] ∧ win0_12.index t = ![0, t.val / 2] ∧ t.val < 64 :=
  (by decide +kernel : ∀ t : Fin grid0.N,
    win0_0.index t = ![t.val / 2, 0] ∧ win0_1.index t = ![t.val / 16 * 9 + 3, 0, 0] ∧ win0_2.index t = ![t.val / 16 * 9 + 4, 0, 0]
      ∧ win0_3.index t = ![0, 0] ∧ win0_4.index t = ![t.val % 2, 0] ∧ win0_5.index t = ![0, 0] ∧ win0_6.index t = ![0, 0] ∧ win0_7.index t = ![0, 0]
      ∧ win0_8.index t = ![t.val / 2 % 8, 0] ∧ win0_9.index t = ![t.val / 2 % 8, 0] ∧ win0_10.index t = ![t.val / 2 % 8, 0]
      ∧ win0_11.index t = ![t.val / 2, t.val % 2] ∧ win0_12.index t = ![0, t.val / 2] ∧ t.val < 64)

theorem points (t : Fin cfg0.N) : t.val < 64 := (idx t).2.2.2.2.2.2.2.2.2.2.2.2.2

section
variable (m : (ℓ : Loc nD τ sig) → Buf (Elt Ideal) ℓ) (c : Dev nD)

section
variable (t : Fin cfg0.N)

theorem x_blk (y : Fin 512) (k : Fin 2048) :
    iblk m c 0 t (ix2 y k) = m ((c : Thread nD τ).loc main_arg0) (ix2 ⟨t.val / 2 * 512 + y.val, by have := points t; omega⟩ k) := by
  rw [← V_main_arg0 m c]
  blk_ext [iblk, idx t]
theorem shift_blk (k : Fin 2048) :
    iblk m c 1 t (ix3 0 0 k) = m ((c : Thread nD τ).loc main_arg1) (ix3 ⟨t.val / 16 * 9 + 3, by have := points t; omega⟩ 0 k) := by
  rw [← V_main_arg1 m c]
  blk_ext [iblk, idx t]
theorem scale_blk (k : Fin 2048) :
    iblk m c 2 t (ix3 0 0 k) = m ((c : Thread nD τ).loc main_arg1) (ix3 ⟨t.val / 16 * 9 + 4, by have := points t; omega⟩ 0 k) := by
  rw [← V_main_arg1 m c]
  blk_ext [iblk, idx t]
theorem gain_blk (k : Fin 2048) : iblk m c 3 t (ix2 0 k) = m ((c : Thread nD τ).loc main_arg2) (ix2 0 k) := by
  rw [← V_main_arg2 m c]
  blk_ext [iblk, idx t]
theorem w_blk (e : Fin 3328) (k : Fin 2048) :
    iblk m c 4 t (ix2 e k) = m ((c : Thread nD τ).loc main_arg3) (ix2 ⟨t.val % 2 * 3328 + e.val, by omega⟩ k) := by
  rw [← V_main_arg3 m c]
  blk_ext [iblk, idx t]
theorem wg_blk (j : Fin 32) (k : Fin 2048) : iblk m c 5 t (ix2 j k) = m ((c : Thread nD τ).loc main_arg4) (ix2 j k) := by
  rw [← V_main_arg4 m c]
  blk_ext [iblk, idx t]
theorem qg_blk (d : Fin 128) : iblk m c 6 t (ix2 0 d) = m ((c : Thread nD τ).loc main_arg5) (ix2 0 d) := by
  rw [← V_main_arg5 m c]
  blk_ext [iblk, idx t]
theorem kg_blk (d : Fin 128) : iblk m c 7 t (ix2 0 d) = m ((c : Thread nD τ).loc main_arg6) (ix2 0 d) := by
  rw [← V_main_arg6 m c]
  blk_ext [iblk, idx t]
theorem cos_blk (y : Fin 512) (d : Fin 128) :
    iblk m c 8 t (ix2 y d) = V m c main_v27 (ix2 ⟨t.val / 2 % 8 * 512 + y.val, by omega⟩ d) := by
  blk_ext [iblk, idx t]
theorem lo_blk (y : Fin 512) (d : Fin 128) :
    iblk m c 9 t (ix2 y d) = V m c main_v34 (ix2 ⟨t.val / 2 % 8 * 512 + y.val, by omega⟩ d) := by
  blk_ext [iblk, idx t]
theorem hi_blk (y : Fin 512) (d : Fin 128) :
    iblk m c 10 t (ix2 y d) = V m c main_v35 (ix2 ⟨t.val / 2 % 8 * 512 + y.val, by omega⟩ d) := by
  blk_ext [iblk, idx t]

/-- The array row of a block row. -/
abbrev row (y : Fin 512) : Fin 16384 := ⟨t.val / 2 * 512 + y.val, by have := points t; omega⟩

theorem row_hid (y : Fin 512) (k : Fin 2048) :
    rowOf (iblk m c 0 t) (iblk m c 3 t) (iblk m c 2 t) (iblk m c 1 t) y k
      = hid (m ((c : Thread nD τ).loc main_arg0)) (m ((c : Thread nD τ).loc main_arg1)) (m ((c : Thread nD τ).loc main_arg2)) 3 (row t y) k := by
  have hs : t.val / 16 = (row t y).val / 4096 := by
    have := y.isLt
    show t.val / 16 = (t.val / 2 * 512 + y.val) / 4096
    omega
  unfold rowOf
  simp only [x_blk, gain_blk]
  rw [scale_blk, shift_blk]
  refine congrArg₂ (· + ·) (congrArg₂ (· * ·) rfl (congrArg (1 + ·) ?_)) ?_
  · exact congrArg (fun z => m ((c : Thread nD τ).loc main_arg1) (ix3 z 0 k)) (Fin.ext (by
      show t.val / 16 * 9 + 4 = (row t y).val / 4096 * 9 + 3 + 1
      rw [hs]))
  · exact congrArg (fun z => m ((c : Thread nD τ).loc main_arg1) (ix3 z 0 k)) (Fin.ext (by
      show t.val / 16 * 9 + 3 = (row t y).val / 4096 * 9 + 3
      rw [hs]))
end

/-- The two results of the argument arrays. -/
abbrev colsM (r : Fin 16384) (q : Fin 52) (d : Fin 128) : EReal :=
  cols (m ((c : Thread nD τ).loc main_arg0)) (m ((c : Thread nD τ).loc main_arg1)) (m ((c : Thread nD τ).loc main_arg2)) (m ((c : Thread nD τ).loc main_arg3))
    (m ((c : Thread nD τ).loc main_arg5)) (m ((c : Thread nD τ).loc main_arg6)) (Cert.Reference5Ideal.Read.val_main_v62 (F := Ideal))
    (Cert.Reference5Ideal.Read.val_main_v63 (F := Ideal)) r q d
abbrev gatesM (j : Fin 32) (r : Fin 16384) : EReal :=
  gates (m ((c : Thread nD τ).loc main_arg0)) (m ((c : Thread nD τ).loc main_arg1)) (m ((c : Thread nD τ).loc main_arg2)) (m ((c : Thread nD τ).loc main_arg4)) j r
abbrev projM (r : Fin 16384) (e : Fin 6656) : EReal :=
  proj (m ((c : Thread nD τ).loc main_arg0)) (m ((c : Thread nD τ).loc main_arg1)) (m ((c : Thread nD τ).loc main_arg2)) (m ((c : Thread nD τ).loc main_arg3)) r e

section
variable (t : Fin cfg0.N)

theorem acc_proj (y : Fin 512) (e : Fin 3328) :
    accBlock (iblk m c 0 t) (iblk m c 1 t) (iblk m c 2 t) (iblk m c 3 t) (iblk m c 4 t) (ix2 y e)
      = projM m c (row t y) ⟨t.val % 2 * 3328 + e.val, by omega⟩ := by
  rw [accBlock_at]
  unfold projM proj
  refine Finset.sum_congr rfl fun k _ => ?_
  rw [row_hid, w_blk]

theorem fresh_gates (j : Fin 32) (y : Fin 512) : (fresh m c t).gates (ix2 j y) = gatesM m c j (row t y) := by
  unfold fresh
  dsimp only
  rw [gatesBlock_at]
  unfold gatesM gates
  refine Finset.sum_congr rfl fun k _ => ?_
  rw [row_hid, wg_blk]

theorem fresh_rows (y : Fin 512) (k : Fin 2048) :
    (fresh m c t).rows (ix2 y k)
      = hid (m ((c : Thread nD τ).loc main_arg0)) (m ((c : Thread nD τ).loc main_arg1)) (m ((c : Thread nD τ).loc main_arg2)) 3 (row t y) k := by
  unfold fresh
  dsimp only
  rw [rowsBlock_at]
  exact row_hid m c t y k

/-- A rotated head of the first half. -/
theorem rope_row (h0 : t.val % 2 = 0) (g g' : Vec Ideal S1x128 .f32) (hg : ∀ d, g (ix2 0 d) = g' (ix2 0 d)) (y : Fin 512) (q : Fin 26) (d : Fin 128) :
    rope (accBlock (iblk m c 0 t) (iblk m c 1 t) (iblk m c 2 t) (iblk m c 3 t) (iblk m c 4 t)) g (iblk m c 8 t) (iblk m c 9 t) (iblk m c 10 t) y
        (q.val * 128) (by omega) d
      = head (m ((c : Thread nD τ).loc main_arg0)) (m ((c : Thread nD τ).loc main_arg1)) (m ((c : Thread nD τ).loc main_arg2)) (m ((c : Thread nD τ).loc main_arg3))
          (Cert.Reference5Ideal.Read.val_main_v62 (F := Ideal)) (Cert.Reference5Ideal.Read.val_main_v63 (F := Ideal)) g' (row t y) ⟨q.val, by omega⟩ d := by
  have hp : (⟨t.val / 2 % 8 * 512 + y.val, by omega⟩ : Fin 4096) = ⟨(row t y).val % 4096, by omega⟩ := Fin.ext (by
    have := y.isLt
    show t.val / 2 % 8 * 512 + y.val = (t.val / 2 * 512 + y.val) % 4096
    omega)
  refine rope_head _ g _ _ _ y _ _ d g' _ _ _ hg (fun d => ?_) (fun d => ?_) (fun d => ?_) (fun d => ?_)
  · refine (acc_proj m c t y _).trans (congrArg (projM m c (row t y)) (Fin.ext ?_))
    show t.val % 2 * 3328 + (q.val * 128 + d.val) = q.val * 128 + d.val
    omega
  · rw [cos_blk, table_cos, hp]
  · rw [lo_blk, lo_at, hp]
  · rw [hi_blk, hi_at, hp]

theorem fresh_cols (h0 : t.val % 2 = 0) (y : Fin 512) (q : Fin 26) (d : Fin 128) :
    (fresh m c t).cols (ix2 y ⟨q.val * 128 + d.val, by omega⟩) = colsM m c (row t y) ⟨q.val, by omega⟩ d := by
  unfold fresh
  dsimp only
  have hp : accBlock (iblk m c 0 t) (iblk m c 1 t) (iblk m c 2 t) (iblk m c 3 t) (iblk m c 4 t) (ix2 y ⟨q.val * 128 + d.val, by omega⟩)
      = projM m c (row t y) ⟨q.val * 128 + d.val, by omega⟩ :=
    (acc_proj m c t y _).trans (congrArg (projM m c (row t y)) (Fin.ext (by
      show t.val % 2 * 3328 + (q.val * 128 + d.val) = q.val * 128 + d.val
      omega)))
  rw [firstHalf_at, hp, rope_row m c t h0 _ _ (qg_blk m c t), rope_row m c t h0 _ _ (kg_blk m c t)]
  rfl

/-- The second half of the columns, from the rows the point before kept. -/
theorem second_cols (h0 : ¬ t.val % 2 = 0) (y : Fin 512) (e : Fin 3328) :
    (held m c t.val t.isLt).cols (ix2 y e) = projM m c (row t y) ⟨3328 + e.val, by omega⟩ := by
  rw [held_second m c t h0]
  dsimp only
  have hk : ∀ k, (prev m c t).rows (ix2 y k)
      = hid (m ((c : Thread nD τ).loc main_arg0)) (m ((c : Thread nD τ).loc main_arg1)) (m ((c : Thread nD τ).loc main_arg2)) 3 (row t y) k := by
    intro k
    have hf := held_first m c ⟨t.val - 1, Nat.lt_of_le_of_lt (Nat.sub_le _ _) t.isLt⟩ (by show (t.val - 1) % 2 = 0; omega)
    refine (congrArg (fun h => h.rows (ix2 y k)) hf).trans ((fresh_rows m c _ y k).trans ?_)
    refine congrArg (fun r => hid _ _ _ 3 r k) (Fin.ext ?_)
    show (t.val - 1) / 2 * 512 + y.val = t.val / 2 * 512 + y.val
    omega
  rw [secondHalf_at]
  refine Finset.sum_congr rfl fun k _ => congrArg₂ (· * ·) (hk k) ((w_blk m c t e k).trans ?_)
  refine congrArg (fun z => m ((c : Thread nD τ).loc main_arg3) (ix2 z k)) (Fin.ext ?_)
  show t.val % 2 * 3328 + e.val = 3328 + e.val
  omega

/-- The columns any point leaves. -/
theorem cols_held (y : Fin 512) (e : Fin 3328) (r : Fin 16384) (E : Fin 6656) (hr : r.val = t.val / 2 * 512 + y.val) (hE : E.val = t.val % 2 * 3328 + e.val) :
    (held m c t.val t.isLt).cols (ix2 y e) = colsM m c r ⟨E.val / 128, by omega⟩ ⟨E.val % 128, by omega⟩ := by
  obtain rfl : r = row t y := Fin.ext hr
  by_cases h0 : t.val % 2 = 0
  · rw [held_first m c t h0]
    have he : e = ⟨e.val / 128 * 128 + e.val % 128, by omega⟩ := Fin.ext (by simp only []; omega)
    refine (congrArg (fun z => (fresh m c t).cols (ix2 y z)) he).trans ((fresh_cols m c t h0 y ⟨e.val / 128, by omega⟩ ⟨e.val % 128, by omega⟩).trans ?_)
    refine congrArg₂ (colsM m c (row t y)) (Fin.ext ?_) (Fin.ext ?_)
    · show e.val / 128 = E.val / 128
      omega
    · show e.val % 128 = E.val % 128
      omega
  · rw [second_cols m c t h0]
    unfold colsM cols
    rw [if_neg (by simp only []; omega), if_neg (by simp only []; omega), if_neg (by simp only []; omega)]
    refine congrArg (projM m c (row t y)) (Fin.ext ?_)
    show 3328 + e.val = E.val / 128 * 128 + E.val % 128
    omega

/-- The gates the second point of a row block leaves. -/
theorem gates_held (h1 : t.val % 2 = 1) (j : Fin 32) (y : Fin 512) : (held m c t.val t.isLt).gates (ix2 j y) = gatesM m c j (row t y) := by
  rw [held_second m c t (by omega)]
  have hf := held_first m c ⟨t.val - 1, Nat.lt_of_le_of_lt (Nat.sub_le _ _) t.isLt⟩ (by show (t.val - 1) % 2 = 0; omega)
  refine (congrArg (fun h => h.gates (ix2 j y)) hf).trans ((fresh_gates m c _ j y).trans ?_)
  refine congrArg (gatesM m c j) (Fin.ext ?_)
  show (t.val - 1) / 2 * 512 + y.val = t.val / 2 * 512 + y.val
  omega
end

/-- The first result array. -/
theorem cols_result : (dats m 0 c).arrAt 11 cfg0.N
    = fun i : S16384x6656.Idx => colsM m c (i 0) ⟨(i 1).val / 128, by have h : (i 1).val < 6656 := (i 1).isLt; omega⟩ ⟨(i 1).val % 128, by omega⟩ := by
  refine (dats m 0 c).arrAt_eq_of_covers 11 _ (by decide +kernel) fun t hf y => ?_
  have e0 : (((cfg0.win 11).blk t).view.emb y 0).val = win0_11.index t 0 * 512 + (y 0).val := by blk_simp
  have e1 : (((cfg0.win 11).blk t).view.emb y 1).val = win0_11.index t 1 * 3328 + (y 1).val := by blk_simp
  have hi := (idx t).2.2.2.2.2.2.2.2.2.2.2.1
  have hy : y = ix2 (y 0) (y 1) := by funext k; match k with | ⟨0, _⟩ => rfl | ⟨1, _⟩ => rfl
  have h := cols_held m c t (y 0) (y 1) ⟨t.val / 2 * 512 + (y 0).val, by
      have := points t; have h : (y 0).val < 512 := (y 0).isLt; omega⟩ ⟨t.val % 2 * 3328 + (y 1).val, by
      have h : (y 1).val < 3328 := (y 1).isLt; omega⟩ rfl rfl
  have c1 : win0_11.index t 1 * 3328 + (y 1).val = t.val % 2 * 3328 + (y 1).val := by rw [hi]; rfl
  blk_simp
  rw [left11]
  refine (congrArg _ hy).trans (h.trans ?_)
  have c0 : (⟨t.val / 2 * 512 + (y 0).val, by have := points t; have h : (y 0).val < 512 := (y 0).isLt; omega⟩ : Fin 16384)
      = ((cfg0.win 11).blk t).view.emb y 0 := Fin.ext ((by rw [hi]; rfl : t.val / 2 * 512 + (y 0).val = win0_11.index t 0 * 512 + (y 0).val).trans e0.symm)
  simp only [c1]
  rw [c0]

/-- The second result array. -/
theorem gates_result : (dats m 0 c).arrAt 12 cfg0.N = fun i : S32x16384.Idx => gatesM m c (i 0) (i 1) := by
  refine (dats m 0 c).arrAt_eq_of_covers 12 _ (by decide +kernel) fun t hf y => ?_
  have e0 : (((cfg0.win 12).blk t).view.emb y 0).val = win0_12.index t 0 * 32 + (y 0).val := by blk_simp
  have e1 : (((cfg0.win 12).blk t).view.emb y 1).val = win0_12.index t 1 * 512 + (y 1).val := by blk_simp
  have hi := (idx t).2.2.2.2.2.2.2.2.2.2.2.2.1
  have hy : y = ix2 (y 0) (y 1) := by funext k; match k with | ⟨0, _⟩ => rfl | ⟨1, _⟩ => rfl
  have h := gates_held m c t ((flush0_12 t).mp hf) (y 0) (y 1)
  blk_simp
  rw [left12]
  refine (congrArg _ hy).trans (h.trans ?_)
  refine congrArg₂ (gatesM m c) (Fin.ext ?_) (Fin.ext ?_)
  · exact (by rw [hi]; show (y 0).val = 0 * 32 + (y 0).val; omega : (y 0).val = win0_12.index t 0 * 32 + (y 0).val).trans e0.symm
  · exact (by rw [hi]; rfl : t.val / 2 * 512 + (y 1).val = win0_12.index t 1 * 512 + (y 1).val).trans e1.symm
end

end Cert.Kernel5Ideal.InProj

end
-- ==== Proof.InProjReference.lean ====
/-
  The reference of the input projections read element by element: its results are `InProj.cols` and `InProj.gates`.
-/
module

public import proofs.«01_k».proof.Proof.InProjSpec
public import proofs.«01_k».proof.Proof.Gen.Reference5Ideal.Read
public import Idealize.ShloMosaic.Lib.Pointwise
public import Idealize.ShloMosaic.Lib.ValueIdx

@[expose] public section

set_option maxRecDepth 16384

noncomputable section

namespace Cert.InProjReference

open Cert.Reference5Ideal Cert.Reference5Ideal.Read Idealize.ShloMosaic Cert.Ffn Cert.InProj

variable (x : (⟨S16384x2048, .f32⟩ : BufTy).Contents (Elt Ideal)) (md : (⟨S72x1x2048, .f32⟩ : BufTy).Contents (Elt Ideal))
  (gain : (⟨S1x2048, .f32⟩ : BufTy).Contents (Elt Ideal)) (w : (⟨S6656x2048, .bf16⟩ : BufTy).Contents (Elt Ideal))
  (wg : (⟨S32x2048, .f32⟩ : BufTy).Contents (Elt Ideal)) (qg kg : (⟨S1x128, .f32⟩ : BufTy).Contents (Elt Ideal))

/-- Row of token `t` of sequence `b`. -/
abbrev tok (b : Fin 4) (t : Fin 4096) : Fin 16384 := ⟨b.val * 4096 + t.val, by omega⟩

theorem tok_seq (b : Fin 4) (t : Fin 4096) : (tok b t).val / 4096 = b.val := by
  show (b.val * 4096 + t.val) / 4096 = b.val
  omega
theorem tok_place (b : Fin 4) (t : Fin 4096) : (tok b t).val % 4096 = t.val := by
  show (b.val * 4096 + t.val) % 4096 = t.val
  omega

theorem x_at (b : Fin 4) (t : Fin 4096) (k : Fin 2048) : val_main_v5 (F := Ideal) x (ix3 b t k) = x (ix2 (tok b t) k) := by
  pointwise [val_main_v5]

theorem shift_at (b : Fin 4) (k : Fin 2048) : val_main_v2 (F := Ideal) md (ix3 b 0 k) = md (ix3 ⟨b.val * 9 + 3, by omega⟩ 0 k) := by
  pointwise [val_main_v2, val_main_v1, val_main_v0]
theorem scale_at (b : Fin 4) (k : Fin 2048) : val_main_v3 (F := Ideal) md (ix3 b 0 k) = md (ix3 ⟨b.val * 9 + 4, by omega⟩ 0 k) := by
  pointwise [val_main_v3, val_main_v1, val_main_v0]

theorem shift_tok (b : Fin 4) (t : Fin 4096) (k : Fin 2048) : val_main_v2 (F := Ideal) md (ix3 b 0 k) = shift md 3 (tok b t) k :=
  (shift_at md b k).trans (congrArg (fun z => md (ix3 z 0 k)) (Fin.ext (by
    show b.val * 9 + 3 = (tok b t).val / 4096 * 9 + 3
    rw [tok_seq])))
theorem scale_tok (b : Fin 4) (t : Fin 4096) (k : Fin 2048) : val_main_v3 (F := Ideal) md (ix3 b 0 k) = scale md 3 (tok b t) k :=
  (scale_at md b k).trans (congrArg (fun z => md (ix3 z 0 k)) (Fin.ext (by
    show b.val * 9 + 4 = (tok b t).val / 4096 * 9 + 3 + 1
    rw [tok_seq])))

/-- The normalised, modulated row. -/
theorem hid_at (b : Fin 4) (t : Fin 4096) (k : Fin 2048) :
    val_main_v25 (F := Ideal) x md gain (ix3 b t k) = hid x md gain 3 (tok b t) k := by
  have h : val_main_v25 (F := Ideal) x md gain (ix3 b t k)
      = val_main_v5 (F := Ideal) x (ix3 b t k) * rmsInv (fun k => val_main_v5 (F := Ideal) x (ix3 b t k)) * gain (ix2 0 k)
        * (1 + val_main_v3 (F := Ideal) md (ix3 b 0 k)) + val_main_v2 (F := Ideal) md (ix3 b 0 k) := by
    pointwise [val_main_v4, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1, val_main_cst_2, rmsInv]
  rw [h, shift_tok md b t, scale_tok md b t]
  simp only [x_at]
  rfl

theorem proj_at (b : Fin 4) (t : Fin 4096) (e : Fin 6656) :
    val_main_v28 (F := Ideal) x md gain w (ix3 b t e) = proj x md gain w (tok b t) e := by
  have h : val_main_v28 (F := Ideal) x md gain w (ix3 b t e)
      = ∑ k : Fin 2048, val_main_v25 (F := Ideal) x md gain (ix3 b t k) * w (ix2 e k) := by
    pointwise [val_main_v28, val_main_v27, val_main_v26]
  rw [h]
  simp only [hid_at]
  rfl

theorem gates_at (b : Fin 4) (t : Fin 4096) (j : Fin 32) :
    val_main_v138 (F := Ideal) x md gain wg (ix3 b t j) = gates x md gain wg j (tok b t) := by
  have h : val_main_v138 (F := Ideal) x md gain wg (ix3 b t j)
      = ∑ k : Fin 2048, val_main_v25 (F := Ideal) x md gain (ix3 b t k) * wg (ix2 j k) := by
    pointwise [val_main_v138, val_main_v137]
  rw [h]
  simp only [hid_at]
  rfl

/-! ## The queries -/

theorem q_group (b : Fin 4) (h : Fin 4) (t : Fin 4096) (d : Fin 128) :
    val_main_v31 (F := Ideal) x md gain w (ix4 b h t d) = group x md gain w (tok b t) ⟨12 + h.val, by omega⟩ d := by
  have e : val_main_v31 (F := Ideal) x md gain w (ix4 b h t d)
      = val_main_v28 (F := Ideal) x md gain w (ix3 b t ⟨1536 + (h.val * 128 + d.val), by omega⟩) := by
    pointwise [val_main_v31, val_main_v30, val_main_v29]
  rw [e, proj_at]
  exact congrArg (proj x md gain w (tok b t)) (Fin.ext (by simp only []; omega))

theorem q_normed (b : Fin 4) (h : Fin 4) (t : Fin 4096) (d : Fin 128) :
    val_main_v77 (F := Ideal) x md gain w qg (ix4 b h t d) = normed qg (group x md gain w (tok b t) ⟨12 + h.val, by omega⟩) d := by
  have e : val_main_v77 (F := Ideal) x md gain w qg (ix4 b h t d)
      = normed qg (fun d => val_main_v31 (F := Ideal) x md gain w (ix4 b h t d)) d := by
    pointwise [val_main_v64, val_main_v65, val_main_v66, val_main_v67, val_main_v68, val_main_v69, val_main_v70, val_main_v71, val_main_v72, val_main_v73, val_main_v74, val_main_v75, val_main_v76, val_main_v77, val_main_cst_9, val_main_cst_10, val_main_cst_11, normed, headInv]
  rw [e]
  simp only [q_group]

theorem q_partner (b : Fin 4) (h : Fin 4) (t : Fin 4096) (d : Fin 128) :
    val_main_v88 (F := Ideal) x md gain w qg (ix4 b h t d) = partner (fun d => val_main_v77 (F := Ideal) x md gain w qg (ix4 b h t d)) d := by
  pointwise [val_main_v78, val_main_v79, val_main_v80, val_main_v81, val_main_v82, val_main_v83, val_main_v84, val_main_v85, val_main_v86, val_main_v87, val_main_v88]
  exact partner_halves (fun d => val_main_v77 (F := Ideal) x md gain w qg (ix4 b h t d)) d

theorem q_turned (b : Fin 4) (h : Fin 4) (t : Fin 4096) (d : Fin 128) :
    val_main_v95 (F := Ideal) x md gain w qg (ix4 b h t d)
      = head x md gain w (val_main_v62 (F := Ideal)) (val_main_v63 (F := Ideal)) qg (tok b t) ⟨12 + h.val, by omega⟩ d := by
  have e : val_main_v95 (F := Ideal) x md gain w qg (ix4 b h t d)
      = val_main_v77 (F := Ideal) x md gain w qg (ix4 b h t d) * val_main_v62 (F := Ideal) (ix2 t d)
        + val_main_v88 (F := Ideal) x md gain w qg (ix4 b h t d) * val_main_v63 (F := Ideal) (ix2 t d) := by
    pointwise [val_main_v89, val_main_v90, val_main_v91, val_main_v92, val_main_v93, val_main_v94, val_main_v95]
  have ht : (⟨(tok b t).val % 4096, by omega⟩ : Fin 4096) = t := Fin.ext (tok_place b t)
  rw [e, q_partner]
  simp only [q_normed]
  unfold head turned
  rw [ht]

/-! ## The keys -/

theorem k_group (b : Fin 4) (h : Fin 2) (t : Fin 4096) (d : Fin 128) :
    val_main_v34 (F := Ideal) x md gain w (ix4 b h t d) = group x md gain w (tok b t) ⟨16 + h.val, by omega⟩ d := by
  have e : val_main_v34 (F := Ideal) x md gain w (ix4 b h t d)
      = val_main_v28 (F := Ideal) x md gain w (ix3 b t ⟨2048 + (h.val * 128 + d.val), by omega⟩) := by
    pointwise [val_main_v34, val_main_v33, val_main_v32]
  rw [e, proj_at]
  exact congrArg (proj x md gain w (tok b t)) (Fin.ext (by simp only []; omega))

theorem k_normed (b : Fin 4) (h : Fin 2) (t : Fin 4096) (d : Fin 128) :
    val_main_v111 (F := Ideal) x md gain w kg (ix4 b h t d) = normed kg (group x md gain w (tok b t) ⟨16 + h.val, by omega⟩) d := by
  have e : val_main_v111 (F := Ideal) x md gain w kg (ix4 b h t d)
      = normed kg (fun d => val_main_v34 (F := Ideal) x md gain w (ix4 b h t d)) d := by
    pointwise [val_main_v98, val_main_v99, val_main_v100, val_main_v101, val_main_v102, val_main_v103, val_main_v104, val_main_v105, val_main_v106, val_main_v107, val_main_v108, val_main_v109, val_main_v110, val_main_v111, val_main_cst_13, val_main_cst_14, val_main_cst_15, normed, headInv]
  rw [e]
  simp only [k_group]

theorem k_partner (b : Fin 4) (h : Fin 2) (t : Fin 4096) (d : Fin 128) :
    val_main_v122 (F := Ideal) x md gain w kg (ix4 b h t d) = partner (fun d => val_main_v111 (F := Ideal) x md gain w kg (ix4 b h t d)) d := by
  pointwise [val_main_v112, val_main_v113, val_main_v114, val_main_v115, val_main_v116, val_main_v117, val_main_v118, val_main_v119, val_main_v120, val_main_v121, val_main_v122]
  exact partner_halves (fun d => val_main_v111 (F := Ideal) x md gain w kg (ix4 b h t d)) d

theorem k_turned (b : Fin 4) (h : Fin 2) (t : Fin 4096) (d : Fin 128) :
    val_main_v129 (F := Ideal) x md gain w kg (ix4 b h t d)
      = head x md gain w (val_main_v62 (F := Ideal)) (val_main_v63 (F := Ideal)) kg (tok b t) ⟨16 + h.val, by omega⟩ d := by
  have e : val_main_v129 (F := Ideal) x md gain w kg (ix4 b h t d)
      = val_main_v111 (F := Ideal) x md gain w kg (ix4 b h t d) * val_main_v62 (F := Ideal) (ix2 t d)
        + val_main_v122 (F := Ideal) x md gain w kg (ix4 b h t d) * val_main_v63 (F := Ideal) (ix2 t d) := by
    pointwise [val_main_v123, val_main_v124, val_main_v125, val_main_v126, val_main_v127, val_main_v128, val_main_v129]
  have ht : (⟨(tok b t).val % 4096, by omega⟩ : Fin 4096) = t := Fin.ext (tok_place b t)
  rw [e, k_partner]
  simp only [k_normed]
  unfold head turned
  rw [ht]

/-! ## The results -/

theorem queries_at (b : Fin 4) (t : Fin 4096) (e : Fin 512) :
    val_main_v132 (F := Ideal) x md gain w qg (ix3 b t e)
      = val_main_v95 (F := Ideal) x md gain w qg (ix4 b ⟨e.val / 128, by omega⟩ t ⟨e.val % 128, by omega⟩) * Ideal.ofBits .f32 0x3DB504F3#32 := by
  pointwise [val_main_v132, val_main_v131, val_main_v97, val_main_v96, val_main_cst_12]

theorem keys_at (b : Fin 4) (t : Fin 4096) (e : Fin 256) :
    val_main_v134 (F := Ideal) x md gain w kg (ix3 b t e)
      = val_main_v129 (F := Ideal) x md gain w kg (ix4 b ⟨e.val / 128, by omega⟩ t ⟨e.val % 128, by omega⟩) := by
  pointwise [val_main_v134, val_main_v133]

theorem joined_parts (b : Fin 4) (t : Fin 4096) (e : Fin 6656) :
    val_main_v136 (F := Ideal) x md gain w qg kg (ix3 b t e)
      = if h : e.val < 1536 then val_main_v28 (F := Ideal) x md gain w (ix3 b t ⟨e.val, by omega⟩)
        else if h : e.val - 1536 < 512 then val_main_v132 (F := Ideal) x md gain w qg (ix3 b t ⟨e.val - 1536, h⟩)
        else if h : e.val - 1536 - 512 < 256 then val_main_v134 (F := Ideal) x md gain w kg (ix3 b t ⟨e.val - 1536 - 512, h⟩)
        else val_main_v28 (F := Ideal) x md gain w (ix3 b t ⟨2304 + (e.val - 1536 - 512 - 256), by omega⟩) := by
  pointwise [val_main_v136, val_main_v135, val_main_v130]

theorem joined_at (b : Fin 4) (t : Fin 4096) (q : Fin 52) (d : Fin 128) :
    val_main_v136 (F := Ideal) x md gain w qg kg (ix3 b t ⟨q.val * 128 + d.val, by omega⟩)
      = cols x md gain w qg kg (val_main_v62 (F := Ideal)) (val_main_v63 (F := Ideal)) (tok b t) q d := by
  have hd := d.isLt
  have hq := q.isLt
  rw [joined_parts]
  unfold cols
  simp only []
  split
  · refine (proj_at x md gain w b t _).trans ?_
    rw [if_pos (by omega)]
    rfl
  split
  · refine (queries_at x md gain w qg b t _).trans ?_
    rw [if_neg (by omega), if_pos (by omega), q_turned]
    exact congrArg (fun z => z * Ideal.ofBits .f32 0x3DB504F3#32) (congrArg₂ (head x md gain w _ _ qg (tok b t))
      (Fin.ext (by simp only []; omega)) (Fin.ext (by simp only []; omega)))
  split
  · refine (keys_at x md gain w kg b t _).trans ?_
    rw [if_neg (by omega), if_neg (by omega), if_pos (by omega), k_turned]
    exact congrArg₂ (head x md gain w _ _ kg (tok b t)) (Fin.ext (by simp only []; omega)) (Fin.ext (by simp only []; omega))
  · refine (proj_at x md gain w b t _).trans ?_
    rw [if_neg (by omega), if_neg (by omega), if_neg (by omega)]
    exact congrArg (proj x md gain w (tok b t)) (Fin.ext (by simp only []; omega))

/-- The first result. -/
theorem cols_at (r : Fin 16384) (q : Fin 52) (d : Fin 128) :
    val_main_v141 (F := Ideal) x md gain w qg kg (ix2 r ⟨q.val * 128 + d.val, by omega⟩)
      = cols x md gain w qg kg (val_main_v62 (F := Ideal)) (val_main_v63 (F := Ideal)) r q d := by
  have h : val_main_v141 (F := Ideal) x md gain w qg kg (ix2 r ⟨q.val * 128 + d.val, by omega⟩)
      = val_main_v136 (F := Ideal) x md gain w qg kg (ix3 ⟨r.val / 4096, by omega⟩ ⟨r.val % 4096, by omega⟩ ⟨q.val * 128 + d.val, by omega⟩) := by
    pointwise [val_main_v141, val_main_v140]
  rw [h, joined_at]
  exact congrArg (fun z => cols x md gain w qg kg _ _ z q d) (Fin.ext (by
    show r.val / 4096 * 4096 + r.val % 4096 = r.val
    omega))

/-- The second result. -/
theorem gates_result_at (j : Fin 32) (r : Fin 16384) :
    val_main_v142 (F := Ideal) x md gain wg (ix2 j r) = gates x md gain wg j r := by
  have h : val_main_v142 (F := Ideal) x md gain wg (ix2 j r)
      = val_main_v138 (F := Ideal) x md gain wg (ix3 ⟨r.val / 4096, by omega⟩ ⟨r.val % 4096, by omega⟩ j) := by
    pointwise [val_main_v142, val_main_v139]
  rw [h, gates_at]
  exact congrArg (gates x md gain wg j) (Fin.ext (by
    show r.val / 4096 * 4096 + r.val % 4096 = r.val
    omega))

end Cert.InProjReference

end
-- ==== Proof.InProjClaim.lean ====
/-
  The claim about the input projections, written by hand: from the two programs' runs, both results named as `InProj.cols`
  and `InProj.gates` of the arguments.
-/
module

public import proofs.«01_k».proof.Defs
public import proofs.«01_k».proof.Proof.InProjValue
public import proofs.«01_k».proof.Proof.InProjReference
public import proofs.«01_k».proof.Proof.Gen.Reference5Ideal.Run
public import Idealize.ShloMosaic.Lib.Claim

@[expose] public section

set_option maxRecDepth 16384

noncomputable section

namespace Cert.InProjClaim

open Idealize.ShloMosaic Idealize.ShloMosaic.TcCoe Idealize.SL.Sem

section
open Cert.Reference5Ideal Cert.Reference5Ideal.Read Cert.InProj

variable {x x' : (⟨S16384x2048, .f32⟩ : BufTy).Contents (Elt Ideal)} {md md' : (⟨S72x1x2048, .f32⟩ : BufTy).Contents (Elt Ideal)}
  {gain gain' : (⟨S1x2048, .f32⟩ : BufTy).Contents (Elt Ideal)} {w w' : (⟨S6656x2048, .bf16⟩ : BufTy).Contents (Elt Ideal)}
  {wg wg' : (⟨S32x2048, .f32⟩ : BufTy).Contents (Elt Ideal)} {qg qg' kg kg' : (⟨S1x128, .f32⟩ : BufTy).Contents (Elt Ideal)}

/-- The reference's first result from equal arguments, as a whole array. -/
theorem cols_whole (hx : x' = x) (hm : md' = md) (hg : gain' = gain) (hw : w' = w) (hq : qg' = qg) (hk : kg' = kg) :
    val_main_v141 (F := Ideal) x' md' gain' w' qg' kg'
      = fun i : S16384x6656.Idx => cols x md gain w qg kg (val_main_v62 (F := Ideal)) (val_main_v63 (F := Ideal)) (i 0)
          ⟨(i 1).val / 128, by have h : (i 1).val < 6656 := (i 1).isLt; omega⟩ ⟨(i 1).val % 128, by omega⟩ := by
  subst hx hm hg hw hq hk
  funext i
  have h1 : (i 1).val < 6656 := (i 1).isLt
  have hi : i = ix2 (i 0) ⟨(i 1).val / 128 * 128 + (i 1).val % 128, by omega⟩ := by
    funext k
    match k with
    | ⟨0, _⟩ => rfl
    | ⟨1, _⟩ => exact Fin.ext (by show (i 1).val = (i 1).val / 128 * 128 + (i 1).val % 128; omega)
  exact (congrArg _ hi).trans (InProjReference.cols_at _ _ _ _ _ _ (i 0) ⟨(i 1).val / 128, by omega⟩ ⟨(i 1).val % 128, by omega⟩)

/-- The reference's second result from equal arguments, as a whole array. -/
theorem gates_whole (hx : x' = x) (hm : md' = md) (hg : gain' = gain) (hw : wg' = wg) :
    val_main_v142 (F := Ideal) x' md' gain' wg' = fun i : S32x16384.Idx => gates x md gain wg (i 0) (i 1) := by
  subst hx hm hg hw
  funext i
  have hi : i = ix2 (i 0) (i 1) := by funext k; match k with | ⟨0, _⟩ => rfl | ⟨1, _⟩ => rfl
  exact (congrArg _ hi).trans (InProjReference.gates_result_at _ _ _ _ (i 0) (i 1))
end

theorem algebraic : Cert.algebraic_Kernel5Ideal_Reference5Ideal := by
  intro m g m' g' _ hargs
  refine ⟨fun c => fun i : Cert.Kernel5Ideal.S16384x6656.Idx => Cert.Kernel5Ideal.InProj.colsM m c (i 0)
      ⟨(i 1).val / 128, by have h : (i 1).val < 6656 := (i 1).isLt; omega⟩ ⟨(i 1).val % 128, by omega⟩,
    fun c => fun i : Cert.Kernel5Ideal.S32x16384.Idx => Cert.Kernel5Ideal.InProj.gatesM m c (i 0) (i 1), ?_, ?_⟩
  · refine (θ_run _ _ _).mono (fun r h c => ?_) (θ_run_and (Cert.Kernel5Ideal.InProj.run (F := Ideal) m g) (Cert.Kernel5Ideal.InProj.frame (F := Ideal) m g))
    exact ⟨((h.1 c).1 11).trans (Cert.Kernel5Ideal.InProj.cols_result m c), ((h.1 c).1 12).trans (Cert.Kernel5Ideal.InProj.gates_result m c), h.2.1 c⟩
  · refine (θ_run _ _ _).mono (fun r h c => ?_) (Cert.Reference5Ideal.Value.run m' g')
    refine ⟨(h c).1.trans ?_, (h c).2.1.trans ?_, (h c).2.2⟩
    · obtain ⟨a0, a1, a2, a3, _, a5, a6⟩ := hargs c
      exact (Cert.Reference5Ideal.Read.val_main_v141_eq (StableHlo.launchContents m' c)).trans (cols_whole a0 a1 a2 a3 a5 a6)
    · obtain ⟨a0, a1, a2, _, a4, _, _⟩ := hargs c
      exact (Cert.Reference5Ideal.Read.val_main_v142_eq (StableHlo.launchContents m' c)).trans (gates_whole a0 a1 a2 a4)

end Cert.InProjClaim

end
-- ==== Proof.Modulation.lean ====
/-
  The modulation projection, written by hand: the spec, the host's eight rows of conditioning vectors, the kernel's blocks
  and the reference's array, read element by element, and the claim. The kernel pads the five conditioning vectors to eight
  rows, projects them a tile of columns at a time, and its host code keeps the first five rows cut into their nine vectors;
  the reference projects the four sequences' vectors and the context's one by two products.
-/
module

public import proofs.«01_k».proof.Defs
public import proofs.«01_k».proof.Proof.Gen.Kernel6Ideal.Frame
public import proofs.«01_k».proof.Proof.Gen.Reference6Ideal.Read
public import proofs.«01_k».proof.Proof.Gen.Reference6Ideal.Run
public import Idealize.ShloMosaic.Lib.Claim
public import Idealize.ShloMosaic.Lib.Pointwise
public import Idealize.ShloMosaic.Lib.ValueIdx
public import Idealize.ShloMosaic.Lib.StableHlo.Run
public import Idealize.ShloMosaic.Lib.Pipeline.Value
public import Idealize.ShloMosaic.Lib.Pipeline.ValueKit
public import Idealize.ShloMosaic.Lib.Routing.OpsSet

@[expose] public section

set_option maxRecDepth 16384

noncomputable section

namespace Cert.Modulation

open Idealize.ShloMosaic Idealize.ShloMosaic.TcCoe Idealize.SL.Sem

/-! ## The spec -/

section
variable (v : Fin 2048 → EReal) (w : (⟨3, ![2, 2048, 18432]⟩ : Shape).Idx → EReal) (b : (⟨2, ![2, 18432]⟩ : Shape).Idx → EReal)

/-- Column `e` of the last layer's projection of a conditioning vector. -/
def modulated (e : Fin 18432) : EReal := ∑ k : Fin 2048, v k * Ideal.logistic (v k) * w (ix3 1 k e) + b (ix2 1 e)
end

section
variable (s : (⟨2, ![4, 2048]⟩ : Shape).Idx → EReal) (x : (⟨1, ![2048]⟩ : Shape).Idx → EReal)

/-- The four sequences' conditioning vectors, then the context's. -/
def vector (g : Fin 5) (k : Fin 2048) : EReal := if h : g.val < 4 then s (ix2 ⟨g.val, h⟩ k) else x (ix1 k)
end

/-! ## The eight rows -/

section
open Cert.Kernel6Ideal Cert.Kernel6Ideal.Gen

/-- Four rows written from row 0 on: the update's row `a` lands on row `a`. -/
theorem rows_land (idx : IVec S1 32) (h0 : ∀ q, (idx q).toInt = 0) (a : Fin 4) (k : Fin 2048) (r : Fin 8) (l : Fin 2048) :
    scatter_S8x2048_S1_S4x2048_01_n_0_0.resultIdx? (ix2 a k) idx = some (ix2 r l) ↔ a.val = r.val ∧ k = l := by
  have s0 : scatter_S8x2048_S1_S4x2048_01_n_0_0.start (ix2 a k) idx 0 = 0 := by
    unfold ScatterDims.start
    rw [dif_pos (by decide)]
    exact h0 _
  have s1 : scatter_S8x2048_S1_S4x2048_01_n_0_0.start (ix2 a k) idx 1 = 0 := by
    unfold ScatterDims.start
    rw [dif_neg (by decide)]
  have w0 : scatter_S8x2048_S1_S4x2048_01_n_0_0.window (ix2 a k) 0 = a.val := by
    unfold ScatterDims.window
    rw [dif_pos (by decide)]
    rfl
  have w1 : scatter_S8x2048_S1_S4x2048_01_n_0_0.window (ix2 a k) 1 = k.val := by
    unfold ScatterDims.window
    rw [dif_pos (by decide)]
    rfl
  refine (Routing.resultIdx?_eq_some _ _ _ _).trans (Fin.forall_fin_two.trans ?_)
  rw [Fin.ext_iff, s0, s1, w0, w1]
  show (0 : Int) + (a.val : Int) = (r.val : Int) ∧ (0 : Int) + (k.val : Int) = (l.val : Int) ↔ _
  omega

/-- One row written at row 4. -/
theorem row_lands (idx : IVec S1 32) (h4 : ∀ q, (idx q).toInt = 4) (k : Fin 2048) (r : Fin 8) (l : Fin 2048) :
    scatter_S8x2048_S1_S2048_0_0_0_0.resultIdx? (ix1 k) idx = some (ix2 r l) ↔ r.val = 4 ∧ k = l := by
  have s0 : scatter_S8x2048_S1_S2048_0_0_0_0.start (ix1 k) idx 0 = 4 := by
    unfold ScatterDims.start
    rw [dif_pos (by decide)]
    exact h4 _
  have s1 : scatter_S8x2048_S1_S2048_0_0_0_0.start (ix1 k) idx 1 = 0 := by
    unfold ScatterDims.start
    rw [dif_neg (by decide)]
  have w0 : scatter_S8x2048_S1_S2048_0_0_0_0.window (ix1 k) 0 = 0 := by
    unfold ScatterDims.window
    rw [dif_neg (by decide)]
  have w1 : scatter_S8x2048_S1_S2048_0_0_0_0.window (ix1 k) 1 = k.val := by
    unfold ScatterDims.window
    rw [dif_pos (by decide)]
    rfl
  refine (Routing.resultIdx?_eq_some _ _ _ _).trans (Fin.forall_fin_two.trans ?_)
  rw [Fin.ext_iff, s0, s1, w0, w1]
  show (4 : Int) + ((0 : Nat) : Int) = (r.val : Int) ∧ (0 : Int) + (k.val : Int) = (l.val : Int) ↔ _
  omega

/-- The five rows that are written hold the vectors. -/
theorem rows_at (z : S8x2048.Idx → EReal) (i0 i4 : IVec S1 32) (h0 : ∀ q, (i0 q).toInt = 0) (h4 : ∀ q, (i4 q).toInt = 4)
    (s : S4x2048.Idx → EReal) (x : S2048.Idx → EReal) (g : Fin 5) (k : Fin 2048) :
    Host.scatter scatter_S8x2048_S1_S2048_0_0_0_0 (fun _ b => b)
      (Host.scatter scatter_S8x2048_S1_S4x2048_01_n_0_0 (fun _ b => b) z i0 s) i4 x (ix2 ⟨g.val, by omega⟩ k) = vector s x g k := by
  have e1 : ∀ j : S2048.Idx, j = ix1 (j 0) := fun j => by funext a; match a with | ⟨0, _⟩ => rfl
  have e2 : ∀ j : S4x2048.Idx, j = ix2 (j 0) (j 1) := fun j => by funext a; match a with | ⟨0, _⟩ => rfl | ⟨1, _⟩ => rfl
  unfold vector
  by_cases h : g.val < 4
  · rw [dif_pos h, Routing.scatter_set_miss _ _ _ _ _ fun j hj => ?_]
    · refine Routing.scatter_set_hit _ _ _ _ _ _ (fun j hj => ?_) (ix2 ⟨g.val, h⟩ k) ((rows_land i0 h0 _ _ _ _).2 ⟨rfl, rfl⟩)
      rw [e2 j] at hj ⊢
      have q := (rows_land i0 h0 _ _ _ _).1 hj
      exact congrArg₂ (fun a b => s (ix2 a b)) (Fin.ext q.1) q.2
    · rw [e1 j] at hj
      have q : g.val = 4 := ((row_lands i4 h4 _ _ _).1 hj).1
      omega
  · rw [dif_neg h]
    refine Routing.scatter_set_hit _ _ _ _ _ _ (fun j hj => ?_) (ix1 k)
      ((row_lands i4 h4 _ _ _).2 ⟨by show g.val = 4; omega, rfl⟩)
    rw [e1 j] at hj ⊢
    exact congrArg (fun b => x (ix1 b)) ((row_lands i4 h4 _ _ _).1 hj).2
end

/-! ## The kernel's block -/

section
open Cert.Kernel6Ideal Cert.Kernel6Ideal.Gen

variable (x0 : Vec Ideal S8x2048 .f32) (x1 : Vec Ideal S1x2048x1024 .f32) (x2 : Vec Ideal S1x1024 .f32)

theorem c_whole (r : Fin 8) (k : Fin 2048) : View.ld x0 r0_0 (ix2 r k) = x0 (ix2 r k) := by
  exact View.ld_unit_apply_of _ _ _ _ _ _ fun a => by
    match a with
    | ⟨0, _⟩ => simp
    | ⟨1, _⟩ => simp
theorem w_whole (k : Fin 2048) (d : Fin 1024) : View.ld x1 r0_1 (ix3 0 k d) = x1 (ix3 0 k d) := by
  exact View.ld_unit_apply_of _ _ _ _ _ _ fun a => by
    match a with
    | ⟨0, _⟩ => simp
    | ⟨1, _⟩ => simp
    | ⟨2, _⟩ => simp
theorem b_whole (d : Fin 1024) : View.ld x2 r0_2 (ix2 0 d) = x2 (ix2 0 d) := by
  exact View.ld_unit_apply_of _ _ _ _ _ _ fun a => by
    match a with
    | ⟨0, _⟩ => simp
    | ⟨1, _⟩ => simp

theorem pay_at (u0 : Vec Ideal S8x2048 .f32) (u1 : Vec Ideal S1x2048x1024 .f32) (u2 : Vec Ideal S1x1024 .f32) (r : Fin 8) (d : Fin 1024) :
    k0_pay1 (F := Ideal) u0 u1 u2 (ix2 r d)
      = ∑ k : Fin 2048, u0 (ix2 r k) * Ideal.logistic (u0 (ix2 r k)) * u1 (ix3 0 k d) + u2 (ix2 0 d) := by
  pointwise [k0_pay1]

theorem block_at (r : Fin 8) (d : Fin 1024) :
    out0_3 (F := Ideal) x0 x1 x2 (ix2 r d)
      = ∑ k : Fin 2048, x0 (ix2 r k) * Ideal.logistic (x0 (ix2 r k)) * x1 (ix3 0 k d) + x2 (ix2 0 d) := by
  have h : out0_3 (F := Ideal) x0 x1 x2 (ix2 r d) = k0_pay1 (F := Ideal) (View.ld x0 r0_0) (View.ld x1 r0_1) (View.ld x2 r0_2) (ix2 r d) := by
    unfold out0_3
    exact congrFun (View.canon_unit_zero (by funext a; match a with | ⟨0, _⟩ => rfl | ⟨1, _⟩ => rfl) _ _) _
  rw [h, pay_at]
  exact congrArg₂ (· + ·) (Finset.sum_congr rfl fun k _ =>
    congrArg₂ (· * ·) (congrArg (fun z => z * Ideal.logistic z) (c_whole _ _ _)) (w_whole _ _ _)) (b_whole _ _)
end

/-! ## The kernel's result -/

section
open Cert.Kernel6Ideal Cert.Kernel6Ideal.Gen

variable (m : (ℓ : Loc nD τ sig) → Buf (Elt Ideal) ℓ) (c : Dev nD)

/-- The rows as the region finds them. -/
theorem cond_at (g : Fin 5) (k : Fin 2048) :
    V m c main_v4 (ix2 ⟨g.val, by omega⟩ k) = vector (m ((c : Thread nD τ).loc main_arg0)) (m ((c : Thread nD τ).loc main_arg1)) g k := by
  have h : V m c main_v4 = Host.scatter scatter_S8x2048_S1_S2048_0_0_0_0 (fun _ b => b)
      (Host.scatter scatter_S8x2048_S1_S4x2048_01_n_0_0 (fun _ b => b)
        (broadcastInDim S8x2048 ![] bcast_S_S8x2048 (constant (F := Ideal) S_ .f32 0x00000000#32))
        (broadcastInDim S1 ![] bcast_S_S1 (constantI S_ 32 0#32)) (m ((c : Thread nD τ).loc main_arg0)))
      (broadcastInDim S1 ![] bcast_S_S1 (constantI S_ 32 4#32)) (m ((c : Thread nD τ).loc main_arg1)) := by
    show StableHlo.after _ _ _ = _
    simp only [hostOps0, List.flatten_cons, List.flatten_nil, List.append_nil]
    after_results_simp
  rw [h]
  exact rows_at _ _ _ (fun _ => rfl) (fun _ => rfl) _ _ g k

/-- The last layer's bias as the region finds it. -/
theorem bias_at (e : Fin 18432) : V m c main_v7 (ix2 0 e) = m ((c : Thread nD τ).loc main_arg3) (ix2 1 e) := by
  have h : V m c main_v7 = shapeCast S1x18432 (shapeCast S18432 (extractStridedSlice S1x18432 ![1, 0]
      (m ((c : Thread nD τ).loc main_arg3)) slices_S2x18432_S1x18432_1_0) shapeCasts_S1x18432_S18432) shapeCasts_S18432_S1x18432 := by
    show StableHlo.after _ _ _ = _
    simp only [hostOps0, List.flatten_cons, List.flatten_nil, List.append_nil]
    after_results_simp
    rfl
  rw [h]
  pointwise []

/-- Projection of every row, over the kernel's own eight. -/
def rowM (r : Fin 8) (e : Fin 18432) : EReal :=
  modulated (fun k => V m c main_v4 (ix2 r k)) (m ((c : Thread nD τ).loc main_arg2)) (m ((c : Thread nD τ).loc main_arg3)) e

section
variable (t : Fin cfg0.N)

theorem points : t.val < 18 := t.isLt

theorem idx : win0_0.index t 0 = 0 ∧ win0_0.index t 1 = 0 ∧ win0_1.index t 0 = 1 ∧ win0_1.index t 1 = 0 ∧ win0_1.index t 2 = t.val
    ∧ win0_2.index t 0 = 0 ∧ win0_2.index t 1 = t.val ∧ win0_3.index t 0 = 0 ∧ win0_3.index t 1 = t.val := by
  revert t
  decide +kernel

/-- Column `d` of the tile. -/
abbrev col (d : Fin 1024) : Fin 18432 := ⟨t.val * 1024 + d.val, by have := points t; omega⟩

theorem c_blk (r : Fin 8) (k : Fin 2048) : iblk m c 0 t (ix2 r k) = V m c main_v4 (ix2 r k) := by
  blk_ext [iblk, idx t]

theorem w_blk (k : Fin 2048) (d : Fin 1024) : iblk m c 1 t (ix3 0 k d) = m ((c : Thread nD τ).loc main_arg2) (ix3 1 k (col t d)) := by
  rw [← V_main_arg2 m c]
  blk_ext [iblk, idx t]

theorem b_blk (d : Fin 1024) : iblk m c 2 t (ix2 0 d) = V m c main_v7 (ix2 0 (col t d)) := by
  blk_ext [iblk, idx t]

theorem tile_eq (r : Fin 8) (d : Fin 1024) :
    out0_3 (F := Ideal) (iblk m c 0 t) (iblk m c 1 t) (iblk m c 2 t) (ix2 r d) = rowM m c r (col t d) := by
  rw [block_at, rowM, modulated, b_blk, bias_at]
  simp only [c_blk, w_blk]
end

/-- The region's array after the run. -/
theorem rows : (dats m 0 c).arrAt 3 cfg0.N = fun i : S8x18432.Idx => rowM m c (i 0) (i 1) := by
  refine (dats m 0 c).arrAt_eq_of_covers 3 _ (by decide +kernel) fun t _ y => ?_
  have e0 : (((cfg0.win 3).blk t).view.emb y 0).val = win0_3.index t 0 * 8 + (y 0).val := by blk_simp
  have e1 : (((cfg0.win 3).blk t).view.emb y 1).val = win0_3.index t 1 * 1024 + (y 1).val := by blk_simp
  have hi := (idx t).2.2.2.2.2.2.2
  have hy : y = ix2 (y 0) (y 1) := by funext k; match k with | ⟨0, _⟩ => rfl | ⟨1, _⟩ => rfl
  have h := tile_eq m c t (y 0) (y 1)
  blk_simp
  rw [after0_3]
  refine (congrArg _ hy).trans (h.trans ?_)
  refine congrArg₂ (rowM m c) (Fin.ext ?_) (Fin.ext ?_)
  · exact (by rw [hi.1]; show (y 0).val = 0 * 8 + (y 0).val; omega : (y 0).val = win0_3.index t 0 * 8 + (y 0).val).trans e0.symm
  · exact (by rw [hi.2] : t.val * 1024 + (y 1).val = win0_3.index t 1 * 1024 + (y 1).val).trans e1.symm

/-- Vector `i` of the result: vector `i % 9` of conditioning vector `i / 9`. -/
def resM (i : Fin 45) (d : Fin 2048) : EReal :=
  modulated (vector (m ((c : Thread nD τ).loc main_arg0)) (m ((c : Thread nD τ).loc main_arg1)) ⟨i.val / 9, by omega⟩)
    (m ((c : Thread nD τ).loc main_arg2)) (m ((c : Thread nD τ).loc main_arg3)) ⟨i.val % 9 * 2048 + d.val, by omega⟩

/-- The rows cut into their nine vectors, the first five rows' kept. -/
theorem cut_at (y : S8x18432.Idx → EReal) (i : Fin 45) (d : Fin 2048) :
    extractStridedSlice S45x1x2048 ![0, 0, 0] (shapeCast S72x1x2048 y shapeCasts_S8x18432_S72x1x2048) slices_S72x1x2048_S45x1x2048_0_0_0 (ix3 i 0 d)
      = y (ix2 ⟨i.val / 9, by omega⟩ ⟨i.val % 9 * 2048 + d.val, by omega⟩) := by
  pointwise []

/-- What the host's last two operations make of the region's array. -/
theorem suffix_at (U : Valuation τ sig (Elt Ideal)) :
    StableHlo.after (hostOps1 (F := Ideal)) U (Proc.devRef .tc main_v10)
      = extractStridedSlice S45x1x2048 ![0, 0, 0] (shapeCast S72x1x2048 (U (Proc.devRef .tc main_v8)) shapeCasts_S8x18432_S72x1x2048)
          slices_S72x1x2048_S45x1x2048_0_0_0 := by
  simp only [hostOps1]
  after_results_simp
  rfl

/-- The same, of a valuation that holds `y` as the region's array. -/
theorem suffix_of (U : Valuation τ sig (Elt Ideal)) (y : S8x18432.Idx → EReal) (h : U (Proc.devRef .tc main_v8) = y) :
    StableHlo.after (hostOps1 (F := Ideal)) U (Proc.devRef .tc main_v10)
      = extractStridedSlice S45x1x2048 ![0, 0, 0] (shapeCast S72x1x2048 y shapeCasts_S8x18432_S72x1x2048) slices_S72x1x2048_S45x1x2048_0_0_0 :=
  (suffix_at U).trans (by rw [h])

/-- What the host leaves. -/
theorem result : Pipeline.afterTail₀ cfgs (dats m) 0 (V0 m) [hostOps1] c main_v10 = fun i : S45x1x2048.Idx => resM m c (i 0) (i 2) := by
  have h : Pipeline.afterTail₀ cfgs (dats m) 0 (V0 m) [hostOps1] c main_v10
      = extractStridedSlice S45x1x2048 ![0, 0, 0] (shapeCast S72x1x2048 (fun i : S8x18432.Idx => rowM m c (i 0) (i 1)) shapeCasts_S8x18432_S72x1x2048)
          slices_S72x1x2048_S45x1x2048_0_0_0 := by
    unfold Pipeline.afterTail₀
    rw [List.flatten_cons, List.flatten_nil, List.append_nil]
    refine suffix_of _ _ ?_
    rw [← rows]
    exact Pipeline.withArrays_arr spec0 (by decide) c (V0 m c) (fun w => (dats m 0 c).arrAt w cfg0.N) 3
  rw [h]
  funext i
  have hi : i = ix3 (i 0) 0 (i 2) := by
    funext k
    match k with
    | ⟨0, _⟩ => rfl
    | ⟨1, _⟩ => exact Subsingleton.elim (α := Fin 1) _ _
    | ⟨2, _⟩ => rfl
  refine (congrArg _ hi).trans ((cut_at _ _ _).trans ?_)
  show rowM m c _ _ = _
  unfold rowM resM
  exact congrArg (fun v => modulated v _ _ _) (funext fun k => cond_at m c ⟨(i 0).val / 9, by have : (i 0).val < 45 := (i 0).isLt; omega⟩ k)
end

/-! ## The reference -/

section
open Cert.Reference6Ideal Cert.Reference6Ideal.Read

variable (s : (⟨S4x2048, .f32⟩ : BufTy).Contents (Elt Ideal)) (x : (⟨S2048, .f32⟩ : BufTy).Contents (Elt Ideal))
  (w : (⟨S2x2048x18432, .f32⟩ : BufTy).Contents (Elt Ideal)) (b : (⟨S2x18432, .f32⟩ : BufTy).Contents (Elt Ideal))

theorem seq_silu (a : Fin 4) (k : Fin 2048) : val_main_v0 (F := Ideal) s (ix2 a k) = s (ix2 a k) * Ideal.logistic (s (ix2 a k)) := by
  pointwise [val_main_v0, val_main_call0_v5, val_main_call0_v4, val_main_call0_cst_0, val_main_call0_v3, val_main_call0_v2, val_main_call0_cst, val_main_call0_v1, val_main_call0_v0,
    Ideal.logistic]

theorem seq_at (a : Fin 4) (e : Fin 18432) : val_main_v8 (F := Ideal) s w b (ix2 a e) = modulated (fun k => s (ix2 a k)) w b e := by
  have h : val_main_v8 (F := Ideal) s w b (ix2 a e) = ∑ k : Fin 2048, val_main_v0 (F := Ideal) s (ix2 a k) * w (ix3 1 k e) + b (ix2 1 e) := by
    pointwise [val_main_v8, val_main_v7, val_main_v6, val_main_v5, val_main_v4, val_main_v3, val_main_v2, val_main_v1]
  rw [h]
  simp only [seq_silu]
  rfl

theorem ctx_silu (k : Fin 2048) : val_main_v9 (F := Ideal) x (ix1 k) = x (ix1 k) * Ideal.logistic (x (ix1 k)) := by
  pointwise [val_main_v9, val_main_call1_v5, val_main_call1_v4, val_main_call1_cst_0, val_main_call1_v3, val_main_call1_v2, val_main_call1_cst, val_main_call1_v1, val_main_call1_v0,
    Ideal.logistic]

theorem ctx_at (e : Fin 18432) : val_main_v15 (F := Ideal) x w b (ix1 e) = modulated (fun k => x (ix1 k)) w b e := by
  have h : val_main_v15 (F := Ideal) x w b (ix1 e) = ∑ k : Fin 2048, val_main_v9 (F := Ideal) x (ix1 k) * w (ix3 1 k e) + b (ix2 1 e) := by
    pointwise [val_main_v15, val_main_v14, val_main_v13, val_main_v12, val_main_v11, val_main_v10]
  rw [h]
  simp only [ctx_silu]
  rfl

/-- The reference's result. -/
theorem ref_at (i : Fin 45) (d : Fin 2048) :
    val_main_v18 (F := Ideal) s x w b (ix3 i 0 d) = modulated (vector s x ⟨i.val / 9, by omega⟩) w b ⟨i.val % 9 * 2048 + d.val, by omega⟩ := by
  have h : val_main_v18 (F := Ideal) s x w b (ix3 i 0 d)
      = if h : i.val < 36 then val_main_v16 (F := Ideal) s w b (ix3 ⟨i.val, h⟩ 0 d) else val_main_v17 (F := Ideal) x w b (ix3 ⟨i.val - 36, by omega⟩ 0 d) := by
    pointwise [val_main_v18]
  have h1 : ∀ j : Fin 36, val_main_v16 (F := Ideal) s w b (ix3 j 0 d)
      = val_main_v8 (F := Ideal) s w b (ix2 ⟨j.val / 9, by omega⟩ ⟨j.val % 9 * 2048 + d.val, by omega⟩) := fun j => by
    pointwise [val_main_v16]
  have h2 : ∀ j : Fin 9, val_main_v17 (F := Ideal) x w b (ix3 j 0 d)
      = val_main_v15 (F := Ideal) x w b (ix1 ⟨j.val * 2048 + d.val, by omega⟩) := fun j => by
    pointwise [val_main_v17]
  rw [h]
  by_cases q : i.val < 36
  · have hv : vector s x ⟨i.val / 9, by omega⟩ = fun k => s (ix2 ⟨i.val / 9, by omega⟩ k) :=
      funext fun k => dif_pos (by show i.val / 9 < 4; omega)
    rw [dif_pos q, h1, seq_at, hv]
  · have hv : vector s x ⟨i.val / 9, by omega⟩ = fun k => x (ix1 k) :=
      funext fun k => dif_neg (by show ¬ i.val / 9 < 4; omega)
    rw [dif_neg q, h2, ctx_at, hv]
    exact congrArg (modulated _ w b) (Fin.ext (by show (i.val - 36) * 2048 + d.val = i.val % 9 * 2048 + d.val; omega))
end

/-! ## The claim -/

theorem algebraic : Cert.algebraic_Kernel6Ideal_Reference6Ideal := by
  intro m g m' g' _ hargs
  refine ⟨fun c => fun i : Cert.Kernel6Ideal.S45x1x2048.Idx => resM m c (i 0) (i 2), ?_, ?_⟩
  · refine (θ_run _ _ _).mono (fun r h c => ?_) (Cert.Kernel6Ideal.Gen.run_main m g)
    exact ⟨((h c).2 _ (Pipeline.mem_restRefs_of _ (by decide) (by decide))).trans (result m c),
      ((h c).2 _ (Pipeline.mem_restRefs_of _ (by decide) (by decide))).trans (Cert.Kernel6Ideal.Gen.W_main_arg0 m _ c),
      ((h c).2 _ (Pipeline.mem_restRefs_of _ (by decide) (by decide))).trans (Cert.Kernel6Ideal.Gen.W_main_arg1 m _ c),
      ((h c).1 1).trans (((Cert.Kernel6Ideal.Gen.dats m 0 c).arrAt_in 1 rfl _).trans (Cert.Kernel6Ideal.Gen.V_main_arg2 m c)),
      ((h c).2 _ (Pipeline.mem_restRefs_of _ (by decide) (by decide))).trans (Cert.Kernel6Ideal.Gen.W_main_arg3 m _ c)⟩
  · refine (θ_run _ _ _).mono (fun r h c => ?_) (Cert.Reference6Ideal.Value.run m' g')
    refine ⟨(h c).1.trans ?_, (h c).2⟩
    obtain ⟨a0, a1, a2, a3⟩ := hargs c
    rw [Cert.Reference6Ideal.Read.val_main_v18_eq, a0, a1, a2, a3]
    funext i
    have hi : i = ix3 (i 0) 0 (i 2) := by
      funext k
      match k with
      | ⟨0, _⟩ => rfl
      | ⟨1, _⟩ => exact Subsingleton.elim (α := Fin 1) _ _
      | ⟨2, _⟩ => rfl
    rw [hi]
    exact ref_at _ _ _ _ _ _

end Cert.Modulation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Pre_finite_scores
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.GqaClaim
public import proofs.«01_k».proof.Proof.FfnClaim
public import proofs.«01_k».proof.Proof.BitsFfnFrame
public import proofs.«01_k».proof.Proof.Gen.Reference3Ideal.Run
public import proofs.«01_k».proof.Proof.Gen.Reference3Ideal.Read
public import proofs.«01_k».proof.Proof.HalfClaim
public import proofs.«01_k».proof.Proof.BitsHalfFrame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference5Ideal.Run
public import proofs.«01_k».proof.Proof.Gen.Reference5Ideal.Read
public import proofs.«01_k».proof.Proof.OutProj
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.InProjClaim
public import proofs.«01_k».proof.Proof.Modulation
public import proofs.«01_k».proof.Proof.BitsInProjFrame

@[expose] public section

noncomputable section

namespace Cert.Proof

open Idealize.ShloMosaic Idealize.SL.Sem Cert.Kernel

/-- The attention's reference runs, leaves its arguments and every counter as they were. -/
theorem reference_frame : Cert.quiescent_ReferenceIdeal := fun m g _ =>
  (θ_run _ _ _).mono (fun _ r => ⟨fun c => (r c).2, sem_eq_zero_of_no_sems (by decide) _⟩)
    (Cert.ReferenceIdeal.Value.run (F := Ideal) m g)

/-- The feed-forward's reference runs, leaves its arguments and every counter as they were. -/
theorem reference2_frame : Cert.quiescent_Reference2Ideal := fun m g _ =>
  (θ_run _ _ _).mono (fun _ r => ⟨fun c => (r c).2, sem_eq_zero_of_no_sems (by decide) _⟩)
    (Cert.Reference2Ideal.Value.run (F := Ideal) m g)

/-- The reference of the feed-forward without the final norm runs, leaves its arguments and every counter as they were. -/
theorem reference3_frame : Cert.quiescent_Reference3Ideal := fun m g _ =>
  (θ_run _ _ _).mono (fun _ r => ⟨fun c => (r c).2, sem_eq_zero_of_no_sems (by decide) _⟩)
    (Cert.Reference3Ideal.Value.run (F := Ideal) m g)

/-- The output projections' reference runs, leaves its arguments and every counter as they were. -/
theorem reference4_frame : Cert.quiescent_Reference4Ideal := fun m g _ =>
  (θ_run _ _ _).mono (fun _ r => ⟨fun c => (r c).2, sem_eq_zero_of_no_sems (by decide) _⟩)
    (Cert.Reference4Ideal.Value.run (F := Ideal) m g)

/-- The input projections' reference runs, leaves its arguments and every counter as they were. -/
theorem reference5_frame : Cert.quiescent_Reference5Ideal := fun m g _ =>
  (θ_run _ _ _).mono (fun _ r => ⟨fun c => (r c).2.2, sem_eq_zero_of_no_sems (by decide) _⟩)
    (Cert.Reference5Ideal.Value.run (F := Ideal) m g)

/-- The modulation projection's reference runs, leaves its arguments and every counter as they were. -/
theorem reference6_frame : Cert.quiescent_Reference6Ideal := fun m g _ =>
  (θ_run _ _ _).mono (fun _ r => ⟨fun c => (r c).2, sem_eq_zero_of_no_sems (by decide) _⟩)
    (Cert.Reference6Ideal.Value.run (F := Ideal) m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite_scores.Gen.facts, by
  exact ⟨fun m g _ => Cert.Kernel.Gen.frame m g, fun m g _ => Cert.KernelIdeal.Gen.frame m g,
    fun m g _ => Cert.KernelIdeal.Gen.frame m g, reference_frame, fun m g _ => reference_frame m g trivial,
    fun m g _ => Cert.Kernel2.Ffn.frame m g, fun m g _ => Cert.Kernel2Ideal.Ffn.frame m g, reference2_frame,
    fun m g _ => Cert.Kernel3.Ffn.frame m g, fun m g _ => Cert.Kernel3Ideal.Ffn.frame m g, reference3_frame,
    fun m g _ => Cert.Kernel4.Gen.frame m g, fun m g _ => Cert.Kernel4Ideal.Gen.frame m g, reference4_frame,
    fun m g _ => Cert.Kernel5.InProj.frame m g, fun m g _ => Cert.Kernel5Ideal.InProj.frame m g, reference5_frame,
    fun m g _ => Cert.Kernel6.Gen.frame m g, fun m g _ => Cert.Kernel6Ideal.Gen.frame m g, reference6_frame,
    trivial, GqaClaim.algebraic, trivial, FfnClaim.algebraic, trivial, HalfClaim.algebraic, trivial, OutProj.algebraic, trivial, InProjClaim.algebraic, trivial,
    Modulation.algebraic⟩⟩

end Cert.Proof

end
